-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)) (v3 : (c : Dev Cert.KernelIdeal.nD) → Buf (Elt Ideal) ((c.tc : Thread Cert.KernelIdeal.nD Cert.KernelIdeal.τ).loc Cert.KernelIdeal.main_v35_3)) (v4 : (c : Dev Cert.KernelIdeal.nD) → Buf (Elt Ideal) ((c.tc : Thread Cert.KernelIdeal.nD Cert.KernelIdeal.τ).loc Cert.KernelIdeal.main_v35_4)) (v5 : (c : Dev Cert.KernelIdeal.nD) → Buf (Elt Ideal) ((c.tc : Thread Cert.KernelIdeal.nD Cert.KernelIdeal.τ).loc Cert.KernelIdeal.main_v35_5)) (v6 : (c : Dev Cert.KernelIdeal.nD) → Buf (Elt Ideal) ((c.tc : Thread Cert.KernelIdeal.nD Cert.KernelIdeal.τ).loc Cert.KernelIdeal.main_v35_6)) (v7 : (c : Dev Cert.KernelIdeal.nD) → Buf (Elt Ideal) ((c.tc : Thread Cert.KernelIdeal.nD Cert.KernelIdeal.τ).loc Cert.KernelIdeal.main_v35_7)) (v8 : (c : Dev Cert.KernelIdeal.nD) → Buf (Elt Ideal) ((c.tc : Thread Cert.KernelIdeal.nD Cert.KernelIdeal.τ).loc Cert.KernelIdeal.main_v35_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_v35_3) = v3 c
          ∧ r.2.mem ((c.tc : Thread Cert.KernelIdeal.nD Cert.KernelIdeal.τ).loc Cert.KernelIdeal.main_v35_4) = v4 c
          ∧ r.2.mem ((c.tc : Thread Cert.KernelIdeal.nD Cert.KernelIdeal.τ).loc Cert.KernelIdeal.main_v35_5) = v5 c
          ∧ r.2.mem ((c.tc : Thread Cert.KernelIdeal.nD Cert.KernelIdeal.τ).loc Cert.KernelIdeal.main_v35_6) = v6 c
          ∧ r.2.mem ((c.tc : Thread Cert.KernelIdeal.nD Cert.KernelIdeal.τ).loc Cert.KernelIdeal.main_v35_7) = v7 c
          ∧ r.2.mem ((c.tc : Thread Cert.KernelIdeal.nD Cert.KernelIdeal.τ).loc Cert.KernelIdeal.main_v35_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_v135) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_v114) = v3 c
          ∧ r.2.mem ((c.tc : Thread Cert.ReferenceIdeal.nD Cert.ReferenceIdeal.τ).loc Cert.ReferenceIdeal.main_v137) = v4 c
          ∧ r.2.mem ((c.tc : Thread Cert.ReferenceIdeal.nD Cert.ReferenceIdeal.τ).loc Cert.ReferenceIdeal.main_v138) = v5 c
          ∧ r.2.mem ((c.tc : Thread Cert.ReferenceIdeal.nD Cert.ReferenceIdeal.τ).loc Cert.ReferenceIdeal.main_v73) = v6 c
          ∧ r.2.mem ((c.tc : Thread Cert.ReferenceIdeal.nD Cert.ReferenceIdeal.τ).loc Cert.ReferenceIdeal.main_v97) = v7 c
          ∧ r.2.mem ((c.tc : Thread Cert.ReferenceIdeal.nD Cert.ReferenceIdeal.τ).loc Cert.ReferenceIdeal.main_v117) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)) (v3 : (c : Dev Cert.Kernel2Ideal.nD) → Buf (Elt Ideal) ((c.tc : Thread Cert.Kernel2Ideal.nD Cert.Kernel2Ideal.τ).loc Cert.Kernel2Ideal.main_v14_3)) (v4 : (c : Dev Cert.Kernel2Ideal.nD) → Buf (Elt Ideal) ((c.tc : Thread Cert.Kernel2Ideal.nD Cert.Kernel2Ideal.τ).loc Cert.Kernel2Ideal.main_v14_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_v14_3) = v3 c
          ∧ r.2.mem ((c.tc : Thread Cert.Kernel2Ideal.nD Cert.Kernel2Ideal.τ).loc Cert.Kernel2Ideal.main_v14_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_v31) = v2 c
          ∧ r.2.mem ((c.tc : Thread Cert.Reference2Ideal.nD Cert.Reference2Ideal.τ).loc Cert.Reference2Ideal.main_v32) = v3 c
          ∧ r.2.mem ((c.tc : Thread Cert.Reference2Ideal.nD Cert.Reference2Ideal.τ).loc Cert.Reference2Ideal.main_v34) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v13) = v1 c
          ∧ r.2.mem ((c.tc : Thread Cert.Reference6Ideal.nD Cert.Reference6Ideal.τ).loc Cert.Reference6Ideal.main_v21) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_v18) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v14_0)) (v1 : (c : Dev Cert.Kernel8Ideal.nD) → Buf (Elt Ideal) ((c.tc : Thread Cert.Kernel8Ideal.nD Cert.Kernel8Ideal.τ).loc Cert.Kernel8Ideal.main_v14_1)) (v2 : (c : Dev Cert.Kernel8Ideal.nD) → Buf (Elt Ideal) ((c.tc : Thread Cert.Kernel8Ideal.nD Cert.Kernel8Ideal.τ).loc Cert.Kernel8Ideal.main_v14_2)) (v3 : (c : Dev Cert.Kernel8Ideal.nD) → Buf (Elt Ideal) ((c.tc : Thread Cert.Kernel8Ideal.nD Cert.Kernel8Ideal.τ).loc Cert.Kernel8Ideal.main_v14_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14_0) = v0 c
          ∧ r.2.mem ((c.tc : Thread Cert.Kernel8Ideal.nD Cert.Kernel8Ideal.τ).loc Cert.Kernel8Ideal.main_v14_1) = v1 c
          ∧ r.2.mem ((c.tc : Thread Cert.Kernel8Ideal.nD Cert.Kernel8Ideal.τ).loc Cert.Kernel8Ideal.main_v14_2) = v2 c
          ∧ r.2.mem ((c.tc : Thread Cert.Kernel8Ideal.nD Cert.Kernel8Ideal.τ).loc Cert.Kernel8Ideal.main_v14_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v29) = v0 c
          ∧ r.2.mem ((c.tc : Thread Cert.Reference8Ideal.nD Cert.Reference8Ideal.τ).loc Cert.Reference8Ideal.main_v15) = v1 c
          ∧ r.2.mem ((c.tc : Thread Cert.Reference8Ideal.nD Cert.Reference8Ideal.τ).loc Cert.Reference8Ideal.main_v28) = v2 c
          ∧ r.2.mem ((c.tc : Thread Cert.Reference8Ideal.nD Cert.Reference8Ideal.τ).loc Cert.Reference8Ideal.main_v42) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v26) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S4096x1024 : Shape := ⟨2, ![4096, 1024]⟩
abbrev S1024x4096 : Shape := ⟨2, ![1024, 4096]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4x1024 : Shape := ⟨3, ![1024, 4, 1024]⟩
abbrev S4x1024x1024 : Shape := ⟨3, ![4, 1024, 1024]⟩
abbrev S4x512x1024 : Shape := ⟨3, ![4, 512, 1024]⟩
abbrev S4096x4096 : Shape := ⟨2, ![4096, 4096]⟩
abbrev S8x128 : Shape := ⟨2, ![8, 128]⟩
abbrev S256x1024 : Shape := ⟨2, ![256, 1024]⟩
abbrev S256x4096 : Shape := ⟨2, ![256, 4096]⟩
abbrev S4 : Shape := ⟨1, ![4]⟩
abbrev S1 : Shape := ⟨1, ![1]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩
abbrev S1x256x1024 : Shape := ⟨3, ![1, 256, 1024]⟩
abbrev S1x1x1 : Shape := ⟨3, ![1, 1, 1]⟩
abbrev S1024 : Shape := ⟨1, ![1024]⟩

abbrev nBuf : Space → Nat
  | .hbm => 58
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | .hbm, ⟨40, _⟩ => ⟨S1024x4x1024, .f32⟩
  | .hbm, ⟨41, _⟩ => ⟨S4x1024x1024, .f32⟩
  | .hbm, ⟨42, _⟩ => ⟨S4x1024x1024, .bf16⟩
  | .hbm, ⟨43, _⟩ => ⟨S4x512x1024, .bf16⟩
  | .hbm, ⟨44, _⟩ => ⟨S4x512x1024, .bf16⟩
  | .hbm, ⟨45, _⟩ => ⟨S4x1024x1024, .f32⟩
  | .hbm, ⟨46, _⟩ => ⟨S4x1024x1024, .bf16⟩
  | .hbm, ⟨47, _⟩ => ⟨S4x512x1024, .bf16⟩
  | .hbm, ⟨48, _⟩ => ⟨S4x512x1024, .bf16⟩
  | .hbm, ⟨49, _⟩ => ⟨S4096x4096, .bf16⟩
  | .hbm, ⟨50, _⟩ => ⟨S4096x1024, .bf16⟩
  | .hbm, ⟨51, _⟩ => ⟨S4096x4096, .bf16⟩
  | .hbm, ⟨52, _⟩ => ⟨S4096x1024, .f32⟩
  | .hbm, ⟨53, _⟩ => ⟨S4096x1024, .bf16⟩
  | .hbm, ⟨54, _⟩ => ⟨S8x128, .f32⟩
  | .hbm, ⟨55, _⟩ => ⟨S1x1024, .f32⟩
  | .hbm, ⟨56, _⟩ => ⟨S1x1024, .f32⟩
  | .hbm, ⟨57, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S256x4096, .bf16⟩
  | .local _ .vmem, ⟨12, _⟩ => ⟨S256x4096, .bf16⟩
  | .local _ .vmem, ⟨13, _⟩ => ⟨S256x1024, .bf16⟩
  | .local _ .vmem, ⟨14, _⟩ => ⟨S256x1024, .bf16⟩
  | .local _ .vmem, ⟨15, _⟩ => ⟨S256x4096, .bf16⟩
  | .local _ .vmem, ⟨16, _⟩ => ⟨S256x4096, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S8x128, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S4x1024x1024, .bf16⟩
  | .local _ .vmem, ⟨26, _⟩ => ⟨S4x1024x1024, .bf16⟩
  | .local _ .vmem, ⟨27, _⟩ => ⟨S256x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35_0 : Ref sig .tc := ⟨.hbm, 49, rfl⟩
abbrev main_v35_1 : Ref sig .tc := ⟨.hbm, 50, rfl⟩
abbrev main_v35_2 : Ref sig .tc := ⟨.hbm, 51, rfl⟩
abbrev main_v35_3 : Ref sig .tc := ⟨.hbm, 52, rfl⟩
abbrev main_v35_4 : Ref sig .tc := ⟨.hbm, 53, rfl⟩
abbrev main_v35_5 : Ref sig .tc := ⟨.hbm, 54, rfl⟩
abbrev main_v35_6 : Ref sig .tc := ⟨.hbm, 55, rfl⟩
abbrev main_v35_7 : Ref sig .tc := ⟨.hbm, 56, rfl⟩
abbrev main_v35_8 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S4096x1024 : Shape := ⟨2, ![4096, 1024]⟩
abbrev S1024x4096 : Shape := ⟨2, ![1024, 4096]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S8x128 : Shape := ⟨2, ![8, 128]⟩

abbrev nBuf : Space → Nat
  | .hbm => 185
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S1024x4096, .f32⟩
  | 4 => ⟨S4096x1024, .f32⟩
  | 5 => ⟨S1x1024, .f32⟩
  | 6 => ⟨S1x1024, .f32⟩
  | 7 => ⟨S1x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S_, .f32⟩
  | 30 => ⟨S4096, .f32⟩
  | 31 => ⟨S4096x1, .f32⟩
  | 32 => ⟨S_, .f32⟩
  | 33 => ⟨S4096x1, .f32⟩
  | 34 => ⟨S4096x1, .f32⟩
  | 35 => ⟨S_, .f32⟩
  | 36 => ⟨S4096x1, .f32⟩
  | 37 => ⟨S4096x1, .f32⟩
  | 38 => ⟨S4096x1, .f32⟩
  | 39 => ⟨S4096x1, .f32⟩
  | 40 => ⟨S_, .f32⟩
  | 41 => ⟨S4096x1, .f32⟩
  | 42 => ⟨S4096x1, .f32⟩
  | 43 => ⟨S4096x1024, .f32⟩
  | 44 => ⟨S4096x1024, .f32⟩
  | 45 => ⟨S4096x1024, .f32⟩
  | 46 => ⟨S4096x1024, .f32⟩
  | 47 => ⟨S4096x4096, .f32⟩
  | 48 => ⟨S_, .f32⟩
  | 49 => ⟨S4096x4096, .f32⟩
  | 50 => ⟨S4096x4096, .f32⟩
  | 51 => ⟨S_, .f32⟩
  | 52 => ⟨S4096x4096, .f32⟩
  | 53 => ⟨S4096x4096, .i1⟩
  | 54 => ⟨S_, .f32⟩
  | 55 => ⟨S4096x4096, .f32⟩
  | 56 => ⟨S4096x4096, .f32⟩
  | 57 => ⟨S_, .f32⟩
  | 58 => ⟨S4096x4096, .f32⟩
  | 59 => ⟨S4096x4096, .f32⟩
  | 60 => ⟨S4096x1024, .f32⟩
  | 61 => ⟨S4096x1024, .f32⟩
  | 62 => ⟨S_, .f32⟩
  | 63 => ⟨S4096, .f32⟩
  | 64 => ⟨S4096x1, .f32⟩
  | 65 => ⟨S_, .f32⟩
  | 66 => ⟨S4096x1, .f32⟩
  | 67 => ⟨S4096x1, .f32⟩
  | 68 => ⟨S_, .f32⟩
  | 69 => ⟨S4096x1, .f32⟩
  | 70 => ⟨S4096x1, .f32⟩
  | 71 => ⟨S4096x1, .f32⟩
  | 72 => ⟨S4096x1, .f32⟩
  | 73 => ⟨S_, .f32⟩
  | 74 => ⟨S4096x1, .f32⟩
  | 75 => ⟨S4096x1, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S_, .f32⟩
  | 84 => ⟨S4096x1024, .f32⟩
  | 85 => ⟨S4096x1024, .f32⟩
  | 86 => ⟨S_, .f32⟩
  | 87 => ⟨S4096, .f32⟩
  | 88 => ⟨S_, .f32⟩
  | 89 => ⟨S4096, .f32⟩
  | 90 => ⟨S4096, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S4096, .f32⟩
  | 99 => ⟨S_, .f32⟩
  | 100 => ⟨S4096, .f32⟩
  | 101 => ⟨S4096, .f32⟩
  | 102 => ⟨S4096x1024, .f32⟩
  | 103 => ⟨S4096x1024, .f32⟩
  | 104 => ⟨S4096x1024, .f32⟩
  | 105 => ⟨S_, .f32⟩
  | 106 => ⟨S1024, .f32⟩
  | 107 => ⟨S1x1024, .f32⟩
  | 108 => ⟨S4096x1024, .f32⟩
  | 109 => ⟨S4096x1024, .f32⟩
  | 110 => ⟨S4096x1024, .f32⟩
  | 111 => ⟨S_, .f32⟩
  | 112 => ⟨S4096, .f32⟩
  | 113 => ⟨S4096x1, .f32⟩
  | 114 => ⟨S4096x1024, .f32⟩
  | 115 => ⟨S4096x1024, .f32⟩
  | 116 => ⟨S4096x1, .f32⟩
  | 117 => ⟨S_, .f32⟩
  | 118 => ⟨S4096x1, .f32⟩
  | 119 => ⟨S4096x1, .f32⟩
  | 120 => ⟨S_, .f32⟩
  | 121 => ⟨S4096, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S4096x4096, .f32⟩
  | _ => ⟨S4096x1024, .f32⟩

abbrev hbmTy0_1 (i : Nat) : BufTy := match i % 128 with
  | 0 => ⟨S4096x4096, .f32⟩
  | 1 => ⟨S_, .f32⟩
  | 2 => ⟨S4096x4096, .f32⟩
  | 3 => ⟨S4096x4096, .f32⟩
  | 4 => ⟨S4096x1024, .f32⟩
  | 5 => ⟨S4096x1024, .f32⟩
  | 6 => ⟨S_, .f32⟩
  | 7 => ⟨S1024, .f32⟩
  | 8 => ⟨S1x1024, .f32⟩
  | 9 => ⟨S4096x1024, .f32⟩
  | 10 => ⟨S4096x1024, .f32⟩
  | 11 => ⟨S4096x1024, .f32⟩
  | 12 => ⟨S_, .f32⟩
  | 13 => ⟨S4096, .f32⟩
  | 14 => ⟨S4096x1, .f32⟩
  | 15 => ⟨S4096x1024, .f32⟩
  | 16 => ⟨S4096x1024, .f32⟩
  | 17 => ⟨S4096x1, .f32⟩
  | 18 => ⟨S_, .f32⟩
  | 19 => ⟨S4096x1, .f32⟩
  | 20 => ⟨S4096x1, .f32⟩
  | 21 => ⟨S_, .f32⟩
  | 22 => ⟨S4096, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S_, .f32⟩
  | 31 => ⟨S1024, .f32⟩
  | 32 => ⟨S1x1024, .f32⟩
  | 33 => ⟨S4096x1024, .f32⟩
  | 34 => ⟨S4096x1024, .f32⟩
  | 35 => ⟨S4096x1024, .f32⟩
  | 36 => ⟨S_, .f32⟩
  | 37 => ⟨S4096, .f32⟩
  | 38 => ⟨S4096x1, .f32⟩
  | 39 => ⟨S4096x1024, .f32⟩
  | 40 => ⟨S4096x1024, .f32⟩
  | 41 => ⟨S4096x1, .f32⟩
  | 42 => ⟨S_, .f32⟩
  | 43 => ⟨S4096x1, .f32⟩
  | 44 => ⟨S4096x1, .f32⟩
  | 45 => ⟨S_, .f32⟩
  | 46 => ⟨S4096, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x4096, .bf16⟩
  | 53 => ⟨S4096x1024, .bf16⟩
  | 54 => ⟨S4096x4096, .bf16⟩
  | 55 => ⟨S4096x1024, .bf16⟩
  | 56 => ⟨S8x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_cst : Ref sig .tc := ⟨.hbm, 48, rfl⟩
abbrev main_call0_v0 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_10 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_cst_12 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_13 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_14 : Ref sig .tc := ⟨.hbm, 83, rfl⟩
abbrev main_v58 : Ref sig .tc := ⟨.hbm, 84, rfl⟩
abbrev main_v59 : Ref sig .tc := ⟨.hbm, 85, rfl⟩
abbrev main_cst_15 : Ref sig .tc := ⟨.hbm, 86, rfl⟩
abbrev main_v60 : Ref sig .tc := ⟨.hbm, 87, rfl⟩
abbrev main_cst_16 : Ref sig .tc := ⟨.hbm, 88, rfl⟩
abbrev main_v61 : Ref sig .tc := ⟨.hbm, 89, rfl⟩
abbrev main_v62 : Ref sig .tc := ⟨.hbm, 90, rfl⟩
abbrev main_cst_17 : Ref sig .tc := ⟨.hbm, 91, rfl⟩
abbrev main_v63 : Ref sig .tc := ⟨.hbm, 92, rfl⟩
abbrev main_cst_18 : Ref sig .tc := ⟨.hbm, 93, rfl⟩
abbrev main_v64 : Ref sig .tc := ⟨.hbm, 94, rfl⟩
abbrev main_cst_19 : Ref sig .tc := ⟨.hbm, 95, rfl⟩
abbrev main_cst_20 : Ref sig .tc := ⟨.hbm, 96, rfl⟩
abbrev main_v65 : Ref sig .tc := ⟨.hbm, 97, rfl⟩
abbrev main_v66 : Ref sig .tc := ⟨.hbm, 98, rfl⟩
abbrev main_cst_21 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_22 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_23 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_24 : Ref sig .tc := ⟨.hbm, 117, rfl⟩
abbrev main_v82 : Ref sig .tc := ⟨.hbm, 118, rfl⟩
abbrev main_v83 : Ref sig .tc := ⟨.hbm, 119, rfl⟩
abbrev main_cst_25 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_26 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_27 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_28 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_29 : Ref sig .tc := ⟨.hbm, 146, rfl⟩
abbrev main_v106 : Ref sig .tc := ⟨.hbm, 147, rfl⟩
abbrev main_v107 : Ref sig .tc := ⟨.hbm, 148, rfl⟩
abbrev main_cst_30 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_31 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_32 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_33 : Ref sig .tc := ⟨.hbm, 170, rfl⟩
abbrev main_v126 : Ref sig .tc := ⟨.hbm, 171, rfl⟩
abbrev main_v127 : Ref sig .tc := ⟨.hbm, 172, rfl⟩
abbrev main_cst_34 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩

abbrev nD : Nat := 1
abbrev τ : Topo := Topo.v7x

variable {F : FTy → Type} [FloatOps F]
-- ==== Kernel2.lean ====
abbrev S4096x1024 : Shape := ⟨2, ![4096, 1024]⟩
abbrev S4096x2048 : Shape := ⟨2, ![4096, 2048]⟩
abbrev S4096x512 : Shape := ⟨2, ![4096, 512]⟩
abbrev S1024x1024 : Shape := ⟨2, ![1024, 1024]⟩
abbrev S512x1024 : Shape := ⟨2, ![512, 1024]⟩
abbrev S_ : Shape := ⟨0, ![]⟩
abbrev S512x4x256 : Shape := ⟨3, ![512, 4, 256]⟩
abbrev S4x512x256 : Shape := ⟨3, ![4, 512, 256]⟩
abbrev S512x2048 : Shape := ⟨2, ![512, 2048]⟩
abbrev S512x512 : Shape := ⟨2, ![512, 512]⟩
abbrev S1x512x256 : Shape := ⟨3, ![1, 512, 256]⟩
abbrev S512x256 : Shape := ⟨2, ![512, 256]⟩

abbrev nBuf : Space → Nat
  | .hbm => 28
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .f32⟩
  | .hbm, ⟨2, _⟩ => ⟨S4096x512, .bf16⟩
  | .hbm, ⟨3, _⟩ => ⟨S4096x512, .bf16⟩
  | .hbm, ⟨4, _⟩ => ⟨S1024x1024, .f32⟩
  | .hbm, ⟨5, _⟩ => ⟨S512x1024, .f32⟩
  | .hbm, ⟨6, _⟩ => ⟨S512x1024, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .bf16⟩
  | .hbm, ⟨16, _⟩ => ⟨S1024x1024, .bf16⟩
  | .hbm, ⟨17, _⟩ => ⟨S512x4x256, .f32⟩
  | .hbm, ⟨18, _⟩ => ⟨S4x512x256, .f32⟩
  | .hbm, ⟨19, _⟩ => ⟨S4x512x256, .bf16⟩
  | .hbm, ⟨20, _⟩ => ⟨S512x4x256, .f32⟩
  | .hbm, ⟨21, _⟩ => ⟨S4x512x256, .f32⟩
  | .hbm, ⟨22, _⟩ => ⟨S4x512x256, .bf16⟩
  | .hbm, ⟨23, _⟩ => ⟨S4096x1024, .bf16⟩
  | .hbm, ⟨24, _⟩ => ⟨S4096x1024, .bf16⟩
  | .hbm, ⟨25, _⟩ => ⟨S4096x2048, .bf16⟩
  | .hbm, ⟨26, _⟩ => ⟨S4096x512, .f32⟩
  | .hbm, ⟨27, _⟩ => ⟨S4096x512, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S4x512x256, .bf16⟩
  | .local _ .vmem, ⟨10, _⟩ => ⟨S4x512x256, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | .local _ .vmem, ⟨17, _⟩ => ⟨S512x512, .f32⟩
  | .local _ .vmem, ⟨18, _⟩ => ⟨S512x512, .f32⟩
  | .local _ .vmem, ⟨19, _⟩ => ⟨S512x512, .bf16⟩
  | .local _ .vmem, ⟨20, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S4096x1024 : Shape := ⟨2, ![4096, 1024]⟩
abbrev S4096x2048 : Shape := ⟨2, ![4096, 2048]⟩
abbrev S4096x512 : Shape := ⟨2, ![4096, 512]⟩
abbrev S1024x1024 : Shape := ⟨2, ![1024, 1024]⟩
abbrev S512x1024 : Shape := ⟨2, ![512, 1024]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .f32⟩
  | .hbm, ⟨2, _⟩ => ⟨S4096x512, .bf16⟩
  | .hbm, ⟨3, _⟩ => ⟨S4096x512, .bf16⟩
  | .hbm, ⟨4, _⟩ => ⟨S1024x1024, .f32⟩
  | .hbm, ⟨5, _⟩ => ⟨S512x1024, .f32⟩
  | .hbm, ⟨6, _⟩ => ⟨S512x1024, .f32⟩
  | .hbm, ⟨7, _⟩ => ⟨S4096x512, .f32⟩
  | .hbm, ⟨8, _⟩ => ⟨S4096x1024, .f32⟩
  | .hbm, ⟨9, _⟩ => ⟨S4096x512, .f32⟩
  | .hbm, ⟨10, _⟩ => ⟨S4096x1024, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x2048, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x1024, .bf16⟩
  | .hbm, ⟨42, _⟩ => ⟨S4096x1024, .bf16⟩
  | .hbm, ⟨43, _⟩ => ⟨S4096x2048, .bf16⟩
  | .hbm, ⟨44, _⟩ => ⟨S4096x512, .f32⟩
  | .hbm, ⟨45, _⟩ => ⟨S4096x512, .f32⟩
  | .hbm, ⟨46, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel3.lean ====
abbrev S4096x512 : Shape := ⟨2, ![4096, 512]⟩
abbrev S4096x128 : Shape := ⟨2, ![4096, 128]⟩
abbrev S4096x2048 : Shape := ⟨2, ![4096, 2048]⟩
abbrev S4096x1024 : Shape := ⟨2, ![4096, 1024]⟩
abbrev S1024x3328 : Shape := ⟨2, ![1024, 3328]⟩
abbrev S1x1024 : Shape := ⟨2, ![1, 1024]⟩
abbrev S3328x1024 : Shape := ⟨2, ![3328, 1024]⟩
abbrev S512x512 : Shape := ⟨2, ![512, 512]⟩
abbrev S512x128 : Shape := ⟨2, ![512, 128]⟩
abbrev S512x2048 : Shape := ⟨2, ![512, 2048]⟩
abbrev S512x1024 : Shape := ⟨2, ![512, 1024]⟩
abbrev S128x1024 : Shape := ⟨2, ![128, 1024]⟩
abbrev S2048x1024 : Shape := ⟨2, ![2048, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 19
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x128, .bf16⟩
  | .hbm, ⟨3, _⟩ => ⟨S4096x128, .bf16⟩
  | .hbm, ⟨4, _⟩ => ⟨S4096x2048, .bf16⟩
  | .hbm, ⟨5, _⟩ => ⟨S4096x1024, .f32⟩
  | .hbm, ⟨6, _⟩ => ⟨S4096x1024, .f32⟩
  | .hbm, ⟨7, _⟩ => ⟨S1024x3328, .f32⟩
  | .hbm, ⟨8, _⟩ => ⟨S1x1024, .f32⟩
  | .hbm, ⟨9, _⟩ => ⟨S3328x1024, .f32⟩
  | .hbm, ⟨10, _⟩ => ⟨S3328x1024, .bf16⟩
  | .hbm, ⟨11, _⟩ => ⟨S4096x1024, .f32⟩
  | .hbm, ⟨12, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x2048, .bf16⟩
  | .local _ .vmem, ⟨9, _⟩ => ⟨S512x2048, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S3328x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3328x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S4096x512 : Shape := ⟨2, ![4096, 512]⟩
abbrev S4096x128 : Shape := ⟨2, ![4096, 128]⟩
abbrev S4096x2048 : Shape := ⟨2, ![4096, 2048]⟩
abbrev S4096x1024 : Shape := ⟨2, ![4096, 1024]⟩
abbrev S1024x3328 : Shape := ⟨2, ![1024, 3328]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x3328 : Shape := ⟨2, ![4096, 3328]⟩
abbrev S1024 : Shape := ⟨1, ![1024]⟩

abbrev nBuf : Space → Nat
  | .hbm => 65
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x128, .bf16⟩
  | .hbm, ⟨3, _⟩ => ⟨S4096x128, .bf16⟩
  | .hbm, ⟨4, _⟩ => ⟨S4096x2048, .bf16⟩
  | .hbm, ⟨5, _⟩ => ⟨S4096x1024, .f32⟩
  | .hbm, ⟨6, _⟩ => ⟨S4096x1024, .f32⟩
  | .hbm, ⟨7, _⟩ => ⟨S1024x3328, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x3328, .f32⟩
  | .hbm, ⟨29, _⟩ => ⟨S4096x512, .f32⟩
  | .hbm, ⟨30, _⟩ => ⟨S4096x512, .f32⟩
  | .hbm, ⟨31, _⟩ => ⟨S4096x128, .f32⟩
  | .hbm, ⟨32, _⟩ => ⟨S4096x128, .f32⟩
  | .hbm, ⟨33, _⟩ => ⟨S4096x2048, .f32⟩
  | .hbm, ⟨34, _⟩ => ⟨S4096x512, .f32⟩
  | .hbm, ⟨35, _⟩ => ⟨S4096x512, .f32⟩
  | .hbm, ⟨36, _⟩ => ⟨S4096x128, .f32⟩
  | .hbm, ⟨37, _⟩ => ⟨S4096x128, .f32⟩
  | .hbm, ⟨38, _⟩ => ⟨S4096x2048, .f32⟩
  | .hbm, ⟨39, _⟩ => ⟨S4096x3328, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== Kernel4.lean ====
abbrev S4096x4096 : Shape := ⟨2, ![4096, 4096]⟩
abbrev S4096x1024 : Shape := ⟨2, ![4096, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x1024 : Shape := ⟨2, ![4096, 1024]⟩
abbrev S4096x4096 : Shape := ⟨2, ![4096, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x1024 : Shape := ⟨2, ![4096, 1024]⟩
abbrev S4096x512 : Shape := ⟨2, ![4096, 512]⟩
abbrev S1024x1024 : Shape := ⟨2, ![1024, 1024]⟩
abbrev S4x512x256 : Shape := ⟨3, ![4, 512, 256]⟩
abbrev S1024x512 : Shape := ⟨2, ![1024, 512]⟩
abbrev S512x1024 : Shape := ⟨2, ![512, 1024]⟩
abbrev S1x512x256 : Shape := ⟨3, ![1, 512, 256]⟩
abbrev S512x256 : Shape := ⟨2, ![512, 256]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S4096x1024, .bf16⟩
  | .hbm, ⟨4, _⟩ => ⟨S4096x512, .bf16⟩
  | .hbm, ⟨5, _⟩ => ⟨S4096x1024, .bf16⟩
  | .hbm, ⟨6, _⟩ => ⟨S1024x1024, .f32⟩
  | .hbm, ⟨7, _⟩ => ⟨S4x512x256, .f32⟩
  | .hbm, ⟨8, _⟩ => ⟨S4x512x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S4x512x256, .f32⟩
  | .local _ .vmem, ⟨14, _⟩ => ⟨S4x512x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S4096x1024 : Shape := ⟨2, ![4096, 1024]⟩
abbrev S4096x512 : Shape := ⟨2, ![4096, 512]⟩
abbrev S_ : Shape := ⟨0, ![]⟩
abbrev S1024x1024 : Shape := ⟨2, ![1024, 1024]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S4096x1024, .bf16⟩
  | .hbm, ⟨4, _⟩ => ⟨S4096x512, .bf16⟩
  | .hbm, ⟨5, _⟩ => ⟨S4096x1024, .bf16⟩
  | .hbm, ⟨6, _⟩ => ⟨S_, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S512x1024, .f32⟩
  | .hbm, ⟨15, _⟩ => ⟨S4096x512, .f32⟩
  | .hbm, ⟨16, _⟩ => ⟨S4096x1024, .f32⟩
  | .hbm, ⟨17, _⟩ => ⟨S4096x1024, .f32⟩
  | .hbm, ⟨18, _⟩ => ⟨S1024x512, .f32⟩
  | .hbm, ⟨19, _⟩ => ⟨S512x1024, .f32⟩
  | .hbm, ⟨20, _⟩ => ⟨S512x4x256, .f32⟩
  | .hbm, ⟨21, _⟩ => ⟨S4x512x256, .f32⟩
  | .hbm, ⟨22, _⟩ => ⟨S_, .f32⟩
  | .hbm, ⟨23, _⟩ => ⟨S512x1024, .f32⟩
  | .hbm, ⟨24, _⟩ => ⟨S4096x512, .f32⟩
  | .hbm, ⟨25, _⟩ => ⟨S4096x1024, .f32⟩
  | .hbm, ⟨26, _⟩ => ⟨S4096x1024, .f32⟩
  | .hbm, ⟨27, _⟩ => ⟨S1024x512, .f32⟩
  | .hbm, ⟨28, _⟩ => ⟨S512x1024, .f32⟩
  | .hbm, ⟨29, _⟩ => ⟨S512x4x256, .f32⟩
  | .hbm, ⟨30, _⟩ => ⟨S4x512x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel7.lean ====
abbrev S4096x1024 : Shape := ⟨2, ![4096, 1024]⟩
abbrev S4096x512 : Shape := ⟨2, ![4096, 512]⟩
abbrev S4096x128 : Shape := ⟨2, ![4096, 128]⟩
abbrev S4096x2048 : Shape := ⟨2, ![4096, 2048]⟩
abbrev S3328x1024 : Shape := ⟨2, ![3328, 1024]⟩
abbrev S1x3328 : Shape := ⟨2, ![1, 3328]⟩
abbrev S512x1024 : Shape := ⟨2, ![512, 1024]⟩
abbrev S512x512 : Shape := ⟨2, ![512, 512]⟩
abbrev S512x128 : Shape := ⟨2, ![512, 128]⟩
abbrev S512x2048 : Shape := ⟨2, ![512, 2048]⟩
abbrev S8x512 : Shape := ⟨2, ![8, 512]⟩
abbrev S1x512 : Shape := ⟨2, ![1, 512]⟩
abbrev S128x1024 : Shape := ⟨2, ![128, 1024]⟩
abbrev S1x128 : Shape := ⟨2, ![1, 128]⟩
abbrev S8x128 : Shape := ⟨2, ![8, 128]⟩
abbrev S2048x1024 : Shape := ⟨2, ![2048, 1024]⟩
abbrev S1x2048 : Shape := ⟨2, ![1, 2048]⟩
abbrev S8x2048 : Shape := ⟨2, ![8, 2048]⟩

abbrev nBuf : Space → Nat
  | .hbm => 8
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x128, .bf16⟩
  | .hbm, ⟨4, _⟩ => ⟨S4096x128, .bf16⟩
  | .hbm, ⟨5, _⟩ => ⟨S4096x2048, .bf16⟩
  | .hbm, ⟨6, _⟩ => ⟨S3328x1024, .f32⟩
  | .hbm, ⟨7, _⟩ => ⟨S1x3328, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x2048, .bf16⟩
  | .local _ .vmem, ⟨11, _⟩ => ⟨S512x2048, .bf16⟩
  | .local _ .vmem, ⟨12, _⟩ => ⟨S3328x1024, .f32⟩
  | .local _ .vmem, ⟨13, _⟩ => ⟨S1x3328, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3328x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3328 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference7Ideal.lean ====
abbrev S4096x1024 : Shape := ⟨2, ![4096, 1024]⟩
abbrev S4096x512 : Shape := ⟨2, ![4096, 512]⟩
abbrev S4096x128 : Shape := ⟨2, ![4096, 128]⟩
abbrev S4096x2048 : Shape := ⟨2, ![4096, 2048]⟩
abbrev S_ : Shape := ⟨0, ![]⟩
abbrev S1024x3328 : Shape := ⟨2, ![1024, 3328]⟩
abbrev S1x3328 : Shape := ⟨2, ![1, 3328]⟩
abbrev S4096x3328 : Shape := ⟨2, ![4096, 3328]⟩
abbrev S3328 : Shape := ⟨1, ![3328]⟩
abbrev S3328x1024 : Shape := ⟨2, ![3328, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x128, .bf16⟩
  | .hbm, ⟨4, _⟩ => ⟨S4096x128, .bf16⟩
  | .hbm, ⟨5, _⟩ => ⟨S4096x2048, .bf16⟩
  | .hbm, ⟨6, _⟩ => ⟨S_, .f32⟩
  | .hbm, ⟨7, _⟩ => ⟨S1024x3328, .f32⟩
  | .hbm, ⟨8, _⟩ => ⟨S_, .f32⟩
  | .hbm, ⟨9, _⟩ => ⟨S1x3328, .f32⟩
  | .hbm, ⟨10, _⟩ => ⟨S4096x1024, .f32⟩
  | .hbm, ⟨11, _⟩ => ⟨S4096x3328, .f32⟩
  | .hbm, ⟨12, _⟩ => ⟨S4096x3328, .f32⟩
  | .hbm, ⟨13, _⟩ => ⟨S4096x3328, .f32⟩
  | .hbm, ⟨14, _⟩ => ⟨S4096x512, .f32⟩
  | .hbm, ⟨15, _⟩ => ⟨S4096x512, .f32⟩
  | .hbm, ⟨16, _⟩ => ⟨S4096x128, .f32⟩
  | .hbm, ⟨17, _⟩ => ⟨S4096x128, .f32⟩
  | .hbm, ⟨18, _⟩ => ⟨S4096x2048, .f32⟩
  | .hbm, ⟨19, _⟩ => ⟨S4096x512, .f32⟩
  | .hbm, ⟨20, _⟩ => ⟨S4096x512, .f32⟩
  | .hbm, ⟨21, _⟩ => ⟨S4096x128, .f32⟩
  | .hbm, ⟨22, _⟩ => ⟨S4096x128, .f32⟩
  | .hbm, ⟨23, _⟩ => ⟨S4096x2048, .f32⟩
  | .hbm, ⟨24, _⟩ => ⟨S4096x3328, .f32⟩
  | .hbm, ⟨25, _⟩ => ⟨S_, .f32⟩
  | .hbm, ⟨26, _⟩ => ⟨S3328, .f32⟩
  | .hbm, ⟨27, _⟩ => ⟨S1x3328, .f32⟩
  | .hbm, ⟨28, _⟩ => ⟨S3328x1024, .f32⟩
  | .hbm, ⟨29, _⟩ => ⟨S1024x3328, .f32⟩
  | .hbm, ⟨30, _⟩ => ⟨S3328x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel8.lean ====
abbrev S4096x512 : Shape := ⟨2, ![4096, 512]⟩
abbrev S4096x2048 : Shape := ⟨2, ![4096, 2048]⟩
abbrev S4096x1024 : Shape := ⟨2, ![4096, 1024]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S512x4x256 : Shape := ⟨3, ![512, 4, 256]⟩
abbrev S4x512x256 : Shape := ⟨3, ![4, 512, 256]⟩
abbrev S512x512 : Shape := ⟨2, ![512, 512]⟩
abbrev S512x2048 : Shape := ⟨2, ![512, 2048]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩

abbrev nBuf : Space → Nat
  | .hbm => 29
  | .vmem => 21
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x2048, .f32⟩
  | .hbm, ⟨3, _⟩ => ⟨S4096x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .bf16⟩
  | .hbm, ⟨18, _⟩ => ⟨S512x4x256, .f32⟩
  | .hbm, ⟨19, _⟩ => ⟨S4x512x256, .f32⟩
  | .hbm, ⟨20, _⟩ => ⟨S4x512x256, .bf16⟩
  | .hbm, ⟨21, _⟩ => ⟨S512x4x256, .f32⟩
  | .hbm, ⟨22, _⟩ => ⟨S4x512x256, .f32⟩
  | .hbm, ⟨23, _⟩ => ⟨S4x512x256, .bf16⟩
  | .hbm, ⟨24, _⟩ => ⟨S1024x1024, .bf16⟩
  | .hbm, ⟨25, _⟩ => ⟨S4096x1024, .bf16⟩
  | .hbm, ⟨26, _⟩ => ⟨S4096x1024, .f32⟩
  | .hbm, ⟨27, _⟩ => ⟨S4096x1024, .f32⟩
  | .hbm, ⟨28, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S4x512x256, .bf16⟩
  | .local _ .vmem, ⟨9, _⟩ => ⟨S4x512x256, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference8Ideal.lean ====
abbrev S4096x512 : Shape := ⟨2, ![4096, 512]⟩
abbrev S4096x2048 : Shape := ⟨2, ![4096, 2048]⟩
abbrev S4096x1024 : Shape := ⟨2, ![4096, 1024]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x2048, .f32⟩
  | .hbm, ⟨3, _⟩ => ⟨S4096x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x1024, .f32⟩
  | .hbm, ⟨18, _⟩ => ⟨S4096x512, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x512, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Kernel9.lean ====
abbrev S1024x832 : Shape := ⟨2, ![1024, 832]⟩
abbrev S832x1024 : Shape := ⟨2, ![832, 1024]⟩
abbrev S416x1024 : Shape := ⟨2, ![416, 1024]⟩

abbrev nBuf : Space → Nat
  | .hbm => 11
  | .vmem => 14
  | .smem => 0
  | _ => 0

abbrev bufTy : (tb : Table) → Fin (tcTables nBuf tb) → BufTy
  | .hbm, ⟨0, _⟩ => ⟨S1024x832, .f32⟩
  | .hbm, ⟨1, _⟩ => ⟨S1024x832, .f32⟩
  | .hbm, ⟨2, _⟩ => ⟨S1024x832, .f32⟩
  | .hbm, ⟨3, _⟩ => ⟨S1024x832, .f32⟩
  | .hbm, ⟨4, _⟩ => ⟨S832x1024, .f32⟩
  | .hbm, ⟨5, _⟩ => ⟨S832x1024, .f32⟩
  | .hbm, ⟨6, _⟩ => ⟨S832x1024, .f32⟩
  | .hbm, ⟨7, _⟩ => ⟨S832x1024, .f32⟩
  | .hbm, ⟨8, _⟩ => ⟨S832x1024, .f32⟩
  | .hbm, ⟨9, _⟩ => ⟨S832x1024, .f32⟩
  | .hbm, ⟨10, _⟩ => ⟨S832x1024, .f32⟩
  | .local _ .vmem, ⟨0, _⟩ => ⟨S416x1024, .f32⟩
  | .local _ .vmem, ⟨1, _⟩ => ⟨S416x1024, .f32⟩
  | .local _ .vmem, ⟨2, _⟩ => ⟨S416x1024, .f32⟩
  | .local _ .vmem, ⟨3, _⟩ => ⟨S416x1024, .f32⟩
  | .local _ .vmem, ⟨4, _⟩ => ⟨S416x1024, .f32⟩
  | .local _ .vmem, ⟨5, _⟩ => ⟨S416x1024, .f32⟩
  | .local _ .vmem, ⟨6, _⟩ => ⟨S416x1024, .f32⟩
  | .local _ .vmem, ⟨7, _⟩ => ⟨S416x1024, .f32⟩
  | .local _ .vmem, ⟨8, _⟩ => ⟨S416x1024, .f32⟩
  | .local _ .vmem, ⟨9, _⟩ => ⟨S416x1024, .f32⟩
  | .local _ .vmem, ⟨10, _⟩ => ⟨S416x1024, .f32⟩
  | .local _ .vmem, ⟨11, _⟩ => ⟨S416x1024, .f32⟩
  | .local _ .vmem, ⟨12, _⟩ => ⟨S416x1024, .f32⟩
  | .local _ .vmem, ⟨13, _⟩ => ⟨S416x1024, .f32⟩
  | _, _ => ⟨S1024x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S416x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S416x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S416x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S416x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S1024x832 : Shape := ⟨2, ![1024, 832]⟩
abbrev S_ : Shape := ⟨0, ![]⟩
abbrev S832x1024 : Shape := ⟨2, ![832, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024x832, .f32⟩
  | .hbm, ⟨1, _⟩ => ⟨S1024x832, .f32⟩
  | .hbm, ⟨2, _⟩ => ⟨S1024x832, .f32⟩
  | .hbm, ⟨3, _⟩ => ⟨S1024x832, .f32⟩
  | .hbm, ⟨4, _⟩ => ⟨S_, .f32⟩
  | .hbm, ⟨5, _⟩ => ⟨S1024x832, .f32⟩
  | .hbm, ⟨6, _⟩ => ⟨S1024x832, .f32⟩
  | .hbm, ⟨7, _⟩ => ⟨S_, .f32⟩
  | .hbm, ⟨8, _⟩ => ⟨S1024x832, .f32⟩
  | .hbm, ⟨9, _⟩ => ⟨S1024x832, .f32⟩
  | .hbm, ⟨10, _⟩ => ⟨S1024x832, .f32⟩
  | .hbm, ⟨11, _⟩ => ⟨S_, .f32⟩
  | .hbm, ⟨12, _⟩ => ⟨S1024x832, .f32⟩
  | .hbm, ⟨13, _⟩ => ⟨S1024x832, .f32⟩
  | .hbm, ⟨14, _⟩ => ⟨S1024x832, .f32⟩
  | .hbm, ⟨15, _⟩ => ⟨S_, .f32⟩
  | .hbm, ⟨16, _⟩ => ⟨S1024x832, .f32⟩
  | .hbm, ⟨17, _⟩ => ⟨S1024x832, .f32⟩
  | .hbm, ⟨18, _⟩ => ⟨S1024x832, .f32⟩
  | .hbm, ⟨19, _⟩ => ⟨S_, .f32⟩
  | .hbm, ⟨20, _⟩ => ⟨S1024x832, .f32⟩
  | .hbm, ⟨21, _⟩ => ⟨S1024x832, .f32⟩
  | .hbm, ⟨22, _⟩ => ⟨S_, .f32⟩
  | .hbm, ⟨23, _⟩ => ⟨S1024x832, .f32⟩
  | .hbm, ⟨24, _⟩ => ⟨S1024x832, .f32⟩
  | .hbm, ⟨25, _⟩ => ⟨S1024x832, .f32⟩
  | .hbm, ⟨26, _⟩ => ⟨S_, .f32⟩
  | .hbm, ⟨27, _⟩ => ⟨S1024x832, .f32⟩
  | .hbm, ⟨28, _⟩ => ⟨S1024x832, .f32⟩
  | .hbm, ⟨29, _⟩ => ⟨S1024x832, .f32⟩
  | .hbm, ⟨30, _⟩ => ⟨S_, .f32⟩
  | .hbm, ⟨31, _⟩ => ⟨S1024x832, .f32⟩
  | .hbm, ⟨32, _⟩ => ⟨S1024x832, .f32⟩
  | .hbm, ⟨33, _⟩ => ⟨S1024x832, .f32⟩
  | .hbm, ⟨34, _⟩ => ⟨S_, .f32⟩
  | .hbm, ⟨35, _⟩ => ⟨S1024x832, .f32⟩
  | .hbm, ⟨36, _⟩ => ⟨S1024x832, .f32⟩
  | .hbm, ⟨37, _⟩ => ⟨S832x1024, .f32⟩
  | .hbm, ⟨38, _⟩ => ⟨S832x1024, .f32⟩
  | .hbm, ⟨39, _⟩ => ⟨S832x1024, .f32⟩
  | _, _ => ⟨S1024x832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Mlp.Block.lean ====
/- What one block of 256 rows computes: the arithmetic of the kernel body on the seven input blocks and the two weight
   arrays that its scratch holds, one definition per intermediate array.  Nothing here mentions memory. -/
module

public import proofs.«01_k».proof.Proof.Gen.KernelIdeal.Skeleton
public import Idealize.ShloMosaic.Lib.Pipeline.FrameBody

@[expose] public section

set_option maxRecDepth 16384

noncomputable section

namespace Cert.KernelIdeal.Mlp

open Idealize.ShloMosaic Cert.KernelIdeal Cert.KernelIdeal.Gen

variable {F : FTy → Type} [FloatOps F]

/-- The four slabs of weights in scratch, from the two halves that the copies bring: rows 0–511 of every slab from `a`, rows 512–1023 from `b`. -/
def joined (a b : Vec F S4x512x1024 .bf16) : Vec F S4x1024x1024 .bf16 :=
  View.canon [⟨Rect.unit ![0, 512, 0] ![4, 512, 1024] inb_S4x1024x1024_S4x512x1024_0_512_0, b⟩,
    ⟨Rect.unit ![0, 0, 0] ![4, 512, 1024] inb_S4x1024x1024_S4x512x1024_0_0_0, a⟩]

/-- Slab `j` of a scratch of weights, as the body loads it. -/
def slab0 (X : Vec F S4x1024x1024 .bf16) : Vec F S1x1024x1024 .bf16 :=
  View.ld X (Rect.unit ![0, 0, 0] ![1, 1024, 1024] inb_S4x1024x1024_S1x1024x1024_0_0_0)
def slab1 (X : Vec F S4x1024x1024 .bf16) : Vec F S1x1024x1024 .bf16 :=
  View.ld X (Rect.unit ![1, 0, 0] ![1, 1024, 1024] inb_S4x1024x1024_S1x1024x1024_1_0_0)
def slab2 (X : Vec F S4x1024x1024 .bf16) : Vec F S1x1024x1024 .bf16 :=
  View.ld X (Rect.unit ![2, 0, 0] ![1, 1024, 1024] inb_S4x1024x1024_S1x1024x1024_2_0_0)
def slab3 (X : Vec F S4x1024x1024 .bf16) : Vec F S1x1024x1024 .bf16 :=
  View.ld X (Rect.unit ![3, 0, 0] ![1, 1024, 1024] inb_S4x1024x1024_S1x1024x1024_3_0_0)

/-- What one grid point works on: the blocks of the normed input, the residual, the mixer's output and the targets, the three gains, and the weights. -/
structure Blk (F : FTy → Type) where
  h : Vec F S256x1024 .bf16
  x1 : Vec F S256x1024 .f32
  mix : Vec F S256x1024 .f32
  tgt : Vec F S256x1024 .f32
  g4 : Vec F S1x1024 .f32
  g3 : Vec F S1x1024 .f32
  g2 : Vec F S1x1024 .f32
  up : Vec F S4x1024x1024 .bf16
  dn : Vec F S4x1024x1024 .bf16

namespace Blk

variable (B : Blk F)

/-- `max(h · W_up, 0)` for slab `j` of the hidden columns. -/
def relu0 : FVec F S256x1024 .f32 := k0_pay8 B.h (slab0 B.up)
def relu1 : FVec F S256x1024 .f32 := k0_pay12 B.h (slab1 B.up)
def relu2 : FVec F S256x1024 .f32 := k0_pay15 (k0_pay6 B.h) (slab2 B.up)
def relu3 : FVec F S256x1024 .f32 := k0_pay19 (k0_pay6 B.h) (slab3 B.up)
/-- Its square, the activation. -/
def act0 : FVec F S256x1024 .bf16 := k0_pay9 B.h (slab0 B.up)
def act1 : FVec F S256x1024 .bf16 := k0_pay13 B.h (slab1 B.up)
def act2 : FVec F S256x1024 .bf16 := k0_pay16 (k0_pay6 B.h) (slab2 B.up)
def act3 : FVec F S256x1024 .bf16 := k0_pay20 (k0_pay6 B.h) (slab3 B.up)
/-- The four slabs of the activation side by side: the first output's block. -/
def act : Vec F S256x4096 .bf16 :=
  View.canon [⟨Rect.unit ![0, 3072] ![256, 1024] inb_S256x4096_S256x1024_0_3072, B.act3⟩, ⟨Rect.unit ![0, 2048] ![256, 1024] inb_S256x4096_S256x1024_0_2048, B.act2⟩,
    ⟨Rect.unit ![0, 1024] ![256, 1024] inb_S256x4096_S256x1024_0_1024, B.act1⟩, ⟨Rect.unit ![0, 0] ![256, 1024] inb_S256x4096_S256x1024_0_0, B.act0⟩]

/-- The down projection summed over slabs 0 to 2, -/
def ff2 : FVec F S256x1024 .f32 :=
  k0_pay17 (k0_pay6 B.h) (k0_pay10 B.h (slab0 B.up) (slab0 B.dn)) B.act1 (slab1 B.dn) (slab2 B.up) (slab2 B.dn)
/-- over all four, -/
def ff : FVec F S256x1024 .f32 := k0_pay21 B.ff2 B.act3 (slab3 B.dn)
/-- and squared, for the norm. -/
def ffsq : FVec F S256x1024 .f32 := k0_pay26 B.ff2 B.act3 (slab3 B.dn)
/-- The gradient of the loss with respect to the block's output. -/
def dy : FVec F S256x1024 .f32 := k0_pay25 B.ff2 B.act3 (slab3 B.dn) B.g4 B.x1 B.tgt
/-- The gradient with respect to the down projection's result: the second output's block. -/
def dff : FVec F S256x1024 .bf16 := k0_pay30 B.ff B.g4 B.dy B.ffsq
/-- The gradient with respect to the hidden columns, slab by slab, -/
def dup0 : FVec F S256x1024 .bf16 := k0_pay31 B.ff B.g4 B.dy B.ffsq (slab0 B.dn) B.relu0
def dup1 : FVec F S256x1024 .bf16 := k0_pay32 B.dff (slab1 B.dn) B.relu1
def dup2 : FVec F S256x1024 .bf16 := k0_pay34 B.dff (slab2 B.dn) B.relu2
def dup3 : FVec F S256x1024 .bf16 := k0_pay36 B.dff (slab3 B.dn) B.relu3
/-- side by side: the third output's block. -/
def dup : Vec F S256x4096 .bf16 :=
  View.canon [⟨Rect.unit ![0, 3072] ![256, 1024] inb_S256x4096_S256x1024_0_3072, B.dup3⟩, ⟨Rect.unit ![0, 2048] ![256, 1024] inb_S256x4096_S256x1024_0_2048, B.dup2⟩,
    ⟨Rect.unit ![0, 1024] ![256, 1024] inb_S256x4096_S256x1024_0_1024, B.dup1⟩, ⟨Rect.unit ![0, 0] ![256, 1024] inb_S256x4096_S256x1024_0_0, B.dup0⟩]
/-- The gradient with respect to the normed input, slabs 0 and 1, -/
def dh1 : FVec F S256x1024 .f32 := k0_pay33 B.dff B.dup0 (slab0 B.up) (slab1 B.dn) B.relu1 (slab1 B.up)
/-- and all four. -/
def dh : FVec F S256x1024 .f32 := k0_pay37 B.dff B.dh1 B.dup2 (k0_pay35 (slab2 B.up)) (slab3 B.dn) B.relu3 (slab3 B.up)
/-- The gradient that comes back through the norm before the MLP, -/
def dx : FVec F S256x1024 .f32 := k0_pay40 (k0_pay22 B.x1) B.dff B.dh1 B.dup2 (k0_pay35 (slab2 B.up)) (slab3 B.dn) B.relu3 (slab3 B.up) B.g3
/-- joined with the one along the residual: the fourth output's block. -/
def dx1 : FVec F S256x1024 .f32 := k0_pay41 B.dy B.dx
/-- The gradient through the norm after the mixer: the fifth output's block. -/
def dmix : FVec F S256x1024 .bf16 := k0_pay46 B.dy B.dx B.mix B.g2

/-- The four accumulators after the block, from what they held before: the loss, -/
def loss (acc : Vec F S8x128 .f32) : Vec F S8x128 .f32 := k0_pay24 B.ff2 B.act3 (slab3 B.dn) B.g4 B.x1 B.tgt acc
/-- and the gradients of the three gains. -/
def dg4 (acc : Vec F S1x1024 .f32) : Vec F S1x1024 .f32 := k0_pay29 B.ff B.dy B.ffsq acc
def dg3 (acc : Vec F S1x1024 .f32) : Vec F S1x1024 .f32 := k0_pay42 B.dh (k0_pay39 (k0_pay22 B.x1)) acc
def dg2 (acc : Vec F S1x1024 .f32) : Vec F S1x1024 .f32 := k0_pay1 (k0_pay45 B.dy B.dx B.mix) acc

end Blk

/-- A load of the weights' scratch right after the two copies reads the joined halves there. -/
theorem readCov_joined {sig : RefSig} {κ : Kind} {sp : Space} (v : View sig κ sp S4x1024x1024 .bf16) (a b : Vec F S4x512x1024 .bf16) (r : Rect S4x1024x1024) :
    v.readCov [⟨Rect.unit ![0, 512, 0] ![4, 512, 1024] inb_S4x1024x1024_S4x512x1024_0_512_0, b⟩,
      ⟨Rect.unit ![0, 0, 0] ![4, 512, 1024] inb_S4x1024x1024_S4x512x1024_0_0_0, a⟩] r.toLoadRect = View.ld (joined a b) r := by
  rw [View.readCov_eq_canon']; rfl

end Cert.KernelIdeal.Mlp

end
-- ==== Proof.Mlp.First.lean ====
/- The kernel body at the first grid point: it copies the weights into scratch, clears the four accumulators and then does
   the block's arithmetic. -/
module

public import proofs.«01_k».proof.Proof.Mlp.Block
public import proofs.«01_k».proof.Proof.Gen.KernelIdeal.Frame.Runs
public import Idealize.ShloMosaic.Lib.Pipeline.ValueKit
public import Idealize.ShloMosaic.Lib.Pipeline.ReadBack

@[expose] public section

set_option maxRecDepth 16384
-- two copies at once into disjoint halves of one scratch
set_option sl_exec.dmaWindow true
set_option sl_exec.dmaWindowSet true

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (i : grid0.Coords)
variable (arg1 : Memref sig .tc .vmem S256x1024 .bf16) (harg1 : arg1.IsWhole)
variable (arg2 : Memref sig .tc .vmem S256x1024 .f32) (harg2 : arg2.IsWhole)
variable (arg3 : Memref sig .tc .vmem S256x1024 .f32) (harg3 : arg3.IsWhole)
variable (arg4 : Memref sig .tc .vmem S256x1024 .f32) (harg4 : arg4.IsWhole)
variable (arg5 : Memref sig .tc .vmem S1x1024 .f32) (harg5 : arg5.IsWhole)
variable (arg6 : Memref sig .tc .vmem S1x1024 .f32) (harg6 : arg6.IsWhole)
variable (arg7 : Memref sig .tc .vmem S1x1024 .f32) (harg7 : arg7.IsWhole)
variable (arg12 : Memref sig .tc .vmem S256x4096 .bf16) (harg12 : arg12.IsWhole)
variable (arg13 : Memref sig .tc .vmem S256x1024 .bf16) (harg13 : arg13.IsWhole)
variable (arg14 : Memref sig .tc .vmem S256x4096 .bf16) (harg14 : arg14.IsWhole)
variable (arg15 : Memref sig .tc .vmem S256x1024 .f32) (harg15 : arg15.IsWhole)
variable (arg16 : Memref sig .tc .vmem S256x1024 .bf16) (harg16 : arg16.IsWhole)
variable (arg17 : Memref sig .tc .vmem S8x128 .f32) (harg17 : arg17.IsWhole)
variable (arg18 : Memref sig .tc .vmem S1x1024 .f32) (harg18 : arg18.IsWhole)
variable (arg19 : Memref sig .tc .vmem S1x1024 .f32) (harg19 : arg19.IsWhole)
variable (arg20 : Memref sig .tc .vmem S1x1024 .f32) (harg20 : arg20.IsWhole)
variable (arg21 : Memref sig .tc .vmem S4x1024x1024 .bf16) (harg21 : arg21.IsWhole)
variable (arg22 : Memref sig .tc .vmem S4x1024x1024 .bf16) (harg22 : arg22.IsWhole)
variable (arg23 : Memref sig .tc .vmem S256x4096 .f32) (harg23 : arg23.IsWhole)
variable (fh0 : HbBuf0 (F := F) c hbM0_0) (fh1 : HbBuf0 (F := F) c hbM0_1) (fh2 : HbBuf0 (F := F) c hbM0_2) (fh3 : HbBuf0 (F := F) c hbM0_3)

set_option maxHeartbeats 8000000 in
/-- From any scratch and any output buffers, with the four copies' semaphores at zero, the body leaves the block's outputs, the accumulators advanced from zero, and the weights in scratch. -/
theorem first (hc0 : cond0_0 i) (h : Vec F S256x1024 .bf16) (x1 mix tgt : Vec F S256x1024 .f32) (g4 g3 g2 : Vec F S1x1024 .f32) (B : Blk F) (hB : B = ⟨h, x1, mix, tgt, g4, g3, g2, joined fh0 fh1, joined fh2 fh3⟩) (W : Waits sig Unit) (K : PUnit → sProp 𝕄) :
    iprop(owns (c : Thread nD τ) arg1 fullShare h ∗ owns (c : Thread nD τ) arg2 fullShare x1 ∗ owns (c : Thread nD τ) arg3 fullShare mix ∗
        owns (c : Thread nD τ) arg4 fullShare tgt ∗ owns (c : Thread nD τ) arg5 fullShare g4 ∗ owns (c : Thread nD τ) arg6 fullShare g3 ∗
        owns (c : Thread nD τ) arg7 fullShare g2 ∗ (∃ d, owns (c : Thread nD τ) arg12 fullShare d) ∗ (∃ d, owns (c : Thread nD τ) arg13 fullShare d) ∗
        (∃ d, owns (c : Thread nD τ) arg14 fullShare d) ∗ (∃ d, owns (c : Thread nD τ) arg15 fullShare d) ∗ (∃ d, owns (c : Thread nD τ) arg16 fullShare d) ∗
        (∃ d, owns (c : Thread nD τ) arg17 fullShare d) ∗ (∃ d, owns (c : Thread nD τ) arg18 fullShare d) ∗ (∃ d, owns (c : Thread nD τ) arg19 fullShare d) ∗
        (∃ d, owns (c : Thread nD τ) arg20 fullShare d) ∗ (∃ d, owns (c : Thread nD τ) arg21 fullShare d) ∗ (∃ d, owns (c : Thread nD τ) arg22 fullShare d) ∗
        (∃ d, owns (c : Thread nD τ) arg23 fullShare d) ∗
        semVal ((c : Thread nD τ), SemLoc.dma 25) 0 ∗ semVal ((c : Thread nD τ), SemLoc.dma 26) 0 ∗ semVal ((c : Thread nD τ), SemLoc.dma 27) 0 ∗
        semVal ((c : Thread nD τ), SemLoc.dma 28) 0 ∗ hbPt0 c hbM0_0 fh0 ∗ hbPt0 c hbM0_1 fh1 ∗ hbPt0 c hbM0_2 fh2 ∗ hbPt0 c hbM0_3 fh3 ∗ owes (c : Thread nD τ) 0 W
        ∗ (iprop(owns (c : Thread nD τ) arg1 fullShare h ∗ owns (c : Thread nD τ) arg2 fullShare x1 ∗ owns (c : Thread nD τ) arg3 fullShare mix ∗
            owns (c : Thread nD τ) arg4 fullShare tgt ∗ owns (c : Thread nD τ) arg5 fullShare g4 ∗ owns (c : Thread nD τ) arg6 fullShare g3 ∗
            owns (c : Thread nD τ) arg7 fullShare g2 ∗ owns (c : Thread nD τ) arg12 fullShare B.act ∗ owns (c : Thread nD τ) arg13 fullShare B.dff ∗
            owns (c : Thread nD τ) arg14 fullShare B.dup ∗ owns (c : Thread nD τ) arg15 fullShare B.dx1 ∗ owns (c : Thread nD τ) arg16 fullShare B.dmix ∗
            owns (c : Thread nD τ) arg17 fullShare (B.loss k0_pay2) ∗ owns (c : Thread nD τ) arg18 fullShare (B.dg4 k0_pay3) ∗
            owns (c : Thread nD τ) arg19 fullShare (B.dg3 k0_pay4) ∗ owns (c : Thread nD τ) arg20 fullShare (B.dg2 k0_pay5) ∗
            owns (c : Thread nD τ) arg21 fullShare (joined fh0 fh1) ∗ owns (c : Thread nD τ) arg22 fullShare (joined fh2 fh3) ∗
            (∃ d, owns (c : Thread nD τ) arg23 fullShare d) ∗
            semVal ((c : Thread nD τ), SemLoc.dma 25) 0 ∗ semVal ((c : Thread nD τ), SemLoc.dma 26) 0 ∗ semVal ((c : Thread nD τ), SemLoc.dma 27) 0 ∗
            semVal ((c : Thread nD τ), SemLoc.dma 28) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
      ⊢ wp frame (wpE (defs₀ (F := F)) Variants.none c none) Set.univ (cc0_mlp_core i arg1 harg1 arg2 harg2 arg3 harg3 arg4 harg4 arg5 harg5 arg6 harg6 arg7 harg7
        (Memref.whole main_v29) (Memref.isWhole_whole _) (Memref.whole main_v30) (Memref.isWhole_whole _) (Memref.whole main_v33) (Memref.isWhole_whole _) (Memref.whole main_v34) (Memref.isWhole_whole _)
        arg12 harg12 arg13 harg13 arg14 harg14 arg15 harg15 arg16 harg16 arg17 harg17 arg18 harg18 arg19 harg19 arg20 harg20 arg21 harg21 arg22 harg22 arg23 harg23 cc0_scratch3) K := by
  simp only [cc0_mlp_core_eq_skeleton]; unfold cc0_mlp_core_skel
  simp only [k0_part2_eq_skeleton, k0_part1_eq_skeleton, k0_part3_eq_skeleton, k0_part4_eq_skeleton, k0_part5_eq_skeleton, k0_part6_eq_skeleton, k0_part7_eq_skeleton, k0_part8_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hq0, Hq1, Hq2, Hq3, Hh0, Hh1, Hh2, Hh3, HW, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0)
  sl_step
  iapply Hk
  have e0 : ReadAs.same.apply (View.read (Elt F) (View.whole main_v29) fh0) = fh0 := rfl
  have e1 : ReadAs.same.apply (View.read (Elt F) (View.whole main_v30) fh1) = fh1 := rfl
  have e2 : ReadAs.same.apply (View.read (Elt F) (View.whole main_v33) fh2) = fh2 := rfl
  have e3 : ReadAs.same.apply (View.read (Elt F) (View.whole main_v34) fh3) = fh3 := rfl
  have hu : joined fh0 fh1 = B.up := by rw [hB]
  have hd : joined fh2 fh3 = B.dn := by rw [hB]
  have eh : h = B.h := by rw [hB]
  have ex : x1 = B.x1 := by rw [hB]
  have em : mix = B.mix := by rw [hB]
  have et : tgt = B.tgt := by rw [hB]
  have e4 : g4 = B.g4 := by rw [hB]
  have e5 : g3 = B.g3 := by rw [hB]
  have e6 : g2 = B.g2 := by rw [hB]
  clear hB
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H12]
  · iexists _; isplitr; swap; · iexact H12
    ipureintro
    refine (View.read_writes_eq_canon (Val := Elt F) _ _ _ ?_).trans ?_; · exact View.cover_of_tiledL _ S256x1024.size (by sl_kernel_rfl)
    generalize hR : B.act = R
    frame_open
    (try simp (disch := decide) only [↓ View.readCov_skip, ↓ View.readCov_cons_toLoadRect, ↓ View.readCov_fill])
    frame_out
    (try simp only [readCov_joined, e0, e1, e2, e3, hu, hd])
    clear hu hd; subst hR eh ex em et e4 e5 e6; rfl
  isplitl [H13]
  · iexists _; isplitr; swap; · iexact H13
    ipureintro
    refine (View.read_writes_eq_canon (Val := Elt F) _ _ _ ?_).trans ?_; · exact View.cover_of_tiledL _ S256x1024.size (by sl_kernel_rfl)
    generalize hR : B.dff = R
    frame_open
    (try simp (disch := decide) only [↓ View.readCov_skip, ↓ View.readCov_cons_toLoadRect, ↓ View.readCov_fill])
    frame_out
    (try simp only [readCov_joined, e0, e1, e2, e3, hu, hd])
    clear hu hd; subst hR eh ex em et e4 e5 e6; rfl
  isplitl [H14]
  · iexists _; isplitr; swap; · iexact H14
    ipureintro
    refine (View.read_writes_eq_canon (Val := Elt F) _ _ _ ?_).trans ?_; · exact View.cover_of_tiledL _ S256x1024.size (by sl_kernel_rfl)
    generalize hR : B.dup = R
    frame_open
    (try simp (disch := decide) only [↓ View.readCov_skip, ↓ View.readCov_cons_toLoadRect, ↓ View.readCov_fill])
    frame_out
    (try simp only [readCov_joined, e0, e1, e2, e3, hu, hd])
    clear hu hd; subst hR eh ex em et e4 e5 e6; rfl
  isplitl [H15]
  · iexists _; isplitr; swap; · iexact H15
    ipureintro
    refine (View.read_writes_eq_canon (Val := Elt F) _ _ _ ?_).trans ?_; · exact View.cover_of_tiledL _ S256x1024.size (by sl_kernel_rfl)
    generalize hR : B.dx1 = R
    frame_open
    (try simp (disch := decide) only [↓ View.readCov_skip, ↓ View.readCov_cons_toLoadRect, ↓ View.readCov_fill])
    frame_out
    (try simp only [readCov_joined, e0, e1, e2, e3, hu, hd])
    clear hu hd; subst hR eh ex em et e4 e5 e6; rfl
  isplitl [H16]
  · iexists _; isplitr; swap; · iexact H16
    ipureintro
    refine (View.read_writes_eq_canon (Val := Elt F) _ _ _ ?_).trans ?_; · exact View.cover_of_tiledL _ S256x1024.size (by sl_kernel_rfl)
    generalize hR : B.dmix = R
    frame_open
    (try simp (disch := decide) only [↓ View.readCov_skip, ↓ View.readCov_cons_toLoadRect, ↓ View.readCov_fill])
    frame_out
    (try simp only [readCov_joined, e0, e1, e2, e3, hu, hd])
    clear hu hd; subst hR eh ex em et e4 e5 e6; rfl
  isplitl [H17]
  · iexists _; isplitr; swap; · iexact H17
    ipureintro
    refine (View.read_writes_eq_canon (Val := Elt F) _ _ _ ?_).trans ?_; · exact View.cover_of_tiledL _ S8x128.size (by sl_kernel_rfl)
    generalize hR : B.loss k0_pay2 = R
    frame_open
    (try simp (disch := decide) only [↓ View.readCov_skip, ↓ View.readCov_cons_toLoadRect, ↓ View.readCov_fill])
    frame_out
    (try simp only [readCov_joined, e0, e1, e2, e3, hu, hd])
    clear hu hd; subst hR eh ex em et e4 e5 e6; rfl
  isplitl [H18]
  · iexists _; isplitr; swap; · iexact H18
    ipureintro
    refine (View.read_writes_eq_canon (Val := Elt F) _ _ _ ?_).trans ?_; · exact View.cover_of_tiledL _ S1x1024.size (by sl_kernel_rfl)
    generalize hR : B.dg4 k0_pay3 = R
    frame_open
    (try simp (disch := decide) only [↓ View.readCov_skip, ↓ View.readCov_cons_toLoadRect, ↓ View.readCov_fill])
    frame_out
    (try simp only [readCov_joined, e0, e1, e2, e3, hu, hd])
    clear hu hd; subst hR eh ex em et e4 e5 e6; rfl
  isplitl [H19]
  · iexists _; isplitr; swap; · iexact H19
    ipureintro
    refine (View.read_writes_eq_canon (Val := Elt F) _ _ _ ?_).trans ?_; · exact View.cover_of_tiledL _ S1x1024.size (by sl_kernel_rfl)
    generalize hR : B.dg3 k0_pay4 = R
    frame_open
    (try simp (disch := decide) only [↓ View.readCov_skip, ↓ View.readCov_cons_toLoadRect, ↓ View.readCov_fill])
    frame_out
    (try simp only [readCov_joined, e0, e1, e2, e3, hu, hd])
    clear hu hd; subst hR eh ex em et e4 e5 e6; rfl
  isplitl [H20]
  · iexists _; isplitr; swap; · iexact H20
    ipureintro
    refine (View.read_writes_eq_canon (Val := Elt F) _ _ _ ?_).trans ?_; · exact View.cover_of_tiledL _ S1x1024.size (by sl_kernel_rfl)
    generalize hR : B.dg2 k0_pay5 = R
    frame_open
    (try simp (disch := decide) only [↓ View.readCov_skip, ↓ View.readCov_cons_toLoadRect, ↓ View.readCov_fill])
    frame_out
    (try simp only [readCov_joined, e0, e1, e2, e3, hu, hd])
    clear hu hd; subst hR eh ex em et e4 e5 e6; rfl
  isplitl [H21]
  · iexists _; isplitr; swap; · iexact H21
    ipureintro
    refine (View.read_writes_eq_canon (Val := Elt F) _ _ _ ?_).trans ?_; · exact View.cover_of_tiledL _ S4x512x1024.size (by sl_kernel_rfl)
    frame_open; rfl
  isplitl [H22]
  · iexists _; isplitr; swap; · iexact H22
    ipureintro
    refine (View.read_writes_eq_canon (Val := Elt F) _ _ _ ?_).trans ?_; · exact View.cover_of_tiledL _ S4x512x1024.size (by sl_kernel_rfl)
    frame_open; rfl
  isplitl [H23]
  · iexists _; iexists _; isplitr; swap; · iexact H23
    ipureintro; rfl
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [Hh2]; · iexact Hh2
  isplitl [Hh3]; · iexact Hh3
  iexists _; iexact HW

end Cert.KernelIdeal.Mlp

end
-- ==== Proof.Mlp.Later.lean ====
/- The kernel body at a later grid point: the weights stand in scratch, the accumulators hold what the point before left. -/
module

public import proofs.«01_k».proof.Proof.Mlp.First
public import proofs.«01_k».proof.Proof.Gen.KernelIdeal.Frame.Runs
public import Idealize.ShloMosaic.Lib.Pipeline.ValueKit
public import Idealize.ShloMosaic.Lib.Pipeline.ReadBack

@[expose] public section

set_option maxRecDepth 16384
-- two copies at once into disjoint halves of one scratch
set_option sl_exec.dmaWindow true
set_option sl_exec.dmaWindowSet true

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (i : grid0.Coords)
variable (arg1 : Memref sig .tc .vmem S256x1024 .bf16) (harg1 : arg1.IsWhole)
variable (arg2 : Memref sig .tc .vmem S256x1024 .f32) (harg2 : arg2.IsWhole)
variable (arg3 : Memref sig .tc .vmem S256x1024 .f32) (harg3 : arg3.IsWhole)
variable (arg4 : Memref sig .tc .vmem S256x1024 .f32) (harg4 : arg4.IsWhole)
variable (arg5 : Memref sig .tc .vmem S1x1024 .f32) (harg5 : arg5.IsWhole)
variable (arg6 : Memref sig .tc .vmem S1x1024 .f32) (harg6 : arg6.IsWhole)
variable (arg7 : Memref sig .tc .vmem S1x1024 .f32) (harg7 : arg7.IsWhole)
variable (arg12 : Memref sig .tc .vmem S256x4096 .bf16) (harg12 : arg12.IsWhole)
variable (arg13 : Memref sig .tc .vmem S256x1024 .bf16) (harg13 : arg13.IsWhole)
variable (arg14 : Memref sig .tc .vmem S256x4096 .bf16) (harg14 : arg14.IsWhole)
variable (arg15 : Memref sig .tc .vmem S256x1024 .f32) (harg15 : arg15.IsWhole)
variable (arg16 : Memref sig .tc .vmem S256x1024 .bf16) (harg16 : arg16.IsWhole)
variable (arg17 : Memref sig .tc .vmem S8x128 .f32) (harg17 : arg17.IsWhole)
variable (arg18 : Memref sig .tc .vmem S1x1024 .f32) (harg18 : arg18.IsWhole)
variable (arg19 : Memref sig .tc .vmem S1x1024 .f32) (harg19 : arg19.IsWhole)
variable (arg20 : Memref sig .tc .vmem S1x1024 .f32) (harg20 : arg20.IsWhole)
variable (arg21 : Memref sig .tc .vmem S4x1024x1024 .bf16) (harg21 : arg21.IsWhole)
variable (arg22 : Memref sig .tc .vmem S4x1024x1024 .bf16) (harg22 : arg22.IsWhole)
variable (arg23 : Memref sig .tc .vmem S256x4096 .f32) (harg23 : arg23.IsWhole)
variable (fh0 : HbBuf0 (F := F) c hbM0_0) (fh1 : HbBuf0 (F := F) c hbM0_1) (fh2 : HbBuf0 (F := F) c hbM0_2) (fh3 : HbBuf0 (F := F) c hbM0_3)

set_option maxHeartbeats 8000000 in
/-- From the weights in scratch and the accumulators at `a4` … `a7`, the body leaves the block's outputs, the accumulators advanced by the block. -/
theorem later (hc0 : ¬cond0_0 i) (h : Vec F S256x1024 .bf16) (x1 mix tgt : Vec F S256x1024 .f32) (g4 g3 g2 : Vec F S1x1024 .f32) (u d : Vec F S4x1024x1024 .bf16) (B : Blk F) (hB : B = ⟨h, x1, mix, tgt, g4, g3, g2, u, d⟩) (a4 : Vec F S8x128 .f32) (a5 a6 a7 : Vec F S1x1024 .f32) (W : Waits sig Unit) (K : PUnit → sProp 𝕄) :
    iprop(owns (c : Thread nD τ) arg1 fullShare h ∗ owns (c : Thread nD τ) arg2 fullShare x1 ∗ owns (c : Thread nD τ) arg3 fullShare mix ∗
        owns (c : Thread nD τ) arg4 fullShare tgt ∗ owns (c : Thread nD τ) arg5 fullShare g4 ∗ owns (c : Thread nD τ) arg6 fullShare g3 ∗
        owns (c : Thread nD τ) arg7 fullShare g2 ∗ (∃ d, owns (c : Thread nD τ) arg12 fullShare d) ∗ (∃ d, owns (c : Thread nD τ) arg13 fullShare d) ∗
        (∃ d, owns (c : Thread nD τ) arg14 fullShare d) ∗ (∃ d, owns (c : Thread nD τ) arg15 fullShare d) ∗ (∃ d, owns (c : Thread nD τ) arg16 fullShare d) ∗
        owns (c : Thread nD τ) arg17 fullShare a4 ∗ owns (c : Thread nD τ) arg18 fullShare a5 ∗ owns (c : Thread nD τ) arg19 fullShare a6 ∗
        owns (c : Thread nD τ) arg20 fullShare a7 ∗ owns (c : Thread nD τ) arg21 fullShare u ∗ owns (c : Thread nD τ) arg22 fullShare d ∗
        (∃ d, owns (c : Thread nD τ) arg23 fullShare d) ∗
        semVal ((c : Thread nD τ), SemLoc.dma 25) 0 ∗ semVal ((c : Thread nD τ), SemLoc.dma 26) 0 ∗ semVal ((c : Thread nD τ), SemLoc.dma 27) 0 ∗
        semVal ((c : Thread nD τ), SemLoc.dma 28) 0 ∗ hbPt0 c hbM0_0 fh0 ∗ hbPt0 c hbM0_1 fh1 ∗ hbPt0 c hbM0_2 fh2 ∗ hbPt0 c hbM0_3 fh3 ∗ owes (c : Thread nD τ) 0 W
        ∗ (iprop(owns (c : Thread nD τ) arg1 fullShare h ∗ owns (c : Thread nD τ) arg2 fullShare x1 ∗ owns (c : Thread nD τ) arg3 fullShare mix ∗
            owns (c : Thread nD τ) arg4 fullShare tgt ∗ owns (c : Thread nD τ) arg5 fullShare g4 ∗ owns (c : Thread nD τ) arg6 fullShare g3 ∗
            owns (c : Thread nD τ) arg7 fullShare g2 ∗ owns (c : Thread nD τ) arg12 fullShare B.act ∗ owns (c : Thread nD τ) arg13 fullShare B.dff ∗
            owns (c : Thread nD τ) arg14 fullShare B.dup ∗ owns (c : Thread nD τ) arg15 fullShare B.dx1 ∗ owns (c : Thread nD τ) arg16 fullShare B.dmix ∗
            owns (c : Thread nD τ) arg17 fullShare (B.loss a4) ∗ owns (c : Thread nD τ) arg18 fullShare (B.dg4 a5) ∗
            owns (c : Thread nD τ) arg19 fullShare (B.dg3 a6) ∗ owns (c : Thread nD τ) arg20 fullShare (B.dg2 a7) ∗ owns (c : Thread nD τ) arg21 fullShare u ∗
            owns (c : Thread nD τ) arg22 fullShare d ∗ (∃ d, owns (c : Thread nD τ) arg23 fullShare d) ∗
            semVal ((c : Thread nD τ), SemLoc.dma 25) 0 ∗ semVal ((c : Thread nD τ), SemLoc.dma 26) 0 ∗ semVal ((c : Thread nD τ), SemLoc.dma 27) 0 ∗
            semVal ((c : Thread nD τ), SemLoc.dma 28) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
      ⊢ wp frame (wpE (defs₀ (F := F)) Variants.none c none) Set.univ (cc0_mlp_core i arg1 harg1 arg2 harg2 arg3 harg3 arg4 harg4 arg5 harg5 arg6 harg6 arg7 harg7
        (Memref.whole main_v29) (Memref.isWhole_whole _) (Memref.whole main_v30) (Memref.isWhole_whole _) (Memref.whole main_v33) (Memref.isWhole_whole _) (Memref.whole main_v34) (Memref.isWhole_whole _)
        arg12 harg12 arg13 harg13 arg14 harg14 arg15 harg15 arg16 harg16 arg17 harg17 arg18 harg18 arg19 harg19 arg20 harg20 arg21 harg21 arg22 harg22 arg23 harg23 cc0_scratch3) K := by
  have eh : B.h = h := by rw [hB]
  have ex : B.x1 = x1 := by rw [hB]
  have em : B.mix = mix := by rw [hB]
  have et : B.tgt = tgt := by rw [hB]
  have e4 : B.g4 = g4 := by rw [hB]
  have e5 : B.g3 = g3 := by rw [hB]
  have e6 : B.g2 = g2 := by rw [hB]
  have eu : B.up = u := by rw [hB]
  have ed : B.dn = d := by rw [hB]
  clear hB; subst eh ex em et e4 e5 e6 eu ed
  simp only [cc0_mlp_core_eq_skeleton]; unfold cc0_mlp_core_skel
  simp only [k0_part2_eq_skeleton, k0_part3_eq_skeleton, k0_part4_eq_skeleton, k0_part5_eq_skeleton, k0_part6_eq_skeleton, k0_part7_eq_skeleton, k0_part8_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, Hq0, Hq1, Hq2, Hq3, Hh0, Hh1, Hh2, Hh3, HW, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg17.eq_unread hf17; obtain rfl := harg18.eq_unread hf18; obtain rfl := harg19.eq_unread hf19; obtain rfl := harg20.eq_unread hf20; obtain rfl := harg21.eq_unread hf21; obtain rfl := harg22.eq_unread hf22
  sl_exec (disch := first | sl_exact hc0)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H12]
  · iexists _; isplitr; swap; · iexact H12
    ipureintro
    refine (View.read_writes_eq_canon (Val := Elt F) _ _ _ ?_).trans ?_; · exact View.cover_of_tiledL _ S256x1024.size (by sl_kernel_rfl)
    frame_open; (try simp (disch := decide) only [↓ View.readCov_skip, ↓ View.readCov_cons_toLoadRect, ↓ View.readCov_fill]); frame_out; rfl
  isplitl [H13]
  · iexists _; isplitr; swap; · iexact H13
    ipureintro
    refine (View.read_writes_eq_canon (Val := Elt F) _ _ _ ?_).trans ?_; · exact View.cover_of_tiledL _ S256x1024.size (by sl_kernel_rfl)
    frame_open; (try simp (disch := decide) only [↓ View.readCov_skip, ↓ View.readCov_cons_toLoadRect, ↓ View.readCov_fill]); frame_out; rfl
  isplitl [H14]
  · iexists _; isplitr; swap; · iexact H14
    ipureintro
    refine (View.read_writes_eq_canon (Val := Elt F) _ _ _ ?_).trans ?_; · exact View.cover_of_tiledL _ S256x1024.size (by sl_kernel_rfl)
    frame_open; (try simp (disch := decide) only [↓ View.readCov_skip, ↓ View.readCov_cons_toLoadRect, ↓ View.readCov_fill]); frame_out; rfl
  isplitl [H15]
  · iexists _; isplitr; swap; · iexact H15
    ipureintro
    refine (View.read_writes_eq_canon (Val := Elt F) _ _ _ ?_).trans ?_; · exact View.cover_of_tiledL _ S256x1024.size (by sl_kernel_rfl)
    frame_open; (try simp (disch := decide) only [↓ View.readCov_skip, ↓ View.readCov_cons_toLoadRect, ↓ View.readCov_fill]); frame_out; rfl
  isplitl [H16]
  · iexists _; isplitr; swap; · iexact H16
    ipureintro
    refine (View.read_writes_eq_canon (Val := Elt F) _ _ _ ?_).trans ?_; · exact View.cover_of_tiledL _ S256x1024.size (by sl_kernel_rfl)
    frame_open; (try simp (disch := decide) only [↓ View.readCov_skip, ↓ View.readCov_cons_toLoadRect, ↓ View.readCov_fill]); frame_out; rfl
  isplitl [H17]
  · iexists _; isplitr; swap; · iexact H17
    ipureintro
    refine (View.read_writes_eq_canon (Val := Elt F) _ _ _ ?_).trans ?_; · exact View.cover_of_tiledL _ S8x128.size (by sl_kernel_rfl)
    frame_open; (try simp (disch := decide) only [↓ View.readCov_skip, ↓ View.readCov_cons_toLoadRect, ↓ View.readCov_fill]); frame_out; rfl
  isplitl [H18]
  · iexists _; isplitr; swap; · iexact H18
    ipureintro
    refine (View.read_writes_eq_canon (Val := Elt F) _ _ _ ?_).trans ?_; · exact View.cover_of_tiledL _ S1x1024.size (by sl_kernel_rfl)
    frame_open; (try simp (disch := decide) only [↓ View.readCov_skip, ↓ View.readCov_cons_toLoadRect, ↓ View.readCov_fill]); frame_out; rfl
  isplitl [H19]
  · iexists _; isplitr; swap; · iexact H19
    ipureintro
    refine (View.read_writes_eq_canon (Val := Elt F) _ _ _ ?_).trans ?_; · exact View.cover_of_tiledL _ S1x1024.size (by sl_kernel_rfl)
    frame_open; (try simp (disch := decide) only [↓ View.readCov_skip, ↓ View.readCov_cons_toLoadRect, ↓ View.readCov_fill]); frame_out; rfl
  isplitl [H20]
  · iexists _; isplitr; swap; · iexact H20
    ipureintro
    refine (View.read_writes_eq_canon (Val := Elt F) _ _ _ ?_).trans ?_; · exact View.cover_of_tiledL _ S1x1024.size (by sl_kernel_rfl)
    frame_open; (try simp (disch := decide) only [↓ View.readCov_skip, ↓ View.readCov_cons_toLoadRect, ↓ View.readCov_fill]); frame_out; rfl
  isplitl [H21]
  · iexists _; isplitr; · ipureintro; exact harg21.read_unread _
    iexact H21
  isplitl [H22]
  · iexists _; isplitr; · ipureintro; exact harg22.read_unread _
    iexact H22
  isplitl [H23]
  · iexists _; iexists _; isplitr; swap; · iexact H23
    ipureintro; rfl
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [Hh2]; · iexact Hh2
  isplitl [Hh3]; · iexact Hh3
  iexists _; iexact HW

end Cert.KernelIdeal.Mlp

end
-- ==== Proof.Mlp.Frame.lean ====
/- The kernel's run: one step of its pipeline is one grid point, whose outputs are the block's arithmetic (`Block`), whose
   accumulators advance from point to point, and which keeps the weights in scratch after the first point. -/
module

public import proofs.«01_k».proof.Proof.Mlp.Later
public import Idealize.ShloMosaic.Lib.Claim

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What grid point `t` works on: its blocks of the pipelined arrays, and the weights put together from their halves. -/
def blk (c : Dev nD) (t : Fin cfg0.N) : Blk F :=
  ⟨iblk m c 0 t, iblk m c 1 t, iblk m c 2 t, iblk m c 3 t, iblk m c 4 t, iblk m c 5 t, iblk m c 6 t,
    joined (V m c main_v29) (V m c main_v30), joined (V m c main_v33) (V m c main_v34)⟩

/-- An accumulator after point `n`: started at `z`, advanced by `f` at every point. -/
def accum {α : Type} (f : Fin cfg0.N → α → α) (z : α) : (n : ℕ) → n < cfg0.N → α
  | 0, h => f ⟨0, h⟩ z
  | n + 1, h => f ⟨n + 1, h⟩ (accum f z n (Nat.lt_of_succ_lt h))

theorem accum_zero {α : Type} (f : Fin cfg0.N → α → α) (z : α) (t : Fin cfg0.N) (h : t.val = 0) : accum f z t.val t.isLt = f t z := by
  obtain ⟨n, hn⟩ := t; cases n with
  | zero => rfl
  | succ n => exact absurd h (Nat.succ_ne_zero n)
theorem accum_pos {α : Type} (f : Fin cfg0.N → α → α) (z : α) (t : Fin cfg0.N) (h : t.val ≠ 0) :
    accum f z t.val t.isLt = f t (accum f z (t.val - 1) (Nat.lt_of_le_of_lt (Nat.sub_le _ _) t.isLt)) := by
  obtain ⟨n, hn⟩ := t; cases n with
  | zero => exact absurd rfl h
  | succ n => rfl

/-- The loss and the three gains' gradients, after point `n`. -/
abbrev lossAt (c : Dev nD) : (n : ℕ) → n < cfg0.N → Vec F S8x128 .f32 := accum (fun t a => (blk m c t).loss a) k0_pay2
abbrev dg4At (c : Dev nD) : (n : ℕ) → n < cfg0.N → Vec F S1x1024 .f32 := accum (fun t a => (blk m c t).dg4 a) k0_pay3
abbrev dg3At (c : Dev nD) : (n : ℕ) → n < cfg0.N → Vec F S1x1024 .f32 := accum (fun t a => (blk m c t).dg3 a) k0_pay4
abbrev dg2At (c : Dev nD) : (n : ℕ) → n < cfg0.N → Vec F S1x1024 .f32 := accum (fun t a => (blk m c t).dg2 a) k0_pay5

/-- Between two points: the weights in scratch, the third scratch at anything, the copies' semaphores at zero, the weights' arrays unchanged. -/
def held (c : Dev nD) : sProp 𝕄 :=
  iprop(iprop(owns (c : Thread nD τ) scM0_0 fullShare (joined (V m c main_v29) (V m c main_v30))
        ∗ owns (c : Thread nD τ) scM0_1 fullShare (joined (V m c main_v33) (V m c main_v34)) ∗ (∃ d, owns (c : Thread nD τ) scM0_2 fullShare d))
      ∗ (∃ r, prngReg c r) ∗ iprop(semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0)
      ∗ iprop(hbPt0 c hbM0_0 (V m c main_v29) ∗ hbPt0 c hbM0_1 (V m c main_v30) ∗ hbPt0 c hbM0_2 (V m c main_v33) ∗ hbPt0 c hbM0_3 (V m c main_v34)))

/-- What the pipeline keeps before position `n`: at first what the launch gives, from then on `held`. -/
def between (c : Dev nD) : ℕ → sProp 𝕄
  | 0 => Pipeline.ΦD osem0 spec0 H0 (V m) c
  | _ + 1 => held m c

theorem between_pos (c : Dev nD) (n : ℕ) (h : n ≠ 0) : between m c n = held m c := by
  cases n with
  | zero => exact absurd rfl h
  | succ n => rfl

/-- The pipeline's arrays, what a point leaves in each window, and what holds between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (blk m c t).act
    | ⟨8, _⟩ => (blk m c t).dff
    | ⟨9, _⟩ => (blk m c t).dup
    | ⟨10, _⟩ => (blk m c t).dx1
    | ⟨11, _⟩ => (blk m c t).dmix
    | ⟨12, _⟩ => lossAt m c t.val t.isLt
    | ⟨13, _⟩ => dg4At m c t.val t.isLt
    | ⟨14, _⟩ => dg3At m c t.val t.isLt
    | ⟨15, _⟩ => dg2At m c t.val t.isLt
    | ⟨_ + 16, h⟩ => absurd h (Nat.not_lt.2 (Nat.le_add_left _ _))
  Φ t := between m c t.val
  q _ := fullShare
  owed _ := 0

theorem A_eq (c : Dev nD) (w : Fin cfg0.W) : (dats m 0 c).A w = V m c (Pipeline.arrRef spec0 w) := by
  dsimp only [dats]

/-- What a point leaves in each window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (blk m c t).act := by dsimp only [dats]
theorem after_8 (c : Dev nD) (t : Fin cfg0.N) : (dats m 0 c).after 8 t = (blk m c t).dff := by dsimp only [dats]
theorem after_9 (c : Dev nD) (t : Fin cfg0.N) : (dats m 0 c).after 9 t = (blk m c t).dup := by dsimp only [dats]
theorem after_10 (c : Dev nD) (t : Fin cfg0.N) : (dats m 0 c).after 10 t = (blk m c t).dx1 := by dsimp only [dats]
theorem after_11 (c : Dev nD) (t : Fin cfg0.N) : (dats m 0 c).after 11 t = (blk m c t).dmix := by dsimp only [dats]
theorem after_12 (c : Dev nD) (t : Fin cfg0.N) : (dats m 0 c).after 12 t = lossAt m c t.val t.isLt := by dsimp only [dats]
theorem after_13 (c : Dev nD) (t : Fin cfg0.N) : (dats m 0 c).after 13 t = dg4At m c t.val t.isLt := by dsimp only [dats]
theorem after_14 (c : Dev nD) (t : Fin cfg0.N) : (dats m 0 c).after 14 t = dg3At m c t.val t.isLt := by dsimp only [dats]
theorem after_15 (c : Dev nD) (t : Fin cfg0.N) : (dats m 0 c).after 15 t = dg2At m c t.val t.isLt := by dsimp only [dats]

/-- An input window holds its block when the body runs, -/
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
/-- and an accumulator, at a later point, what the point before left. -/
theorem before_12 (c : Dev nD) (t : Fin cfg0.N) (h0 : t.val ≠ 0) (d) :
    (dats m 0 c).before 12 t d = lossAt m c (t.val - 1) (Nat.lt_of_le_of_lt (Nat.sub_le _ _) t.isLt) := by
  have hN : t.val < 16 := lt_of_lt_of_eq t.isLt (show cfg0.N = 16 from N_0)
  rw [Dat.before_out_kept _ 12 rfl t (by omega) (Bool.eq_false_iff.mpr fun h => by have := (flush0_12 _).mp h; dsimp only at this; omega) (fun _ => rfl) (fun _ _ => rfl)]
  dsimp only [dats]
theorem before_13 (c : Dev nD) (t : Fin cfg0.N) (h0 : t.val ≠ 0) (d) :
    (dats m 0 c).before 13 t d = dg4At m c (t.val - 1) (Nat.lt_of_le_of_lt (Nat.sub_le _ _) t.isLt) := by
  have hN : t.val < 16 := lt_of_lt_of_eq t.isLt (show cfg0.N = 16 from N_0)
  rw [Dat.before_out_kept _ 13 rfl t (by omega) (Bool.eq_false_iff.mpr fun h => by have := (flush0_13 _).mp h; dsimp only at this; omega) (fun _ => rfl) (fun _ _ => rfl)]
  dsimp only [dats]
theorem before_14 (c : Dev nD) (t : Fin cfg0.N) (h0 : t.val ≠ 0) (d) :
    (dats m 0 c).before 14 t d = dg3At m c (t.val - 1) (Nat.lt_of_le_of_lt (Nat.sub_le _ _) t.isLt) := by
  have hN : t.val < 16 := lt_of_lt_of_eq t.isLt (show cfg0.N = 16 from N_0)
  rw [Dat.before_out_kept _ 14 rfl t (by omega) (Bool.eq_false_iff.mpr fun h => by have := (flush0_14 _).mp h; dsimp only at this; omega) (fun _ => rfl) (fun _ _ => rfl)]
  dsimp only [dats]
theorem before_15 (c : Dev nD) (t : Fin cfg0.N) (h0 : t.val ≠ 0) (d) :
    (dats m 0 c).before 15 t d = dg2At m c (t.val - 1) (Nat.lt_of_le_of_lt (Nat.sub_le _ _) t.isLt) := by
  have hN : t.val < 16 := lt_of_lt_of_eq t.isLt (show cfg0.N = 16 from N_0)
  rw [Dat.before_out_kept _ 15 rfl t (by omega) (Bool.eq_false_iff.mpr fun h => by have := (flush0_15 _).mp h; dsimp only at this; omega) (fun _ => rfl) (fun _ _ => rfl)]
  dsimp only [dats]

/-- What the body meets at point `t`, -/
def met (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it leaves. -/
def left (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 4000000 in
/-- One grid point: the first by `first`, every later one by `later`. -/
theorem point (c : Dev nD) (t : Fin cfg0.N) :
    met m c t ⊢ wp frame (wpE (defs₀ (F := F)) Variants.none c none) Set.univ (bodyAt0 t) (fun _ => left m c t) := by
  unfold met left bodyAt0
  simp only [before_0, before_1, before_2, before_3, before_4, before_5, before_6]
  rw [show (dats m 0 c).Φ t.succ = held m c from rfl, show (dats m 0 c).Φ t.castSucc = between m c t.val from rfl,
    after_0, after_1, after_2, after_3, after_4, after_5, after_6, after_7, after_8, after_9, after_10, after_11, after_12, after_13, after_14, after_15]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases hz : t.val = 0
  · rw [show between m c t.val = Pipeline.ΦD osem0 spec0 H0 (V m) c from by rw [hz]; rfl, PhiD0_eq]
    simp only [accum_zero _ _ t hz]
    unfold held
    iintro ⟨⟨⟨HS0, HS1, HS2⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    have hrun := fun K => first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (V m c main_v29) (V m c main_v30) (V m c main_v33) (V m c main_v34) ((hcond0_0 t).mpr (by omega)) (iblk m c 0 t) (iblk m c 1 t) (iblk m c 2 t) (iblk m c 3 t) (iblk m c 4 t) (iblk m c 5 t) (iblk m c 6 t) (blk m c t) rfl W K
    iapply (hrun _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    isplitl [HW]; · iexact HW
    iintro ⟨H0, H1, H2, H3, H4, H5, H6, H7, H8, H9, H10, H11, H12, H13, H14, H15, HS0, HS1, HS2, Hq0, Hq1, Hq2, Hq3, Hh0, Hh1, Hh2, Hh3, ⟨%W', HW⟩⟩
    isplitl [HS0 HS1 HS2 Hg Hq0 Hq1 Hq2 Hq3 Hh0 Hh1 Hh2 Hh3]
    · isplitl [HS0 HS1 HS2]
      · isplitl [HS0]; · iexact HS0
        isplitl [HS1]; · iexact HS1
        iexact HS2
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      isplitl [Hh1]; · iexact Hh1
      isplitl [Hh2]; · iexact Hh2
      iexact Hh3
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · rw [between_pos m c _ hz]
    simp only [accum_pos _ _ t hz, before_12 m c t hz, before_13 m c t hz, before_14 m c t hz, before_15 m c t hz]
    unfold held
    iintro ⟨⟨⟨HS0, HS1, HS2⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    have hrun := fun K => later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (V m c main_v29) (V m c main_v30) (V m c main_v33) (V m c main_v34) (fun h => hz (by have := (hcond0_0 t).mp h; omega)) (iblk m c 0 t) (iblk m c 1 t) (iblk m c 2 t) (iblk m c 3 t) (iblk m c 4 t) (iblk m c 5 t) (iblk m c 6 t) (joined (V m c main_v29) (V m c main_v30)) (joined (V m c main_v33) (V m c main_v34)) (blk m c t) rfl (lossAt m c (t.val - 1) (Nat.lt_of_le_of_lt (Nat.sub_le _ _) t.isLt)) (dg4At m c (t.val - 1) (Nat.lt_of_le_of_lt (Nat.sub_le _ _) t.isLt)) (dg3At m c (t.val - 1) (Nat.lt_of_le_of_lt (Nat.sub_le _ _) t.isLt)) (dg2At m c (t.val - 1) (Nat.lt_of_le_of_lt (Nat.sub_le _ _) t.isLt)) W K
    iapply (hrun _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexact H12
    isplitl [H13]; · iexact H13
    isplitl [H14]; · iexact H14
    isplitl [H15]; · iexact H15
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    isplitl [HW]; · iexact HW
    iintro ⟨H0, H1, H2, H3, H4, H5, H6, H7, H8, H9, H10, H11, H12, H13, H14, H15, HS0, HS1, HS2, Hq0, Hq1, Hq2, Hq3, Hh0, Hh1, Hh2, Hh3, ⟨%W', HW⟩⟩
    isplitl [HS0 HS1 HS2 Hg Hq0 Hq1 Hq2 Hq3 Hh0 Hh1 Hh2 Hh3]
    · isplitl [HS0 HS1 HS2]
      · isplitl [HS0]; · iexact HS0
        isplitl [HS1]; · iexact HS1
        iexact HS2
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      isplitl [Hh1]; · iexact Hh1
      isplitl [Hh2]; · iexact Hh2
      iexact Hh3
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem row (t : Fin cfg0.N) : defs₀ (F := F) .tc cfg0.body (cfg0.bodyArgs t (cfg0.slots t)) = bodyAt0 t := by
  unfold defs₀; rw [Defs.onTc_tc]

/-- Every point, in the pipeline's own words. -/
theorem body_obligation (c : Dev nD) : BodyObligation (dats (F := F) m 0 c) (defs₀ (F := F)) Variants.none () Set.univ := fun t => by
  rw [bigSep_W0, bigSep_W0, row]
  exact triple_restated (point m c t) rfl .rfl fun _ => .rfl

theorem enters (c : Dev nD) : Pipeline.ΦD osem0 spec0 H0 (V m) c ⊢ (dats m 0 c).Φ 0 := by
  rw [show (dats m 0 c).Φ 0 = Pipeline.ΦD osem0 spec0 H0 (V m) c from rfl]

/-- After the last point what the launch gave can be given back. -/
theorem leaves (c : Dev nD) : (dats m 0 c).Φ (Fin.last cfg0.N) ⊢ Pipeline.ΦD osem0 spec0 H0 (V m) c := by
  rw [show (dats m 0 c).Φ (Fin.last cfg0.N) = between m c (Fin.last cfg0.N).val from rfl,
    between_pos m c _ (by rw [Fin.val_last]; have : cfg0.N = 16 := N_0; omega), PhiD0_eq]
  unfold held
  iintro ⟨⟨HS0, HS1, HS2⟩, Hr⟩
  isplitl [HS0 HS1 HS2]
  · isplitl [HS0]; · iexists _; iexact HS0
    isplitl [HS1]; · iexists _; iexact HS1
    iexact HS2
  iexact Hr

set_option backward.isDefEq.respectTransparency.types false in
/-- The whole program terminates; its pipelined arrays end as `dats` says, every semaphore at zero. -/
theorem run : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := enters m) (hout := leaves m)

theorem run_arrays : θ_run defs (onTc (τ := τ) (main (F := F))) (s₀ m ρ) (Pipeline.FramePost cfgs (dats m) 0 (V m)) :=
  (θ_run defs _ _).mono (fun _ h => h.1) (run m ρ)

/-- The frame: the arguments end unchanged, every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_arrays m ρ)) ((θ_run defs _ _).mono (fun _ h => h.2) (run m ρ))

end Cert.KernelIdeal.Mlp

end
-- ==== Proof.Mlp.Same.lean ====
/- The kernel as compiled and the kernel over the reals are the same text, so the one run serves both. -/
module

public import proofs.«01_k».proof.Proof.Mlp.Frame
public import proofs.«01_k».proof.Proof.Gen.Kernel
public import Idealize.ShloMosaic.Lib.Claim

@[expose] public section

set_option maxRecDepth 16384

namespace Cert.KernelIdeal.Mlp

open Idealize.ShloMosaic Idealize.ShloMosaic.TcCoe Idealize.ShloMosaic.Tactic Idealize.SL.Sem

/-- What a run of the compiled kernel ends in is what a run of the same text in the other namespace ends in. -/
theorem same_run (m : (ℓ : Loc Cert.Kernel.nD Cert.Kernel.τ Cert.Kernel.sig) → Buf (Elt Bits) ℓ) (ρ : Dev Cert.Kernel.nD → PrngReg)
    (Q : PUnit × MemSt Cert.Kernel.nD Cert.Kernel.τ Cert.Kernel.sig (Elt Bits) → Prop) :
    θ_run (Cert.Kernel.defs (F := Bits)) (onTc (τ := Cert.Kernel.τ) (Cert.Kernel.main (F := Bits))) ⟨m, fun _ => 0, ρ⟩ Q
      = θ_run (Cert.KernelIdeal.defs (F := Bits)) (onTc (τ := Cert.KernelIdeal.τ) (Cert.KernelIdeal.main (F := Bits))) ⟨m, fun _ => 0, ρ⟩ Q := by
  sl_kernel_rfl

end Cert.KernelIdeal.Mlp
-- ==== Proof.Mlp.Spec.lean ====
/- One token's share of the loss and of the gradients, over the extended reals: the squared-ReLU MLP between its norms, read row by row. -/
module

public import Idealize.ShloMosaic.PureOps.Ideal
public import Idealize.ShloMosaic.PureOps.Ideal.Laws

@[expose] public section

noncomputable section

namespace Cert.Mlp

open Idealize.ShloMosaic

/-- The width 1024, the constant under the norms' roots, and the factors of the loss and of its gradient, as the programs' literals denote them. -/
abbrev width : EReal := Ideal.ofBits .f32 0x44800000#32
abbrev eps : EReal := Ideal.ofBits .f32 0x358637BD#32
abbrev two : EReal := Ideal.ofBits .f32 0x40000000#32
abbrev halfMean : EReal := Ideal.ofBits .f32 0x3A000000#32
abbrev invWidth : EReal := Ideal.ofBits .f32 0x3A800000#32

/-- A row of the model's width. -/
abbrev Row : Type := Fin 1024 → EReal

/-- The mean square that a norm divides by, -/
def meanSq (v : Row) : EReal := Ideal.div (∑ k, v k * v k) width + eps
/-- its inverse root, -/
def scale (v : Row) : EReal := Ideal.rsqrt (meanSq v)
/-- the row divided by its root mean square, -/
def normed (v : Row) (c : Fin 1024) : EReal := v c * scale v
/-- and the gradient that comes back through the norm with gain `g`, from the gradient `d` of its result. -/
def normBack (v g d : Row) (c : Fin 1024) : EReal :=
  scale v * (d c * g c - normed v c * Ideal.div (∑ k, d k * g k * normed v k) width)

/-- The weights and the gains. -/
structure Par where
  up : Fin 1024 → Fin 4096 → EReal
  dn : Fin 4096 → Fin 1024 → EReal
  g4 : Row
  g3 : Row
  g2 : Row

/-- A token: the normed input of the MLP, the residual, the mixer's output and the target. -/
structure Tok where
  h : Row
  x1 : Row
  mix : Row
  tgt : Row

/-- The hidden unit `c` of slab `j`: the weights lie in four slabs of 1024 hidden units. -/
def unit (j : Fin 4) (c : Fin 1024) : Fin 4096 := ⟨1024 * j.val + c.val, by omega⟩

/-- A sum over the hidden units goes slab by slab. -/
theorem sum_units (F : Fin 4096 → EReal) :
    ∑ f, F f = ∑ c, F (unit 0 c) + ∑ c, F (unit 1 c) + ∑ c, F (unit 2 c) + ∑ c, F (unit 3 c) := by
  rw [Fin.sum_univ_add (a := 3072) (b := 1024) F, Fin.sum_univ_add (a := 2048) (b := 1024) fun i => F (Fin.castAdd 1024 i),
    Fin.sum_univ_add (a := 1024) (b := 1024) fun i => F (Fin.castAdd 1024 (Fin.castAdd 1024 i))]
  refine congrArg₂ _ (congrArg₂ _ (congrArg₂ _ ?_ ?_) ?_) ?_ <;> refine Finset.sum_congr rfl fun c _ => congrArg F (Fin.ext ?_) <;>
    simp [unit, Nat.add_comm]

variable (P : Par) (t : Tok)

/-- The hidden unit `f` behind its ReLU, -/
def relu (f : Fin 4096) : EReal := max (∑ k, t.h k * P.up k f) 0
/-- squared, -/
def act (f : Fin 4096) : EReal := relu P t f * relu P t f
/-- and all of them projected down. -/
def ff : Row := fun c => ∑ f, act P t f * P.dn f c
/-- The block's output less the target, -/
def err : Row := fun c => t.x1 c + normed (ff P t) c * P.g4 c - t.tgt c
/-- the loss's gradient there, -/
def dy : Row := fun c => err P t c * invWidth
/-- at the down projection, -/
def dff : Row := normBack (ff P t) P.g4 (dy P t)
/-- at the hidden units, -/
def dup (f : Fin 4096) : EReal := (∑ c, dff P t c * P.dn f c) * (two * relu P t f)
/-- at the normed input, -/
def dh : Row := fun k => ∑ f, dup P t f * P.up k f
/-- at the residual, -/
def dx1 : Row := fun c => dy P t c + normBack t.x1 P.g3 (dh P t) c
/-- and at the mixer's output. -/
def dmix : Row := normBack t.mix P.g2 (dx1 P t)

end Cert.Mlp

end
-- ==== Proof.Mlp.Rows.lean ====
/- A block's arithmetic is the specification's, one row at a time. -/
module

public import proofs.«01_k».proof.Proof.Mlp.Block
public import proofs.«01_k».proof.Proof.Mlp.Spec
public import Idealize.ShloMosaic.Lib.Pointwise

@[expose] public section

set_option maxRecDepth 16384

noncomputable section

namespace Cert.KernelIdeal.Mlp

open Idealize.ShloMosaic Cert.KernelIdeal Cert.KernelIdeal.Gen

namespace Blk

variable (B : Blk Ideal)

/-- What a block's arrays are to the specification: the weights from their slabs, the gains, and a token per row. -/
structure Reads (P : Cert.Mlp.Par) (T : Fin 256 → Cert.Mlp.Tok) : Prop where
  up : ∀ j k c, B.up (ix3 j k c) = P.up k (Cert.Mlp.unit j c)
  dn : ∀ j k c, B.dn (ix3 j k c) = P.dn (Cert.Mlp.unit j k) c
  g4 : ∀ c, B.g4 (ix2 0 c) = P.g4 c
  g3 : ∀ c, B.g3 (ix2 0 c) = P.g3 c
  g2 : ∀ c, B.g2 (ix2 0 c) = P.g2 c
  h : ∀ a c, B.h (ix2 a c) = (T a).h c
  x1 : ∀ a c, B.x1 (ix2 a c) = (T a).x1 c
  mix : ∀ a c, B.mix (ix2 a c) = (T a).mix c
  tgt : ∀ a c, B.tgt (ix2 a c) = (T a).tgt c

namespace Reads

variable {B} {P : Cert.Mlp.Par} {T : Fin 256 → Cert.Mlp.Tok} (R : B.Reads P T) (a : Fin 256) (c : Fin 1024)
include R

theorem relu0 : B.relu0 (ix2 a c) = Cert.Mlp.relu P (T a) (Cert.Mlp.unit 0 c) := by
  pointwise [Blk.relu0, slab0, k0_pay8, k0_pay7, k0_pay6]
  simp only [R.h, R.up, Cert.Mlp.relu]

theorem act0 : B.act0 (ix2 a c) = Cert.Mlp.act P (T a) (Cert.Mlp.unit 0 c) := by
  pointwise [Blk.act0, slab0, k0_pay9, k0_pay7, k0_pay6]
  simp only [R.h, R.up, Cert.Mlp.relu, Cert.Mlp.act]

theorem relu1 : B.relu1 (ix2 a c) = Cert.Mlp.relu P (T a) (Cert.Mlp.unit 1 c) := by
  pointwise [Blk.relu1, slab1, k0_pay12, k0_pay11, k0_pay6]
  simp only [R.h, R.up, Cert.Mlp.relu]

theorem act1 : B.act1 (ix2 a c) = Cert.Mlp.act P (T a) (Cert.Mlp.unit 1 c) := by
  pointwise [Blk.act1, slab1, k0_pay13, k0_pay11, k0_pay6]
  simp only [R.h, R.up, Cert.Mlp.relu, Cert.Mlp.act]

theorem relu2 : B.relu2 (ix2 a c) = Cert.Mlp.relu P (T a) (Cert.Mlp.unit 2 c) := by
  pointwise [Blk.relu2, slab2, k0_pay15, k0_pay14, k0_pay6]
  simp only [R.h, R.up, Cert.Mlp.relu]

theorem act2 : B.act2 (ix2 a c) = Cert.Mlp.act P (T a) (Cert.Mlp.unit 2 c) := by
  pointwise [Blk.act2, slab2, k0_pay16, k0_pay14, k0_pay6]
  simp only [R.h, R.up, Cert.Mlp.relu, Cert.Mlp.act]

theorem relu3 : B.relu3 (ix2 a c) = Cert.Mlp.relu P (T a) (Cert.Mlp.unit 3 c) := by
  pointwise [Blk.relu3, slab3, k0_pay19, k0_pay18, k0_pay6]
  simp only [R.h, R.up, Cert.Mlp.relu]

theorem act3 : B.act3 (ix2 a c) = Cert.Mlp.act P (T a) (Cert.Mlp.unit 3 c) := by
  pointwise [Blk.act3, slab3, k0_pay20, k0_pay18, k0_pay6]
  simp only [R.h, R.up, Cert.Mlp.relu, Cert.Mlp.act]

theorem ff : B.ff (ix2 a c) = Cert.Mlp.ff P (T a) c := by
  have e0 : ∀ x, k0_pay9 B.h (slab0 B.up) (ix2 a x) = Cert.Mlp.act P (T a) (Cert.Mlp.unit 0 x) := R.act0 a
  have e2 : ∀ x, k0_pay16 (k0_pay6 B.h) (slab2 B.up) (ix2 a x) = Cert.Mlp.act P (T a) (Cert.Mlp.unit 2 x) := R.act2 a
  pointwise [Blk.ff, Blk.ff2, slab0, slab1, slab2, slab3, k0_pay21, k0_pay17, k0_pay10] at e0 e2 ⊢
  simp only [e0, e2, R.act1, R.act3, R.dn, Cert.Mlp.ff, Cert.Mlp.sum_units]

theorem err : k0_pay23 B.ff2 B.act3 (slab3 B.dn) B.g4 B.x1 B.tgt (ix2 a c) = Cert.Mlp.err P (T a) c := by
  have e : ∀ x, k0_pay21 B.ff2 B.act3 (slab3 B.dn) (ix2 a x) = Cert.Mlp.ff P (T a) x := R.ff a
  pointwise [k0_pay23, k0_pay22]
  simp only [e, R.x1, R.tgt, R.g4, Cert.Mlp.err, Cert.Mlp.normed, Cert.Mlp.scale, Cert.Mlp.meanSq]

theorem dy : B.dy (ix2 a c) = Cert.Mlp.dy P (T a) c := by
  have e := R.err a c
  pointwise [Blk.dy, k0_pay25]
  simp only [e, Cert.Mlp.dy]

theorem ffsq : B.ffsq (ix2 a c) = Cert.Mlp.ff P (T a) c * Cert.Mlp.ff P (T a) c := by
  have e : k0_pay21 B.ff2 B.act3 (slab3 B.dn) (ix2 a c) = Cert.Mlp.ff P (T a) c := R.ff a c
  pointwise [Blk.ffsq, k0_pay26]
  simp only [e]

theorem dff : B.dff (ix2 a c) = Cert.Mlp.dff P (T a) c := by
  pointwise [Blk.dff, k0_pay30, k0_pay28, k0_pay27]
  simp only [R.ff, R.ffsq, R.dy, R.g4, Cert.Mlp.dff, Cert.Mlp.normBack, Cert.Mlp.normed, Cert.Mlp.scale, Cert.Mlp.meanSq]

theorem dup0 : B.dup0 (ix2 a c) = Cert.Mlp.dup P (T a) (Cert.Mlp.unit 0 c) := by
  have e : ∀ x, k0_pay30 B.ff B.g4 B.dy B.ffsq (ix2 a x) = Cert.Mlp.dff P (T a) x := R.dff a
  pointwise [Blk.dup0, slab0, k0_pay31]
  simp only [e, R.relu0, R.dn, Cert.Mlp.dup]

theorem dup1 : B.dup1 (ix2 a c) = Cert.Mlp.dup P (T a) (Cert.Mlp.unit 1 c) := by
  pointwise [Blk.dup1, slab1, k0_pay32]
  simp only [R.dff, R.relu1, R.dn, Cert.Mlp.dup]

theorem dup2 : B.dup2 (ix2 a c) = Cert.Mlp.dup P (T a) (Cert.Mlp.unit 2 c) := by
  pointwise [Blk.dup2, slab2, k0_pay34]
  simp only [R.dff, R.relu2, R.dn, Cert.Mlp.dup]

theorem dup3 : B.dup3 (ix2 a c) = Cert.Mlp.dup P (T a) (Cert.Mlp.unit 3 c) := by
  pointwise [Blk.dup3, slab3, k0_pay36]
  simp only [R.dff, R.relu3, R.dn, Cert.Mlp.dup]

theorem dh : B.dh (ix2 a c) = Cert.Mlp.dh P (T a) c := by
  have e1 : ∀ x, k0_pay32 B.dff (slab1 B.dn) B.relu1 (ix2 a x) = Cert.Mlp.dup P (T a) (Cert.Mlp.unit 1 x) := R.dup1 a
  have e3 : ∀ x, k0_pay36 B.dff (slab3 B.dn) B.relu3 (ix2 a x) = Cert.Mlp.dup P (T a) (Cert.Mlp.unit 3 x) := R.dup3 a
  pointwise [Blk.dh, Blk.dh1, slab0, slab1, slab2, slab3, k0_pay37, k0_pay33, k0_pay35] at e1 e3 ⊢
  simp only [e1, e3, R.dup0, R.dup2, R.up, Cert.Mlp.dh, Cert.Mlp.sum_units]

theorem dx : B.dx (ix2 a c) = Cert.Mlp.normBack (T a).x1 P.g3 (Cert.Mlp.dh P (T a)) c := by
  have e : ∀ x, k0_pay37 B.dff B.dh1 B.dup2 (k0_pay35 (slab2 B.up)) (slab3 B.dn) B.relu3 (slab3 B.up) (ix2 a x) = Cert.Mlp.dh P (T a) x := R.dh a
  pointwise [Blk.dx, k0_pay40, k0_pay39, k0_pay38, k0_pay22]
  simp only [e, R.x1, R.g3, Cert.Mlp.normBack, Cert.Mlp.normed, Cert.Mlp.scale, Cert.Mlp.meanSq]

theorem dx1 : B.dx1 (ix2 a c) = Cert.Mlp.dx1 P (T a) c := by
  pointwise [Blk.dx1, k0_pay41]
  simp only [R.dy, R.dx, Cert.Mlp.dx1]

theorem dmix : B.dmix (ix2 a c) = Cert.Mlp.dmix P (T a) c := by
  pointwise [Blk.dmix, k0_pay46, k0_pay44, k0_pay43, k0_pay41]
  simp only [R.dy, R.dx, R.mix, R.g2, Cert.Mlp.dmix, Cert.Mlp.dx1, Cert.Mlp.normBack, Cert.Mlp.normed, Cert.Mlp.scale, Cert.Mlp.meanSq]

theorem loss (acc : Vec Ideal S8x128 .f32) (p : Fin 8) (q : Fin 128) :
    B.loss acc (ix2 p q) = acc (ix2 p q) + (∑ a, ∑ c, Cert.Mlp.err P (T a) c * Cert.Mlp.err P (T a) c) * Cert.Mlp.halfMean := by
  pointwise [Blk.loss, k0_pay24]
  simp only [R.err]

theorem dg4 (acc : Vec Ideal S1x1024 .f32) :
    B.dg4 acc (ix2 0 c) = acc (ix2 0 c) + ∑ a, Cert.Mlp.dy P (T a) c * Cert.Mlp.normed (Cert.Mlp.ff P (T a)) c := by
  pointwise [Blk.dg4, k0_pay29, k0_pay28, k0_pay27]
  simp only [R.dy, R.ff, R.ffsq, Cert.Mlp.normed, Cert.Mlp.scale, Cert.Mlp.meanSq]

theorem dg3 (acc : Vec Ideal S1x1024 .f32) :
    B.dg3 acc (ix2 0 c) = acc (ix2 0 c) + ∑ a, Cert.Mlp.dh P (T a) c * Cert.Mlp.normed (T a).x1 c := by
  pointwise [Blk.dg3, k0_pay42, k0_pay39, k0_pay38, k0_pay22]
  simp only [R.dh, R.x1, Cert.Mlp.normed, Cert.Mlp.scale, Cert.Mlp.meanSq]

theorem dg2 (acc : Vec Ideal S1x1024 .f32) :
    B.dg2 acc (ix2 0 c) = acc (ix2 0 c) + ∑ a, Cert.Mlp.dx1 P (T a) c * Cert.Mlp.normed (T a).mix c := by
  pointwise [Blk.dg2, k0_pay1, k0_pay45, k0_pay44, k0_pay43, k0_pay41]
  simp only [R.dy, R.dx, R.mix, Cert.Mlp.dx1, Cert.Mlp.normed, Cert.Mlp.scale, Cert.Mlp.meanSq]

end Reads

end Blk

end Cert.KernelIdeal.Mlp

end
-- ==== Proof.Mlp.Algebra.lean ====
/- The gradient through a norm, and the loss, in the form that differentiation gives them: the same extended reals as the specification's, whatever the inputs. -/
module

public import proofs.«01_k».proof.Proof.Mlp.Spec

@[expose] public section

noncomputable section

namespace Cert.Mlp

open Idealize.ShloMosaic

/-- The reference's further constants: −1/2, 1/2 and 1. -/
abbrev negHalf : EReal := Ideal.ofBits .f32 0xBF000000#32
abbrev half : EReal := Ideal.ofBits .f32 0x3F000000#32

theorem width_eq : width = ((1024 : ℝ) : EReal) := by
  simp [width, Ideal.ofBits, Ideal.ieee]; norm_num; rw [← EReal.coe_mul]; norm_num
theorem negHalf_eq : negHalf = ((-(1 / 2) : ℝ) : EReal) := by
  simp [negHalf, Ideal.ofBits, Ideal.ieee]; norm_num; rw [← EReal.coe_mul]; norm_num
theorem half_eq : half = ((1 / 2 : ℝ) : EReal) := by
  simp [half, Ideal.ofBits, Ideal.ieee]; norm_num; rw [← EReal.coe_mul]; norm_num
theorem two_eq : two = ((2 : ℝ) : EReal) := by
  simp [two, Ideal.ofBits, Ideal.ieee]; norm_num; rw [← EReal.coe_mul]; norm_num
theorem halfMean_eq : halfMean = ((1 / 2048 : ℝ) : EReal) := by
  simp [halfMean, Ideal.ofBits, Ideal.ieee]; norm_num; rw [← EReal.coe_mul]; norm_num
theorem invWidth_eq : invWidth = ((1 / 1024 : ℝ) : EReal) := by
  simp [invWidth, Ideal.ofBits, Ideal.ieee]; norm_num; rw [← EReal.coe_mul]; norm_num
theorem eps_pos : ∃ e : ℝ, 0 < e ∧ eps = (e : EReal) :=
  ⟨8796093 * 2 ^ (-43 : ℤ), by positivity, by simp [eps, Ideal.ofBits, Ideal.ieee]⟩

/-- Dividing by the width multiplies by 1/1024. -/
theorem div_width (x : EReal) : Ideal.div x width = x * ((1 / 1024 : ℝ) : EReal) := by
  rw [width_eq, Ideal.div, if_neg (by exact_mod_cast (by norm_num : (1024 : ℝ) ≠ 0)), ← EReal.coe_inv]
  norm_num

/-- A nonnegative real factor goes under a sum of extended reals. -/
theorem sum_mul_real {ι : Type} (s : Finset ι) (f : ι → EReal) {a : ℝ} (ha : 0 ≤ a) : (∑ i ∈ s, f i) * (a : EReal) = ∑ i ∈ s, f i * (a : EReal) := by
  classical
  induction s using Finset.induction_on with
  | empty => simp
  | insert i s hi ih =>
    rw [Finset.sum_insert hi, Finset.sum_insert hi, ← ih]
    exact EReal.right_distrib_of_nonneg_of_ne_top (by exact_mod_cast ha) (EReal.coe_ne_top a) _ _

/-- A square is nonnegative. -/
theorem sq_nonneg (x : EReal) : 0 ≤ x * x := by
  induction x with
  | bot => simp
  | top => simp
  | coe r => exact_mod_cast mul_self_nonneg r

/-- What is under a norm's root is a positive real or ⊤. -/
theorem meanSq_cases (v : Row) : meanSq v = ⊤ ∨ ∃ s : ℝ, 0 < s ∧ meanSq v = (s : EReal) := by
  obtain ⟨e, he, hE⟩ := eps_pos
  have h0 : (0 : EReal) ≤ Ideal.div (∑ k, v k * v k) width := by
    rw [div_width]
    exact mul_nonneg (Finset.sum_nonneg fun k _ => sq_nonneg (v k)) (by exact_mod_cast (by norm_num : (0 : ℝ) ≤ 1 / 1024))
  unfold meanSq
  rw [hE]
  generalize Ideal.div (∑ k, v k * v k) width = x at h0 ⊢
  induction x with
  | bot => exact absurd h0 (by simp)
  | top => exact Or.inl (EReal.top_add_coe e)
  | coe r => exact Or.inr ⟨r + e, add_pos_of_nonneg_of_pos (by exact_mod_cast h0) he, (EReal.coe_add r e).symm⟩

/-- Twice a nonpositive real multiple. -/
theorem mul_add_mul_neg (x : EReal) {a : ℝ} (ha : 0 ≤ a) : x * ((-a : ℝ) : EReal) + x * ((-a : ℝ) : EReal) = -(x * ((2 * a : ℝ) : EReal)) := by
  have h : ∀ b : ℝ, x * ((-b : ℝ) : EReal) = -x * (b : EReal) := fun b => by
    rw [EReal.coe_neg, mul_neg, neg_mul]
  rw [h, ← EReal.left_distrib_of_nonneg (by exact_mod_cast ha) (by exact_mod_cast ha), ← EReal.coe_add, ← two_mul, neg_mul]

theorem rsqrt_top : Ideal.rsqrt ⊤ = 0 := rfl
theorem rsqrt_pos {s : ℝ} (h : 0 < s) : Ideal.rsqrt (s : EReal) = (((Real.sqrt s)⁻¹ : ℝ) : EReal) := by
  change (if s < 0 then ⊥ else if s = 0 then ⊤ else (((Real.sqrt s)⁻¹ : ℝ) : EReal)) = _
  rw [if_neg h.not_gt, if_neg h.ne']

/-- The factor that both halves of the gradient of the mean square carry. -/
def meanBack (v g d : Row) : EReal :=
  Ideal.div ((∑ k, v k * (d k * g k)) * (negHalf * Ideal.div (scale v) (meanSq v))) width

/-- The gradient through the norm, as differentiation writes it. -/
theorem normBack_eq (v g d : Row) (c : Fin 1024) :
    d c * g c * scale v + v c * meanBack v g d + meanBack v g d * v c = normBack v g d c := by
  unfold normBack meanBack normed
  rw [div_width, div_width]
  rcases meanSq_cases v with hs | ⟨s, hs0, hs⟩
  · simp [scale, hs, rsqrt_top, Ideal.div]
  · obtain ⟨r, hr0, hr⟩ : ∃ r : ℝ, 0 < r ∧ scale v = (r : EReal) :=
      ⟨(Real.sqrt s)⁻¹, by positivity, by rw [scale, hs, rsqrt_pos hs0]⟩
    have hk : negHalf * Ideal.div (scale v) (meanSq v) = ((-(r * s⁻¹ / 2) : ℝ) : EReal) := by
      rw [hr, hs, negHalf_eq, Ideal.div, if_neg (by exact_mod_cast hs0.ne'), ← EReal.coe_inv, ← EReal.coe_mul, ← EReal.coe_mul]
      congr 1; ring
    have hrs : s⁻¹ = r * r := by
      have h1 : scale v = (((Real.sqrt s)⁻¹ : ℝ) : EReal) := by rw [scale, hs, rsqrt_pos hs0]
      have h2 : r = (Real.sqrt s)⁻¹ := by exact_mod_cast hr.symm.trans h1
      rw [h2, ← mul_inv, Real.mul_self_sqrt hs0.le]
    rw [hk, hr, hrs]
    have hsum : ∑ k, d k * g k * (v k * (r : EReal)) = (∑ k, v k * (d k * g k)) * (r : EReal) := by
      rw [sum_mul_real _ _ hr0.le]
      exact Finset.sum_congr rfl fun k _ => by ac_rfl
    rw [hsum]
    generalize ∑ k, v k * (d k * g k) = S
    generalize d c * g c = D
    have hK : S * ((-(r * (r * r) / 2) : ℝ) : EReal) * ((1 / 1024 : ℝ) : EReal) = S * ((-(r * (r * r) / 2048) : ℝ) : EReal) := by
      rw [mul_assoc, ← EReal.coe_mul]; congr 2; ring
    rw [hK, mul_comm _ (v c), add_assoc, ← mul_assoc, mul_add_mul_neg _ (by positivity), sub_eq_add_neg,
      EReal.left_distrib_of_nonneg_of_ne_top (by exact_mod_cast hr0.le) (EReal.coe_ne_top r), mul_neg, mul_comm (r : EReal) D]
    congr 2
    have e : v c * (r : EReal) * (S * (r : EReal) * ((1 / 1024 : ℝ) : EReal)) = v c * S * ((r : EReal) * (r : EReal) * ((1 / 1024 : ℝ) : EReal)) := by ac_rfl
    rw [e, mul_left_comm (r : EReal) (v c * S), ← EReal.coe_mul, ← EReal.coe_mul, ← EReal.coe_mul]
    congr 2; ring

/-- The loss's gradient at the output, as differentiation writes it. -/
theorem dy_factor (x : EReal) : Ideal.div half width * (two * x) = x * invWidth := by
  rw [div_width, half_eq, two_eq, invWidth_eq, ← EReal.coe_mul, ← mul_assoc, ← EReal.coe_mul, mul_comm]
  congr 2; norm_num

/-- Where the hidden unit is dead the ReLU's value already stops the gradient. -/
theorem relu_select (u x : EReal) : (if 0 < u then x * (two * max u 0) else 0) = x * (two * max u 0) := by
  split
  · rfl
  · rename_i h; rw [max_eq_right (not_lt.mp h), mul_zero, mul_zero]

variable (P : Par)

/-- The loss of all tokens. -/
def loss (T : Fin 4096 → Tok) : EReal := ∑ i, (∑ c, err P (T i) c * err P (T i) c) * halfMean
/-- The gradients of the gains: of the output norm's, -/
def dg4 (T : Fin 4096 → Tok) : Row := fun c => ∑ i, dy P (T i) c * normed (ff P (T i)) c
/-- of the MLP's input norm's, -/
def dg3 (T : Fin 4096 → Tok) : Row := fun c => ∑ i, dh P (T i) c * normed (T i).x1 c
/-- and of the mixer norm's. -/
def dg2 (T : Fin 4096 → Tok) : Row := fun c => ∑ i, dx1 P (T i) c * normed (T i).mix c

/-- The loss, as half the sum of the mean squares. -/
theorem loss_eq (T : Fin 4096 → Tok) : half * (∑ i, Ideal.div (∑ c, err P (T i) c * err P (T i) c) width) = loss P T := by
  unfold loss
  rw [half_eq, mul_comm, sum_mul_real _ _ (by norm_num)]
  refine Finset.sum_congr rfl fun i _ => ?_
  rw [div_width, halfMean_eq, mul_assoc, ← EReal.coe_mul]
  congr 2; norm_num

end Cert.Mlp

end
-- ==== Proof.Mlp.Tokens.lean ====
/- The launch's arguments as the specification's weights and tokens. -/
module

public import proofs.«01_k».proof.Proof.Mlp.Algebra
public import Idealize.ShloMosaic.Lib.Pointwise

@[expose] public section

noncomputable section

namespace Cert.Mlp

open Idealize.ShloMosaic

/-- A matrix of extended reals. -/
abbrev Arr (a b : ℕ) : Type := (⟨2, ![a, b]⟩ : Shape).Idx → EReal

/-- A matrix by rows and columns. -/
def mat {a b : ℕ} (f : Fin a → Fin b → EReal) : Arr a b := fun j => f (j 0) (j 1)

/-- The arguments: the residual stream, the mixer's output and the target, the two weights and the three gains. -/
structure Args where
  x : Arr 4096 1024
  mix : Arr 4096 1024
  tgt : Arr 4096 1024
  up : Arr 1024 4096
  dn : Arr 4096 1024
  g2 : Arr 1 1024
  g3 : Arr 1 1024
  g4 : Arr 1 1024

namespace Args

variable (A : Args)

/-- The weights and the gains. -/
def par : Par where
  up k f := A.up (ix2 k f)
  dn f c := A.dn (ix2 f c)
  g4 c := A.g4 (ix2 0 c)
  g3 c := A.g3 (ix2 0 c)
  g2 c := A.g2 (ix2 0 c)

/-- The mixer's output at token `i`, -/
def mixRow (i : Fin 4096) : Row := fun c => A.mix (ix2 i c)
/-- and the residual stream after it has gone through its norm. -/
def resRow (i : Fin 4096) : Row := fun c => A.x (ix2 i c) + normed (A.mixRow i) c * A.g2 (ix2 0 c)

/-- Token `i`. -/
def tok (i : Fin 4096) : Tok where
  h c := normed (A.resRow i) c * A.g3 (ix2 0 c)
  x1 := A.resRow i
  mix := A.mixRow i
  tgt c := A.tgt (ix2 i c)

end Args

end Cert.Mlp

end
-- ==== Proof.Mlp.Inputs.lean ====
/- What a grid point works on: its 256 tokens and the weights, read off the launch's arguments. -/
module

public import proofs.«01_k».proof.Proof.Mlp.Frame
public import proofs.«01_k».proof.Proof.Mlp.Rows
public import proofs.«01_k».proof.Proof.Mlp.Tokens
public import Idealize.ShloMosaic.Lib.Pipeline.ValueKit
public import Idealize.ShloMosaic.Lib.Claim

@[expose] public section

set_option maxRecDepth 16384

noncomputable section

namespace Cert.KernelIdeal.Mlp

open Idealize.ShloMosaic Idealize.ShloMosaic.TcCoe Cert.KernelIdeal Cert.KernelIdeal.Gen

variable (m : (ℓ : Loc nD τ sig) → Buf (Elt Ideal) ℓ) (c : Dev nD)

/-- The launch's arguments on device `c`. -/
def args : Cert.Mlp.Args where
  x := m ((c : Thread nD τ).loc main_arg0)
  mix := m ((c : Thread nD τ).loc main_arg1)
  tgt := m ((c : Thread nD τ).loc main_arg2)
  up := m ((c : Thread nD τ).loc main_arg3)
  dn := m ((c : Thread nD τ).loc main_arg4)
  g2 := m ((c : Thread nD τ).loc main_arg5)
  g3 := m ((c : Thread nD τ).loc main_arg6)
  g4 := m ((c : Thread nD τ).loc main_arg7)

variable (i : Fin 4096) (k : Fin 1024)

/-- The residual that the host hands to the kernel, -/
theorem V_resid : V m c main_v12 (ix2 i k) = ((args m c).tok i).x1 k := by
  entry_read
  pointwise
  rfl

/-- and the MLP's input. -/
theorem V_input : V m c main_v25 (ix2 i k) = ((args m c).tok i).h k := by
  entry_read
  pointwise
  rfl

/-- The up projection's two halves, slab by slab, -/
theorem V_up_lo (j : Fin 4) (r : Fin 512) : V m c main_v29 (ix3 j r k) = (args m c).par.up ⟨r.val, by omega⟩ (Cert.Mlp.unit j k) := by
  entry_read
  pointwise
  blk_ext [args, Cert.Mlp.unit, Cert.Mlp.Args.par]
theorem V_up_hi (j : Fin 4) (r : Fin 512) : V m c main_v30 (ix3 j r k) = (args m c).par.up ⟨512 + r.val, by omega⟩ (Cert.Mlp.unit j k) := by
  entry_read
  pointwise
  blk_ext [args, Cert.Mlp.unit, Cert.Mlp.Args.par]
/-- and the down projection's. -/
theorem V_dn_lo (j : Fin 4) (r : Fin 512) : V m c main_v33 (ix3 j r k) = (args m c).par.dn (Cert.Mlp.unit j ⟨r.val, by omega⟩) k := by
  entry_read
  pointwise
  blk_ext [args, Cert.Mlp.unit, Cert.Mlp.Args.par]
theorem V_dn_hi (j : Fin 4) (r : Fin 512) : V m c main_v34 (ix3 j r k) = (args m c).par.dn (Cert.Mlp.unit j ⟨512 + r.val, by omega⟩) k := by
  entry_read
  pointwise
  blk_ext [args, Cert.Mlp.unit, Cert.Mlp.Args.par]

/-- Two halves put together, at an index. -/
theorem joined_apply (a b : Vec Ideal S4x512x1024 .bf16) (w : Fin 4 → Fin 1024 → Fin 1024 → EReal)
    (ha : ∀ (j : Fin 4) (r : Fin 512) (k : Fin 1024), a (ix3 j r k) = w j ⟨r.val, by omega⟩ k)
    (hb : ∀ (j : Fin 4) (r : Fin 512) (k : Fin 1024), b (ix3 j r k) = w j ⟨512 + r.val, by omega⟩ k) (j : Fin 4) (r k : Fin 1024) :
    joined a b (ix3 j r k) = w j r k := by
  unfold joined
  canon_tiles x h
  · idx_vars x
    obtain rfl : j = _ := Fin.ext h0
    obtain rfl : k = _ := Fin.ext h2
    exact (hb _ _ _).trans (congrArg (fun r => w j r k) (Fin.ext h1.symm))
  · idx_vars x
    obtain rfl : j = _ := Fin.ext h0
    obtain rfl : k = _ := Fin.ext h2
    exact (ha _ _ _).trans (congrArg (fun r => w j r k) (Fin.ext h1.symm))

/-- The grid point's blocks stand at its rows. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] :=
  (by decide +kernel : ∀ t : Fin grid0.N, _)

/-- Row `a` of grid point `t` is token `256 t + a`. -/
def tokenAt (t : Fin cfg0.N) (a : Fin 256) : Fin 4096 := ⟨t.val * 256 + a.val, by have h : cfg0.N = 16 := rfl; omega⟩

variable (t : Fin cfg0.N) (a : Fin 256)

/-- The point's blocks: of the MLP's input, -/
theorem iblk_0 : iblk m c 0 t (ix2 a k) = ((args m c).tok (tokenAt t a)).h k := by
  refine Eq.trans ?_ (V_input m c (tokenAt t a) k)
  blk_ext [iblk, idx t, tokenAt]
/-- the residual, -/
theorem iblk_1 : iblk m c 1 t (ix2 a k) = ((args m c).tok (tokenAt t a)).x1 k := by
  refine Eq.trans ?_ (V_resid m c (tokenAt t a) k)
  blk_ext [iblk, idx t, tokenAt]
/-- the mixer's output, -/
theorem iblk_2 : iblk m c 2 t (ix2 a k) = ((args m c).tok (tokenAt t a)).mix k := by
  refine Eq.trans ?_ (congrFun (V_main_arg1 m c) (ix2 (tokenAt t a) k))
  blk_ext [iblk, idx t, tokenAt]
/-- the target -/
theorem iblk_3 : iblk m c 3 t (ix2 a k) = ((args m c).tok (tokenAt t a)).tgt k := by
  refine Eq.trans ?_ (congrFun (V_main_arg2 m c) (ix2 (tokenAt t a) k))
  blk_ext [iblk, idx t, tokenAt]
/-- and the gains. -/
theorem iblk_4 : iblk m c 4 t (ix2 0 k) = (args m c).par.g4 k := by
  refine Eq.trans ?_ (congrFun (V_main_arg7 m c) (ix2 0 k))
  blk_ext [iblk, idx t]
theorem iblk_5 : iblk m c 5 t (ix2 0 k) = (args m c).par.g3 k := by
  refine Eq.trans ?_ (congrFun (V_main_arg6 m c) (ix2 0 k))
  blk_ext [iblk, idx t]
theorem iblk_6 : iblk m c 6 t (ix2 0 k) = (args m c).par.g2 k := by
  refine Eq.trans ?_ (congrFun (V_main_arg5 m c) (ix2 0 k))
  blk_ext [iblk, idx t]

theorem up_eq (j : Fin 4) (r : Fin 1024) : joined (V m c main_v29) (V m c main_v30) (ix3 j r k) = (args m c).par.up r (Cert.Mlp.unit j k) :=
  joined_apply _ _ (fun j r k => (args m c).par.up r (Cert.Mlp.unit j k)) (fun j r k => V_up_lo m c k j r) (fun j r k => V_up_hi m c k j r) j r k
theorem dn_eq (j : Fin 4) (r : Fin 1024) : joined (V m c main_v33) (V m c main_v34) (ix3 j r k) = (args m c).par.dn (Cert.Mlp.unit j r) k :=
  joined_apply _ _ (fun j r k => (args m c).par.dn (Cert.Mlp.unit j r) k) (fun j r k => V_dn_lo m c k j r) (fun j r k => V_dn_hi m c k j r) j r k

theorem reads_of {B : Blk Ideal} {x0 x1 x2 x3 x4 x5 x6 x7 x8} (hB : B = ⟨x0, x1, x2, x3, x4, x5, x6, x7, x8⟩) {P : Cert.Mlp.Par} {T : Fin 256 → Cert.Mlp.Tok}
    (h7 : ∀ j k c, x7 (ix3 j k c) = P.up k (Cert.Mlp.unit j c)) (h8 : ∀ j k c, x8 (ix3 j k c) = P.dn (Cert.Mlp.unit j k) c)
    (h4 : ∀ c, x4 (ix2 0 c) = P.g4 c) (h5 : ∀ c, x5 (ix2 0 c) = P.g3 c) (h6 : ∀ c, x6 (ix2 0 c) = P.g2 c)
    (h0 : ∀ a c, x0 (ix2 a c) = (T a).h c) (h1 : ∀ a c, x1 (ix2 a c) = (T a).x1 c) (h2 : ∀ a c, x2 (ix2 a c) = (T a).mix c)
    (h3 : ∀ a c, x3 (ix2 a c) = (T a).tgt c) : B.Reads P T := by
  subst hB; exact ⟨h7, h8, h4, h5, h6, h0, h1, h2, h3⟩

/-- A grid point's arrays are the specification's. -/
theorem blk_reads : (blk m c t).Reads (args m c).par (fun a => (args m c).tok (tokenAt t a)) := by
  refine reads_of (x0 := iblk m c 0 t) (x1 := iblk m c 1 t) (x2 := iblk m c 2 t) (x3 := iblk m c 3 t) (x4 := iblk m c 4 t) (x5 := iblk m c 5 t)
    (x6 := iblk m c 6 t) (x7 := joined (V m c main_v29) (V m c main_v30)) (x8 := joined (V m c main_v33) (V m c main_v34)) rfl ?_ ?_ ?_ ?_ ?_ ?_ ?_ ?_ ?_
  · exact fun j r k => up_eq m c k j r
  · exact fun j r k => dn_eq m c k j r
  · exact fun k => iblk_4 m c k t
  · exact fun k => iblk_5 m c k t
  · exact fun k => iblk_6 m c k t
  · exact fun a k => iblk_0 m c k t a
  · exact fun a k => iblk_1 m c k t a
  · exact fun a k => iblk_2 m c k t a
  · exact fun a k => iblk_3 m c k t a

end Cert.KernelIdeal.Mlp

end
-- ==== Proof.Mlp.Arrays.lean ====
/- The kernel's results after its run are the specification's: five arrays written block by block, and four sums kept from point to point. -/
module

public import proofs.«01_k».proof.Proof.Mlp.Inputs

@[expose] public section

set_option maxRecDepth 16384

noncomputable section

namespace Cert.KernelIdeal.Mlp

open Idealize.ShloMosaic Idealize.ShloMosaic.TcCoe Cert.KernelIdeal Cert.KernelIdeal.Gen
open Cert.Mlp (mat)

/-- A block of hidden activations, put together from its slabs, -/
theorem act_apply {B : Blk Ideal} {P : Cert.Mlp.Par} {T : Fin 256 → Cert.Mlp.Tok} (R : B.Reads P T) (a : Fin 256) (f : Fin 4096) :
    B.act (ix2 a f) = Cert.Mlp.act P (T a) f := by
  unfold Blk.act
  canon_tiles x h
  · idx_vars x
    obtain rfl : a = _ := Fin.ext h0
    exact (R.act3 _ _).trans (congrArg _ (Fin.ext h1.symm))
  · idx_vars x
    obtain rfl : a = _ := Fin.ext h0
    exact (R.act2 _ _).trans (congrArg _ (Fin.ext h1.symm))
  · idx_vars x
    obtain rfl : a = _ := Fin.ext h0
    exact (R.act1 _ _).trans (congrArg _ (Fin.ext h1.symm))
  · idx_vars x
    obtain rfl : a = _ := Fin.ext h0
    exact (R.act0 _ _).trans (congrArg _ (Fin.ext ((Nat.zero_add _).trans h1.symm)))
/-- and one of their gradients. -/
theorem dup_apply {B : Blk Ideal} {P : Cert.Mlp.Par} {T : Fin 256 → Cert.Mlp.Tok} (R : B.Reads P T) (a : Fin 256) (f : Fin 4096) :
    B.dup (ix2 a f) = Cert.Mlp.dup P (T a) f := by
  unfold Blk.dup
  canon_tiles x h
  · idx_vars x
    obtain rfl : a = _ := Fin.ext h0
    exact (R.dup3 _ _).trans (congrArg _ (Fin.ext h1.symm))
  · idx_vars x
    obtain rfl : a = _ := Fin.ext h0
    exact (R.dup2 _ _).trans (congrArg _ (Fin.ext h1.symm))
  · idx_vars x
    obtain rfl : a = _ := Fin.ext h0
    exact (R.dup1 _ _).trans (congrArg _ (Fin.ext h1.symm))
  · idx_vars x
    obtain rfl : a = _ := Fin.ext h0
    exact (R.dup0 _ _).trans (congrArg _ (Fin.ext ((Nat.zero_add _).trans h1.symm)))

/-- The output blocks stand at the point's rows. -/
theorem idx_out : ∀ t : Fin cfg0.N, win0_7.index t = ![t.val, 0] ∧ win0_8.index t = ![t.val, 0] ∧ win0_9.index t = ![t.val, 0] ∧ win0_10.index t = ![t.val, 0]
    ∧ win0_11.index t = ![t.val, 0] := (by decide +kernel : ∀ t : Fin grid0.N, _)

variable (m : (ℓ : Loc nD τ sig) → Buf (Elt Ideal) ℓ) (c : Dev nD)

/-- Its entry at an index with these coordinates. -/
theorem mat_apply {a b : ℕ} (f : Fin a → Fin b → EReal) (j : (⟨2, ![a, b]⟩ : Shape).Idx) (i : Fin a) (k : Fin b) (h0 : (j 0).val = i.val) (h1 : (j 1).val = k.val) :
    f i k = mat f j := by
  obtain rfl : i = j 0 := Fin.ext h0.symm
  obtain rfl : k = j 1 := Fin.ext h1.symm
  rfl

/-- The hidden activations, -/
theorem arr_7 : (dats m 0 c).arrAt 7 (cfgs 0).N = mat fun i f => Cert.Mlp.act (args m c).par ((args m c).tok i) f := by
  refine (dats m 0 c).arrAt_eq_of_covers 7 _ (by decide +kernel) fun t hf y => ?_
  blk_simp
  rw [after_7]
  idx_vars y
  refine (act_apply (blk_reads m c t) y0 y1).trans (mat_apply (fun i f => Cert.Mlp.act (args m c).par ((args m c).tok i) f) _ (tokenAt t y0) y1 ?_ ?_)
  · blk_simp [idx_out t]; simp [tokenAt]
  · blk_simp [idx_out t]

/-- the gradients at the down projection, -/
theorem arr_8 : (dats m 0 c).arrAt 8 (cfgs 0).N = mat fun i f => Cert.Mlp.dff (args m c).par ((args m c).tok i) f := by
  refine (dats m 0 c).arrAt_eq_of_covers 8 _ (by decide +kernel) fun t hf y => ?_
  blk_simp
  rw [after_8]
  idx_vars y
  refine ((blk_reads m c t).dff y0 y1).trans (mat_apply (fun i f => Cert.Mlp.dff (args m c).par ((args m c).tok i) f) _ (tokenAt t y0) y1 ?_ ?_)
  · blk_simp [idx_out t]; simp [tokenAt]
  · blk_simp [idx_out t]

/-- at the hidden units, -/
theorem arr_9 : (dats m 0 c).arrAt 9 (cfgs 0).N = mat fun i f => Cert.Mlp.dup (args m c).par ((args m c).tok i) f := by
  refine (dats m 0 c).arrAt_eq_of_covers 9 _ (by decide +kernel) fun t hf y => ?_
  blk_simp
  rw [after_9]
  idx_vars y
  refine (dup_apply (blk_reads m c t) y0 y1).trans (mat_apply (fun i f => Cert.Mlp.dup (args m c).par ((args m c).tok i) f) _ (tokenAt t y0) y1 ?_ ?_)
  · blk_simp [idx_out t]; simp [tokenAt]
  · blk_simp [idx_out t]

/-- at the residual -/
theorem arr_10 : (dats m 0 c).arrAt 10 (cfgs 0).N = mat fun i f => Cert.Mlp.dx1 (args m c).par ((args m c).tok i) f := by
  refine (dats m 0 c).arrAt_eq_of_covers 10 _ (by decide +kernel) fun t hf y => ?_
  blk_simp
  rw [after_10]
  idx_vars y
  refine ((blk_reads m c t).dx1 y0 y1).trans (mat_apply (fun i f => Cert.Mlp.dx1 (args m c).par ((args m c).tok i) f) _ (tokenAt t y0) y1 ?_ ?_)
  · blk_simp [idx_out t]; simp [tokenAt]
  · blk_simp [idx_out t]

/-- and at the mixer's output. -/
theorem arr_11 : (dats m 0 c).arrAt 11 (cfgs 0).N = mat fun i f => Cert.Mlp.dmix (args m c).par ((args m c).tok i) f := by
  refine (dats m 0 c).arrAt_eq_of_covers 11 _ (by decide +kernel) fun t hf y => ?_
  blk_simp
  rw [after_11]
  idx_vars y
  refine ((blk_reads m c t).dmix y0 y1).trans (mat_apply (fun i f => Cert.Mlp.dmix (args m c).par ((args m c).tok i) f) _ (tokenAt t y0) y1 ?_ ?_)
  · blk_simp [idx_out t]; simp [tokenAt]
  · blk_simp [idx_out t]

/-- An accumulator at an index: what it starts at, and every point's term. -/
theorem accum_sum {α : Type} (f : Fin cfg0.N → α → α) (z : α) (g : α → EReal) (term : Fin cfg0.N → EReal) (hf : ∀ t a, g (f t a) = g a + term t) :
    ∀ (n : ℕ) (h : n < cfg0.N), g (accum f z n h) = g z + ∑ t : Fin (n + 1), term ⟨t.val, Nat.lt_of_lt_of_le t.isLt h⟩
  | 0, h => by rw [Fin.sum_univ_one]; exact hf _ _
  | n + 1, h => by
    rw [Fin.sum_univ_castSucc, ← add_assoc]
    exact (hf _ _).trans (congrArg (· + term _) (accum_sum f z g term hf n (Nat.lt_of_succ_lt h)))

/-- The last point's accumulator at an index, over all tokens. -/
theorem accum_tokens {α : Type} (f : Fin cfg0.N → α → α) (z : α) (g : α → EReal) (F : Fin 4096 → EReal) (hz : g z = 0)
    (hf : ∀ t a, g (f t a) = g a + ∑ r, F (tokenAt t r)) (t : Fin cfg0.N) (ht : t.val = 15) : g (accum f z t.val t.isLt) = ∑ i, F i := by
  obtain ⟨n, hn⟩ := t
  obtain rfl : n = 15 := ht
  rw [accum_sum f z g _ hf, hz, zero_add]
  exact Fin.sum_mul_add_fin 16 256 F

variable (t : Fin cfg0.N) (ht : t.val = 15)
include ht

/-- The last point's sums: the loss, -/
theorem loss_last (p : Fin 8) (q : Fin 128) : lossAt m c t.val t.isLt (ix2 p q) = Cert.Mlp.loss (args m c).par (args m c).tok := by
  refine accum_tokens (fun t a => (blk m c t).loss a) (k0_pay2 (F := Ideal)) (fun v : Vec Ideal S8x128 .f32 => v (ix2 p q))
    (fun i => (∑ k, Cert.Mlp.err (args m c).par ((args m c).tok i) k * Cert.Mlp.err (args m c).par ((args m c).tok i) k) * Cert.Mlp.halfMean) ?_ ?_ t ht
  · pointwise [k0_pay2]
  · intro t a
    refine ((blk_reads m c t).loss a p q).trans ?_
    rw [Cert.Mlp.halfMean_eq, Cert.Mlp.sum_mul_real _ _ (by norm_num)]
/-- and the gradients of the gains. -/
theorem dg4_last (k : Fin 1024) : dg4At m c t.val t.isLt (ix2 0 k) = Cert.Mlp.dg4 (args m c).par (args m c).tok k := by
  refine accum_tokens (fun t a => (blk m c t).dg4 a) (k0_pay3 (F := Ideal)) (fun v : Vec Ideal S1x1024 .f32 => v (ix2 0 k))
    (fun i => Cert.Mlp.dy (args m c).par ((args m c).tok i) k * Cert.Mlp.normed (Cert.Mlp.ff (args m c).par ((args m c).tok i)) k) ?_ ?_ t ht
  · pointwise [k0_pay3]
  · exact fun t a => (blk_reads m c t).dg4 k a
theorem dg3_last (k : Fin 1024) : dg3At m c t.val t.isLt (ix2 0 k) = Cert.Mlp.dg3 (args m c).par (args m c).tok k := by
  refine accum_tokens (fun t a => (blk m c t).dg3 a) (k0_pay4 (F := Ideal)) (fun v : Vec Ideal S1x1024 .f32 => v (ix2 0 k))
    (fun i => Cert.Mlp.dh (args m c).par ((args m c).tok i) k * Cert.Mlp.normed ((args m c).tok i).x1 k) ?_ ?_ t ht
  · pointwise [k0_pay4]
  · exact fun t a => (blk_reads m c t).dg3 k a
theorem dg2_last (k : Fin 1024) : dg2At m c t.val t.isLt (ix2 0 k) = Cert.Mlp.dg2 (args m c).par (args m c).tok k := by
  refine accum_tokens (fun t a => (blk m c t).dg2 a) (k0_pay5 (F := Ideal)) (fun v : Vec Ideal S1x1024 .f32 => v (ix2 0 k))
    (fun i => Cert.Mlp.dx1 (args m c).par ((args m c).tok i) k * Cert.Mlp.normed ((args m c).tok i).mix k) ?_ ?_ t ht
  · pointwise [k0_pay5]
  · exact fun t a => (blk_reads m c t).dg2 k a
omit ht

/-- The loss, in every lane of its tile, -/
theorem arr_12 : (dats m 0 c).arrAt 12 (cfgs 0).N = mat fun _ _ => Cert.Mlp.loss (args m c).par (args m c).tok := by
  refine (dats m 0 c).arrAt_eq_of_after_last 12 t0_15 (by decide +kernel) _ fun j => ?_
  blk_simp
  rw [after_12]
  idx_vars j
  exact loss_last m c t0_15 rfl j0 j1
/-- and the gradients of the gains. -/
theorem arr_13 : (dats m 0 c).arrAt 13 (cfgs 0).N = mat fun _ k => Cert.Mlp.dg4 (args m c).par (args m c).tok k := by
  refine (dats m 0 c).arrAt_eq_of_after_last 13 t0_15 (by decide +kernel) _ fun j => ?_
  blk_simp
  rw [after_13]
  idx_vars j
  obtain rfl : j0 = 0 := Subsingleton.elim _ _
  exact dg4_last m c t0_15 rfl j1

theorem arr_14 : (dats m 0 c).arrAt 14 (cfgs 0).N = mat fun _ k => Cert.Mlp.dg3 (args m c).par (args m c).tok k := by
  refine (dats m 0 c).arrAt_eq_of_after_last 14 t0_15 (by decide +kernel) _ fun j => ?_
  blk_simp
  rw [after_14]
  idx_vars j
  obtain rfl : j0 = 0 := Subsingleton.elim _ _
  exact dg3_last m c t0_15 rfl j1

theorem arr_15 : (dats m 0 c).arrAt 15 (cfgs 0).N = mat fun _ k => Cert.Mlp.dg2 (args m c).par (args m c).tok k := by
  refine (dats m 0 c).arrAt_eq_of_after_last 15 t0_15 (by decide +kernel) _ fun j => ?_
  blk_simp
  rw [after_15]
  idx_vars j
  obtain rfl : j0 = 0 := Subsingleton.elim _ _
  exact dg2_last m c t0_15 rfl j1

end Cert.KernelIdeal.Mlp

end
-- ==== Proof.Mlp.Value.lean ====
/- The kernel's run ends with the specification's results. -/
module

public import proofs.«01_k».proof.Proof.Mlp.Arrays

@[expose] public section

set_option maxRecDepth 16384

noncomputable section

namespace Cert.KernelIdeal.Mlp

open Idealize.ShloMosaic Idealize.ShloMosaic.TcCoe Cert.KernelIdeal Cert.KernelIdeal.Gen Idealize.SL.Sem
open Cert.Mlp (mat)

/-- Result 0, read out of the pipeline's post. -/
theorem end_0 (m : (ℓ : Loc nD τ sig) → Buf (Elt Ideal) ℓ) (r : PUnit × MemSt nD τ sig (Elt Ideal)) (c : Dev nD)
    (h : Pipeline.FramePost cfgs (dats m) 0 (V m) r) :
    r.2.mem ((c.tc : Thread nD τ).loc main_v35_0) = mat (fun i f => Cert.Mlp.act (args m c).par ((args m c).tok i) f) :=
  ((h c).1 7).trans (arr_7 m c)

/-- Result 1, read out of the pipeline's post. -/
theorem end_1 (m : (ℓ : Loc nD τ sig) → Buf (Elt Ideal) ℓ) (r : PUnit × MemSt nD τ sig (Elt Ideal)) (c : Dev nD)
    (h : Pipeline.FramePost cfgs (dats m) 0 (V m) r) :
    r.2.mem ((c.tc : Thread nD τ).loc main_v35_1) = mat (fun i k => Cert.Mlp.dff (args m c).par ((args m c).tok i) k) :=
  ((h c).1 8).trans (arr_8 m c)

/-- Result 2, read out of the pipeline's post. -/
theorem end_2 (m : (ℓ : Loc nD τ sig) → Buf (Elt Ideal) ℓ) (r : PUnit × MemSt nD τ sig (Elt Ideal)) (c : Dev nD)
    (h : Pipeline.FramePost cfgs (dats m) 0 (V m) r) :
    r.2.mem ((c.tc : Thread nD τ).loc main_v35_2) = mat (fun i f => Cert.Mlp.dup (args m c).par ((args m c).tok i) f) :=
  ((h c).1 9).trans (arr_9 m c)

/-- Result 3, read out of the pipeline's post. -/
theorem end_3 (m : (ℓ : Loc nD τ sig) → Buf (Elt Ideal) ℓ) (r : PUnit × MemSt nD τ sig (Elt Ideal)) (c : Dev nD)
    (h : Pipeline.FramePost cfgs (dats m) 0 (V m) r) :
    r.2.mem ((c.tc : Thread nD τ).loc main_v35_3) = mat (fun i k => Cert.Mlp.dx1 (args m c).par ((args m c).tok i) k) :=
  ((h c).1 10).trans (arr_10 m c)

/-- Result 4, read out of the pipeline's post. -/
theorem end_4 (m : (ℓ : Loc nD τ sig) → Buf (Elt Ideal) ℓ) (r : PUnit × MemSt nD τ sig (Elt Ideal)) (c : Dev nD)
    (h : Pipeline.FramePost cfgs (dats m) 0 (V m) r) :
    r.2.mem ((c.tc : Thread nD τ).loc main_v35_4) = mat (fun i k => Cert.Mlp.dmix (args m c).par ((args m c).tok i) k) :=
  ((h c).1 11).trans (arr_11 m c)

/-- Result 5, read out of the pipeline's post. -/
theorem end_5 (m : (ℓ : Loc nD τ sig) → Buf (Elt Ideal) ℓ) (r : PUnit × MemSt nD τ sig (Elt Ideal)) (c : Dev nD)
    (h : Pipeline.FramePost cfgs (dats m) 0 (V m) r) :
    r.2.mem ((c.tc : Thread nD τ).loc main_v35_5) = mat (fun _ _ => Cert.Mlp.loss (args m c).par (args m c).tok) :=
  ((h c).1 12).trans (arr_12 m c)

/-- Result 6, read out of the pipeline's post. -/
theorem end_6 (m : (ℓ : Loc nD τ sig) → Buf (Elt Ideal) ℓ) (r : PUnit × MemSt nD τ sig (Elt Ideal)) (c : Dev nD)
    (h : Pipeline.FramePost cfgs (dats m) 0 (V m) r) :
    r.2.mem ((c.tc : Thread nD τ).loc main_v35_6) = mat (fun _ k => Cert.Mlp.dg4 (args m c).par (args m c).tok k) :=
  ((h c).1 13).trans (arr_13 m c)

/-- Result 7, read out of the pipeline's post. -/
theorem end_7 (m : (ℓ : Loc nD τ sig) → Buf (Elt Ideal) ℓ) (r : PUnit × MemSt nD τ sig (Elt Ideal)) (c : Dev nD)
    (h : Pipeline.FramePost cfgs (dats m) 0 (V m) r) :
    r.2.mem ((c.tc : Thread nD τ).loc main_v35_7) = mat (fun _ k => Cert.Mlp.dg3 (args m c).par (args m c).tok k) :=
  ((h c).1 14).trans (arr_14 m c)

/-- Result 8, read out of the pipeline's post. -/
theorem end_8 (m : (ℓ : Loc nD τ sig) → Buf (Elt Ideal) ℓ) (r : PUnit × MemSt nD τ sig (Elt Ideal)) (c : Dev nD)
    (h : Pipeline.FramePost cfgs (dats m) 0 (V m) r) :
    r.2.mem ((c.tc : Thread nD τ).loc main_v35_8) = mat (fun _ k => Cert.Mlp.dg2 (args m c).par (args m c).tok k) :=
  ((h c).1 15).trans (arr_15 m c)

/-- Where the arrays end as the pipeline leaves them and the arguments are kept, the results are the specification's. -/
theorem ends (m : (ℓ : Loc nD τ sig) → Buf (Elt Ideal) ℓ) (r : PUnit × MemSt nD τ sig (Elt Ideal))
    (h : Pipeline.FramePost cfgs (dats m) 0 (V m) r)
    (h' : ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) : ∀ c : Dev nD,
      r.2.mem ((c.tc : Thread nD τ).loc main_v35_0) = mat (fun i f => Cert.Mlp.act (args m c).par ((args m c).tok i) f)
      ∧ r.2.mem ((c.tc : Thread nD τ).loc main_v35_1) = mat (fun i k => Cert.Mlp.dff (args m c).par ((args m c).tok i) k)
      ∧ r.2.mem ((c.tc : Thread nD τ).loc main_v35_2) = mat (fun i f => Cert.Mlp.dup (args m c).par ((args m c).tok i) f)
      ∧ r.2.mem ((c.tc : Thread nD τ).loc main_v35_3) = mat (fun i k => Cert.Mlp.dx1 (args m c).par ((args m c).tok i) k)
      ∧ r.2.mem ((c.tc : Thread nD τ).loc main_v35_4) = mat (fun i k => Cert.Mlp.dmix (args m c).par ((args m c).tok i) k)
      ∧ r.2.mem ((c.tc : Thread nD τ).loc main_v35_5) = mat (fun _ _ => Cert.Mlp.loss (args m c).par (args m c).tok)
      ∧ r.2.mem ((c.tc : Thread nD τ).loc main_v35_6) = mat (fun _ k => Cert.Mlp.dg4 (args m c).par (args m c).tok k)
      ∧ r.2.mem ((c.tc : Thread nD τ).loc main_v35_7) = mat (fun _ k => Cert.Mlp.dg3 (args m c).par (args m c).tok k)
      ∧ r.2.mem ((c.tc : Thread nD τ).loc main_v35_8) = mat (fun _ k => Cert.Mlp.dg2 (args m c).par (args m c).tok k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := fun c =>
  ⟨end_0 m r c h, end_1 m r c h, end_2 m r c h, end_3 m r c h, end_4 m r c h, end_5 m r c h, end_6 m r c h, end_7 m r c h, end_8 m r c h, h' c⟩

/-- The kernel ends with the specification's results and its arguments kept. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35_0) = mat (fun i f => Cert.Mlp.act (args m c).par ((args m c).tok i) f)
      ∧ r.2.mem ((c.tc : Thread nD τ).loc main_v35_1) = mat (fun i k => Cert.Mlp.dff (args m c).par ((args m c).tok i) k)
      ∧ r.2.mem ((c.tc : Thread nD τ).loc main_v35_2) = mat (fun i f => Cert.Mlp.dup (args m c).par ((args m c).tok i) f)
      ∧ r.2.mem ((c.tc : Thread nD τ).loc main_v35_3) = mat (fun i k => Cert.Mlp.dx1 (args m c).par ((args m c).tok i) k)
      ∧ r.2.mem ((c.tc : Thread nD τ).loc main_v35_4) = mat (fun i k => Cert.Mlp.dmix (args m c).par ((args m c).tok i) k)
      ∧ r.2.mem ((c.tc : Thread nD τ).loc main_v35_5) = mat (fun _ _ => Cert.Mlp.loss (args m c).par (args m c).tok)
      ∧ r.2.mem ((c.tc : Thread nD τ).loc main_v35_6) = mat (fun _ k => Cert.Mlp.dg4 (args m c).par (args m c).tok k)
      ∧ r.2.mem ((c.tc : Thread nD τ).loc main_v35_7) = mat (fun _ k => Cert.Mlp.dg3 (args m c).par (args m c).tok k)
      ∧ r.2.mem ((c.tc : Thread nD τ).loc main_v35_8) = mat (fun _ k => Cert.Mlp.dg2 (args m c).par (args m c).tok k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h => ends m r h.1 h.2.1)
    (θ_run_and (run_arrays m ρ) (frame_run m ρ))

end Cert.KernelIdeal.Mlp

end
-- ==== Proof.Mlp.RefRows.lean ====
/- The reference's results at an index are the specification's. -/
module

public import proofs.«01_k».proof.Proof.Gen.ReferenceIdeal.Read
public import proofs.«01_k».proof.Proof.Mlp.Tokens

@[expose] public section

set_option maxRecDepth 16384

noncomputable section

namespace Cert.ReferenceIdeal.Mlp

open Idealize.ShloMosaic Cert.ReferenceIdeal Cert.ReferenceIdeal.Read Cert.Mlp

variable (A : Cert.Mlp.Args) (i : Fin 4096) (f : Fin 4096) (c : Fin 1024) (p : Fin 8) (q : Fin 128)

/-- The mixer norm's inverse root at token `i`, -/
theorem scale_mix : val_main_v7 (F := Ideal) A.mix (ix2 i 0) = scale (A.tok i).mix := by
  pointwise [val_main_v0, val_main_v1, val_main_cst, val_main_v2, val_main_v3, val_main_cst_0, val_main_v4, val_main_v5, val_main_cst_1, val_main_v6, val_main_v7]
  rfl

/-- the normed row, -/
theorem normed_mix : val_main_v12 (F := Ideal) A.mix (ix2 i c) = normed (A.tok i).mix c := by
  pointwise [val_main_v11, val_main_v12]
  rw [scale_mix A]; rfl

/-- the residual, -/
theorem resid : val_main_v15 (F := Ideal) A.x A.mix A.g2 (ix2 i c) = (A.tok i).x1 c := by
  pointwise [val_main_v13, val_main_v14, val_main_v15]
  rw [normed_mix A]; rfl

/-- its inverse root, -/
theorem scale_x1 : val_main_v23 (F := Ideal) A.x A.mix A.g2 (ix2 i 0) = scale (A.tok i).x1 := by
  pointwise [val_main_v16, val_main_v17, val_main_cst_3, val_main_v18, val_main_v19, val_main_cst_4, val_main_v20, val_main_v21, val_main_cst_5, val_main_v22, val_main_v23]
  simp only [resid A]; rfl

/-- its normed row, -/
theorem normed_x1 : val_main_v28 (F := Ideal) A.x A.mix A.g2 (ix2 i c) = normed (A.tok i).x1 c := by
  pointwise [val_main_v27, val_main_v28]
  rw [scale_x1 A, resid A]; rfl

/-- and the MLP's input. -/
theorem input : val_main_v30 (F := Ideal) A.x A.mix A.g2 A.g3 (ix2 i c) = (A.tok i).h c := by
  pointwise [val_main_v29, val_main_v30]
  rw [normed_x1 A]; rfl

/-- A hidden unit before its ReLU, -/
theorem preact : val_main_v31 (F := Ideal) A.x A.mix A.up A.g2 A.g3 (ix2 i f) = ∑ k, (A.tok i).h k * A.par.up k f := by
  pointwise [val_main_v31]
  simp only [input A]; rfl

/-- behind it, -/
theorem relu : val_main_v32 (F := Ideal) A.x A.mix A.up A.g2 A.g3 (ix2 i f) = Cert.Mlp.relu A.par (A.tok i) f := by
  pointwise [val_main_v32, val_main_call0_v0, val_main_call0_cst]
  rw [preact A]; rfl

/-- squared, -/
theorem act : val_main_v36 (F := Ideal) A.x A.mix A.up A.g2 A.g3 (ix2 i f) = Cert.Mlp.act A.par (A.tok i) f := by
  pointwise [val_main_v36]
  rw [relu A]; rfl

/-- and projected down. -/
theorem ff : val_main_v39 (F := Ideal) A.x A.mix A.up A.dn A.g2 A.g3 (ix2 i c) = Cert.Mlp.ff A.par (A.tok i) c := by
  pointwise [val_main_v39]
  simp only [act A]; rfl

/-- The output norm's inverse root, -/
theorem scale_ff : val_main_v47 (F := Ideal) A.x A.mix A.up A.dn A.g2 A.g3 (ix2 i 0) = scale (Cert.Mlp.ff A.par (A.tok i)) := by
  pointwise [val_main_v40, val_main_v41, val_main_cst_10, val_main_v42, val_main_v43, val_main_cst_11, val_main_v44, val_main_v45, val_main_cst_12, val_main_v46, val_main_v47]
  simp only [ff A]; rfl

/-- its normed row, -/
theorem normed_ff : val_main_v52 (F := Ideal) A.x A.mix A.up A.dn A.g2 A.g3 (ix2 i c) = normed (Cert.Mlp.ff A.par (A.tok i)) c := by
  pointwise [val_main_v51, val_main_v52]
  rw [ff A, scale_ff A]; rfl

/-- and the error. -/
theorem err : val_main_v56 (F := Ideal) A.x A.mix A.tgt A.up A.dn A.g2 A.g3 A.g4 (ix2 i c) = Cert.Mlp.err A.par (A.tok i) c := by
  pointwise [val_main_v53, val_main_v54, val_main_v55, val_main_v56]
  rw [resid A, normed_ff A]; rfl

/-- The loss's gradient at the output, -/
theorem dy : val_main_v70 (F := Ideal) A.x A.mix A.tgt A.up A.dn A.g2 A.g3 A.g4 (ix2 i c) = Cert.Mlp.dy A.par (A.tok i) c := by
  pointwise [val_main_v58, val_main_cst_14, val_main_v59, val_main_v65, val_main_cst_19, val_main_cst_20, val_main_v66, val_main_v67, val_main_cst_21, val_main_v68, val_main_v69, val_main_v70]
  rw [err A]
  exact dy_factor _

/-- the output norm's gradient through its mean square, -/
theorem back_ff : val_main_v84 (F := Ideal) A.x A.mix A.tgt A.up A.dn A.g2 A.g3 A.g4 (ix1 i) = meanBack (Cert.Mlp.ff A.par (A.tok i)) A.par.g4 (Cert.Mlp.dy A.par (A.tok i)) := by
  pointwise [val_main_v40, val_main_v41, val_main_cst_10, val_main_v42, val_main_v43, val_main_cst_11, val_main_v44, val_main_v45, val_main_cst_12, val_main_v46, val_main_v48, val_main_v49, val_main_cst_13, val_main_v50, val_main_v74, val_main_v75, val_main_v76, val_main_v77, val_main_cst_23, val_main_v78, val_main_v81, val_main_v82, val_main_cst_24, val_main_v83, val_main_v84, val_main_cst_25]
  simp only [Fin.sum_univ_one, ff A, dy A, scale_ff A]; rfl

/-- the gradient at the down projection, -/
theorem dff : val_main_v89 (F := Ideal) A.x A.mix A.tgt A.up A.dn A.g2 A.g3 A.g4 (ix2 i c) = Cert.Mlp.dff A.par (A.tok i) c := by
  pointwise [val_main_v74, val_main_v75, val_main_v79, val_main_v80, val_main_v85, val_main_v86, val_main_v87, val_main_v88, val_main_v89]
  rw [back_ff A, ff A, dy A, scale_ff A]
  exact normBack_eq (Cert.Mlp.ff A.par (A.tok i)) A.par.g4 (Cert.Mlp.dy A.par (A.tok i)) c

/-- at the hidden units, -/
theorem dup : val_main_v93 (F := Ideal) A.x A.mix A.tgt A.up A.dn A.g2 A.g3 A.g4 (ix2 i f) = Cert.Mlp.dup A.par (A.tok i) f := by
  pointwise [val_main_v33, val_main_cst_7, val_main_v34, val_main_v37, val_main_cst_9, val_main_v38, val_main_v90, val_main_v91, val_main_v92, val_main_cst_26, val_main_v93]
  simp only [dff A, preact A, relu A]
  exact relu_select _ _

/-- at the MLP's input, -/
theorem dh : val_main_v94 (F := Ideal) A.x A.mix A.tgt A.up A.dn A.g2 A.g3 A.g4 (ix2 i c) = Cert.Mlp.dh A.par (A.tok i) c := by
  pointwise [val_main_v94]
  simp only [dup A]; rfl

/-- through that norm's mean square, -/
theorem back_x1 : val_main_v108 (F := Ideal) A.x A.mix A.tgt A.up A.dn A.g2 A.g3 A.g4 (ix1 i) = meanBack (A.tok i).x1 A.par.g3 (Cert.Mlp.dh A.par (A.tok i)) := by
  pointwise [val_main_v16, val_main_v17, val_main_cst_3, val_main_v18, val_main_v19, val_main_cst_4, val_main_v20, val_main_v21, val_main_cst_5, val_main_v22, val_main_v24, val_main_v25, val_main_cst_6, val_main_v26, val_main_v98, val_main_v99, val_main_v100, val_main_v101, val_main_cst_28, val_main_v102, val_main_v105, val_main_v106, val_main_cst_29, val_main_v107, val_main_v108, val_main_cst_30]
  simp only [Fin.sum_univ_one, resid A, dh A, scale_x1 A]; rfl

/-- at the residual, -/
theorem dx1 : val_main_v114 (F := Ideal) A.x A.mix A.tgt A.up A.dn A.g2 A.g3 A.g4 (ix2 i c) = Cert.Mlp.dx1 A.par (A.tok i) c := by
  pointwise [val_main_v98, val_main_v99, val_main_v103, val_main_v104, val_main_v109, val_main_v110, val_main_v111, val_main_v112, val_main_v113, val_main_v114]
  rw [back_x1 A, dy A, resid A, dh A, scale_x1 A]
  exact congrArg _ (normBack_eq (A.tok i).x1 A.par.g3 (Cert.Mlp.dh A.par (A.tok i)) c)

/-- through the mixer norm's mean square, -/
theorem back_mix : val_main_v128 (F := Ideal) A.x A.mix A.tgt A.up A.dn A.g2 A.g3 A.g4 (ix1 i) = meanBack (A.tok i).mix A.par.g2 (Cert.Mlp.dx1 A.par (A.tok i)) := by
  pointwise [val_main_v0, val_main_v1, val_main_cst, val_main_v2, val_main_v3, val_main_cst_0, val_main_v4, val_main_v5, val_main_cst_1, val_main_v6, val_main_v8, val_main_v9, val_main_cst_2, val_main_v10, val_main_v118, val_main_v119, val_main_v120, val_main_v121, val_main_cst_32, val_main_v122, val_main_v125, val_main_v126, val_main_cst_33, val_main_v127, val_main_v128, val_main_cst_34]
  simp only [Fin.sum_univ_one, dx1 A, scale_mix A]; rfl

/-- and at the mixer's output. -/
theorem dmix : val_main_v133 (F := Ideal) A.x A.mix A.tgt A.up A.dn A.g2 A.g3 A.g4 (ix2 i c) = Cert.Mlp.dmix A.par (A.tok i) c := by
  pointwise [val_main_v118, val_main_v119, val_main_v123, val_main_v124, val_main_v129, val_main_v130, val_main_v131, val_main_v132, val_main_v133]
  rw [back_mix A, dx1 A, scale_mix A]
  exact normBack_eq (A.tok i).mix A.par.g2 (Cert.Mlp.dx1 A.par (A.tok i)) c

/-- The results: the hidden activations, -/
theorem res_act : val_main_v134 (F := Ideal) A.x A.mix A.up A.g2 A.g3 (ix2 i f) = Cert.Mlp.act A.par (A.tok i) f := by
  pointwise [val_main_v134]
  exact act A i f

/-- the gradients at the down projection, -/
theorem res_dff : val_main_v135 (F := Ideal) A.x A.mix A.tgt A.up A.dn A.g2 A.g3 A.g4 (ix2 i c) = Cert.Mlp.dff A.par (A.tok i) c := by
  pointwise [val_main_v135]
  exact dff A i c

/-- at the hidden units -/
theorem res_dup : val_main_v136 (F := Ideal) A.x A.mix A.tgt A.up A.dn A.g2 A.g3 A.g4 (ix2 i f) = Cert.Mlp.dup A.par (A.tok i) f := by
  pointwise [val_main_v136]
  exact dup A i f

/-- and at the mixer's output, -/
theorem res_dmix : val_main_v137 (F := Ideal) A.x A.mix A.tgt A.up A.dn A.g2 A.g3 A.g4 (ix2 i c) = Cert.Mlp.dmix A.par (A.tok i) c := by
  pointwise [val_main_v137]
  exact dmix A i c

/-- the loss, broadcast, -/
theorem res_loss : val_main_v138 (F := Ideal) A.x A.mix A.tgt A.up A.dn A.g2 A.g3 A.g4 (ix2 p q) = Cert.Mlp.loss A.par A.tok := by
  pointwise [val_main_v138, val_main_v64, val_main_cst_18, val_main_v63, val_main_cst_17, val_main_v62, val_main_v61, val_main_cst_16, val_main_v60, val_main_cst_15, val_main_v57]
  simp only [err A]
  exact loss_eq _ _

/-- and the gradients of the gains. -/
theorem res_dg4 : val_main_v73 (F := Ideal) A.x A.mix A.tgt A.up A.dn A.g2 A.g3 A.g4 (ix2 0 c) = Cert.Mlp.dg4 A.par A.tok c := by
  pointwise [val_main_v73, val_main_v72, val_main_cst_22, val_main_v71]
  simp only [normed_ff A, dy A]
  exact Finset.sum_congr rfl fun i _ => mul_comm _ _

theorem res_dg3 : val_main_v97 (F := Ideal) A.x A.mix A.tgt A.up A.dn A.g2 A.g3 A.g4 (ix2 0 c) = Cert.Mlp.dg3 A.par A.tok c := by
  pointwise [val_main_v97, val_main_v96, val_main_cst_27, val_main_v95]
  simp only [normed_x1 A, dh A]
  exact Finset.sum_congr rfl fun i _ => mul_comm _ _

theorem res_dg2 : val_main_v117 (F := Ideal) A.x A.mix A.tgt A.up A.dn A.g2 A.g3 A.g4 (ix2 0 c) = Cert.Mlp.dg2 A.par A.tok c := by
  pointwise [val_main_v117, val_main_v116, val_main_cst_31, val_main_v115]
  simp only [normed_mix A, dx1 A]
  exact Finset.sum_congr rfl fun i _ => mul_comm _ _

end Cert.ReferenceIdeal.Mlp

end
-- ==== Proof.Mlp.RefRun.lean ====
/- The reference's run: its results are the specification's, of its own arguments. -/
module

public import proofs.«01_k».proof.Proof.Mlp.RefRows
public import Idealize.ShloMosaic.Lib.Claim

@[expose] public section

set_option maxRecDepth 16384

noncomputable section

namespace Cert.ReferenceIdeal.Mlp

open Idealize.ShloMosaic Idealize.ShloMosaic.TcCoe Cert.ReferenceIdeal Cert.ReferenceIdeal.Read Idealize.SL.Sem Idealize.ShloMosaic.StableHlo
open Cert.Mlp (mat)

variable (A : Cert.Mlp.Args)

/-- Each result as an array. -/
theorem val_act : val_main_v134 (F := Ideal) A.x A.mix A.up A.g2 A.g3 = mat (fun i f => Cert.Mlp.act A.par (A.tok i) f) := by
  funext j; idx_vars j
  exact res_act A j0 j1

theorem val_dff : val_main_v135 (F := Ideal) A.x A.mix A.tgt A.up A.dn A.g2 A.g3 A.g4 = mat (fun i k => Cert.Mlp.dff A.par (A.tok i) k) := by
  funext j; idx_vars j
  exact res_dff A j0 j1

theorem val_dup : val_main_v136 (F := Ideal) A.x A.mix A.tgt A.up A.dn A.g2 A.g3 A.g4 = mat (fun i f => Cert.Mlp.dup A.par (A.tok i) f) := by
  funext j; idx_vars j
  exact res_dup A j0 j1

theorem val_dx1 : val_main_v114 (F := Ideal) A.x A.mix A.tgt A.up A.dn A.g2 A.g3 A.g4 = mat (fun i k => Cert.Mlp.dx1 A.par (A.tok i) k) := by
  funext j; idx_vars j
  exact dx1 A j0 j1

theorem val_dmix : val_main_v137 (F := Ideal) A.x A.mix A.tgt A.up A.dn A.g2 A.g3 A.g4 = mat (fun i k => Cert.Mlp.dmix A.par (A.tok i) k) := by
  funext j; idx_vars j
  exact res_dmix A j0 j1

theorem val_loss : val_main_v138 (F := Ideal) A.x A.mix A.tgt A.up A.dn A.g2 A.g3 A.g4 = mat (fun _ _ => Cert.Mlp.loss A.par A.tok) := by
  funext j; idx_vars j
  exact res_loss A j0 j1

theorem val_dg4 : val_main_v73 (F := Ideal) A.x A.mix A.tgt A.up A.dn A.g2 A.g3 A.g4 = mat (fun _ k => Cert.Mlp.dg4 A.par A.tok k) := by
  funext j; idx_vars j
  obtain rfl : j0 = 0 := Subsingleton.elim _ _
  exact res_dg4 A j1

theorem val_dg3 : val_main_v97 (F := Ideal) A.x A.mix A.tgt A.up A.dn A.g2 A.g3 A.g4 = mat (fun _ k => Cert.Mlp.dg3 A.par A.tok k) := by
  funext j; idx_vars j
  obtain rfl : j0 = 0 := Subsingleton.elim _ _
  exact res_dg3 A j1

theorem val_dg2 : val_main_v117 (F := Ideal) A.x A.mix A.tgt A.up A.dn A.g2 A.g3 A.g4 = mat (fun _ k => Cert.Mlp.dg2 A.par A.tok k) := by
  funext j; idx_vars j
  obtain rfl : j0 = 0 := Subsingleton.elim _ _
  exact res_dg2 A j1

/-- The launch's arguments on device `c`. -/
def args (m : (ℓ : Loc nD τ sig) → Buf (Elt Ideal) ℓ) (c : Dev nD) : Cert.Mlp.Args where
  x := m ((c : Thread nD τ).loc main_arg0)
  mix := m ((c : Thread nD τ).loc main_arg1)
  tgt := m ((c : Thread nD τ).loc main_arg2)
  up := m ((c : Thread nD τ).loc main_arg3)
  dn := m ((c : Thread nD τ).loc main_arg4)
  g2 := m ((c : Thread nD τ).loc main_arg5)
  g3 := m ((c : Thread nD τ).loc main_arg6)
  g4 := m ((c : Thread nD τ).loc main_arg7)

/-- The reference ends with the specification's results and its arguments kept. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v134) = mat (fun i f => Cert.Mlp.act (args m c).par ((args m c).tok i) f)
      ∧ r.2.mem ((c.tc : Thread nD τ).loc main_v135) = mat (fun i k => Cert.Mlp.dff (args m c).par ((args m c).tok i) k)
      ∧ r.2.mem ((c.tc : Thread nD τ).loc main_v136) = mat (fun i f => Cert.Mlp.dup (args m c).par ((args m c).tok i) f)
      ∧ r.2.mem ((c.tc : Thread nD τ).loc main_v114) = mat (fun i k => Cert.Mlp.dx1 (args m c).par ((args m c).tok i) k)
      ∧ r.2.mem ((c.tc : Thread nD τ).loc main_v137) = mat (fun i k => Cert.Mlp.dmix (args m c).par ((args m c).tok i) k)
      ∧ r.2.mem ((c.tc : Thread nD τ).loc main_v138) = mat (fun _ _ => Cert.Mlp.loss (args m c).par (args m c).tok)
      ∧ r.2.mem ((c.tc : Thread nD τ).loc main_v73) = mat (fun _ k => Cert.Mlp.dg4 (args m c).par (args m c).tok k)
      ∧ r.2.mem ((c.tc : Thread nD τ).loc main_v97) = mat (fun _ k => Cert.Mlp.dg3 (args m c).par (args m c).tok k)
      ∧ r.2.mem ((c.tc : Thread nD τ).loc main_v117) = mat (fun _ k => Cert.Mlp.dg2 (args m c).par (args m c).tok k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => by
    obtain ⟨h0, h1, h2, h3, h4, h5, h6, h7, h8, hA⟩ := h c
    exact ⟨h0.trans ((val_main_v134_eq (launchContents m c)).trans (val_act (args m c))),
      h1.trans ((val_main_v135_eq (launchContents m c)).trans (val_dff (args m c))),
      h2.trans ((val_main_v136_eq (launchContents m c)).trans (val_dup (args m c))),
      h3.trans ((val_main_v114_eq (launchContents m c)).trans (val_dx1 (args m c))),
      h4.trans ((val_main_v137_eq (launchContents m c)).trans (val_dmix (args m c))),
      h5.trans ((val_main_v138_eq (launchContents m c)).trans (val_loss (args m c))),
      h6.trans ((val_main_v73_eq (launchContents m c)).trans (val_dg4 (args m c))),
      h7.trans ((val_main_v97_eq (launchContents m c)).trans (val_dg3 (args m c))),
      h8.trans ((val_main_v117_eq (launchContents m c)).trans (val_dg2 (args m c))), hA⟩)
    (Cert.ReferenceIdeal.Value.run (F := Ideal) m ρ)

end Cert.ReferenceIdeal.Mlp

end
-- ==== Proof.Weights.Spec.lean ====
/- The gradient of a weight: the sum, over the tokens, of the product's input times the gradient of its output. -/
module

public import Idealize.ShloMosaic.PureOps.Ideal
public import Idealize.ShloMosaic.Lib.Pipeline.Value
public import Idealize.ShloMosaic.Lib.Pipeline.ValueKit

@[expose] public section

noncomputable section

namespace Cert.Weights

open Idealize.ShloMosaic

/-- The gradient of a weight at row `i` and column `j`. -/
def grad {a b : ℕ} (x : Fin 4096 → Fin a → EReal) (d : Fin 4096 → Fin b → EReal) (i : Fin a) (j : Fin b) : EReal :=
  ∑ t, x t i * d t j

/-- A fold over a run of grid points, at an index: the sum of every point's term. -/
theorem fold_apply {N : ℕ} {ι : Type} (a : (n : ℕ) → n < N → ι → EReal) (g : (n : ℕ) → n < N → (ι → EReal) → ι → EReal) (b : ℕ) (i : ι)
    (M : ℕ → EReal) (e : ℕ) (ha : ∀ h, a b h i = M b) (hg : ∀ n h acc, b < n → n ≤ b + e → g n h acc i = acc i + M n) :
    ∀ (j : ℕ) (_ : j ≤ e) (h : b + j < N), Pipeline.accAt a g b j h i = ∑ s : Fin (j + 1), M (b + s.val)
  | 0, _, h => by rw [Pipeline.accAt_zero, ha, Fin.sum_univ_one]; rfl
  | j + 1, hj, h => by
    rw [Pipeline.accAt_succ, hg _ _ _ (by omega) (by omega), fold_apply a g b i M e ha hg j (by omega) (Nat.lt_of_succ_lt h), Fin.sum_univ_castSucc (n := j + 1)]
    rfl

/-- The gradient, block of tokens by block of tokens. -/
theorem grad_blocks {a b : ℕ} (S n : ℕ) (hn : 4096 = S * n) (x : Fin 4096 → Fin a → EReal) (d : Fin 4096 → Fin b → EReal) (i : Fin a) (j : Fin b)
    (F : Fin S → EReal) (hF : ∀ s : Fin S, F s = ∑ q : Fin n, x ⟨s.val * n + q.val, Fin.mul_add_lt_of_eq_mul hn s q⟩ i * d ⟨s.val * n + q.val, Fin.mul_add_lt_of_eq_mul hn s q⟩ j) :
    ∑ s, F s = grad x d i j := by
  unfold grad
  rw [← Fin.sum_mul_add_fin S n (fun t => x t i * d t j) hn]
  exact Finset.sum_congr rfl fun s _ => hF s

/-- An accumulator that starts at `M 0` and gains `M n` at point `n`. -/
theorem sum_of_steps (N : ℕ) (f : (n : ℕ) → n < N → EReal) (M : ℕ → EReal) (h0 : ∀ h, f 0 h = M 0)
    (hs : ∀ n h, f (n + 1) h = f n (Nat.lt_of_succ_lt h) + M (n + 1)) : ∀ n h, f n h = ∑ s : Fin (n + 1), M s.val
  | 0, h => by rw [h0]; simp
  | n + 1, h => by rw [hs, sum_of_steps N f M h0 hs n, Fin.sum_univ_castSucc (n := n + 1)]; rfl

/-- Stores that cover an index hide what was stored before them. -/
theorem canon_drop {Val : EltTy → Type} [∀ e, Nonempty (Val e)] {S : Shape} {e : EltTy} (L L' : List (View.Piece Val S e)) (y : S.Idx)
    (hc : ∃ p ∈ L, y ∈ p.1.set) : View.canon (L ++ L') y = View.canon L y := by
  induction L with
  | nil => obtain ⟨p, hp, _⟩ := hc; exact absurd hp List.not_mem_nil
  | cons p L ih =>
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hyq⟩ := hc
      rcases List.mem_cons.mp hq with rfl | hq'
      · exact absurd hyq hm
      · exact ih ⟨q, hq', hyq⟩

end Cert.Weights

end
-- ==== Proof.Weights.Parts.lean ====
/- The five gradients at the input projection's output, side by side in its 3328 columns. -/
module

public import proofs.«01_k».proof.Proof.Weights.Spec

@[expose] public section

noncomputable section

namespace Cert.Weights

open Idealize.ShloMosaic

/-- Column `r` of the five arrays side by side: 512, 512, 128, 128 and 2048 columns. -/
def parts {n : ℕ} (u q : Fin n → Fin 512 → EReal) (k v : Fin n → Fin 128 → EReal) (g : Fin n → Fin 2048 → EReal) (t : Fin n) (r : Fin 3328) : EReal :=
  if h0 : r.val < 512 then u t ⟨r.val, h0⟩
  else if h1 : r.val < 1024 then q t ⟨r.val - 512, by omega⟩
  else if h2 : r.val < 1152 then k t ⟨r.val - 1024, by omega⟩
  else if h3 : r.val < 1280 then v t ⟨r.val - 1152, by omega⟩
  else g t ⟨r.val - 1280, by omega⟩

section
variable {n : ℕ} (u q : Fin n → Fin 512 → EReal) (k v : Fin n → Fin 128 → EReal) (g : Fin n → Fin 2048 → EReal) (t : Fin n) (r : Fin 3328)

theorem parts_0 (j : Fin 512) (h : r.val = j.val) : parts u q k v g t r = u t j := by
  unfold parts
  rw [dif_pos (by omega)]
  exact congrArg (u t) (Fin.ext h)

theorem parts_1 (j : Fin 512) (h : r.val = 512 + j.val) : parts u q k v g t r = q t j := by
  unfold parts
  rw [dif_neg (by omega), dif_pos (by omega)]
  exact congrArg (q t) (Fin.ext (by dsimp only; omega))

theorem parts_2 (j : Fin 128) (h : r.val = 1024 + j.val) : parts u q k v g t r = k t j := by
  unfold parts
  rw [dif_neg (by omega), dif_neg (by omega), dif_pos (by omega)]
  exact congrArg (k t) (Fin.ext (by dsimp only; omega))

theorem parts_3 (j : Fin 128) (h : r.val = 1152 + j.val) : parts u q k v g t r = v t j := by
  unfold parts
  rw [dif_neg (by omega), dif_neg (by omega), dif_neg (by omega), dif_pos (by omega)]
  exact congrArg (v t) (Fin.ext (by dsimp only; omega))

theorem parts_4 (j : Fin 2048) (h : r.val = 1280 + j.val) : parts u q k v g t r = g t j := by
  unfold parts
  rw [dif_neg (by omega), dif_neg (by omega), dif_neg (by omega), dif_neg (by omega)]
  exact congrArg (g t) (Fin.ext (by dsimp only; omega))

/-- A sum over the columns is five sums. -/
theorem sum_parts (w : Fin 3328 → EReal) : ∑ r, parts u q k v g t r * w r
    = (∑ j : Fin 512, u t j * w ⟨j.val, by omega⟩) + (∑ j : Fin 512, q t j * w ⟨512 + j.val, by omega⟩) + (∑ j : Fin 128, k t j * w ⟨1024 + j.val, by omega⟩)
      + (∑ j : Fin 128, v t j * w ⟨1152 + j.val, by omega⟩) + ∑ j : Fin 2048, g t j * w ⟨1280 + j.val, by omega⟩ := by
  have cut := fun (a b : ℕ) (f : Fin (a + b) → EReal) => Fin.sum_univ_add f
  rw [cut 1280 2048 (fun r => parts u q k v g t r * w r), cut 1152 128 (fun r => parts u q k v g t (Fin.castAdd 2048 r) * w (Fin.castAdd 2048 r)),
    cut 1024 128 (fun r => parts u q k v g t (Fin.castAdd 2048 (Fin.castAdd 128 r)) * w (Fin.castAdd 2048 (Fin.castAdd 128 r))),
    cut 512 512 (fun r => parts u q k v g t (Fin.castAdd 2048 (Fin.castAdd 128 (Fin.castAdd 128 r))) * w (Fin.castAdd 2048 (Fin.castAdd 128 (Fin.castAdd 128 r))))]
  refine congrArg₂ (· + ·) (congrArg₂ (· + ·) (congrArg₂ (· + ·) (congrArg₂ (· + ·) ?_ ?_) ?_) ?_) ?_
  · exact Finset.sum_congr rfl fun j _ => congrArg₂ (· * ·) (parts_0 u q k v g t _ j rfl) rfl
  · exact Finset.sum_congr rfl fun j _ => congrArg₂ (· * ·) (parts_1 u q k v g t _ j rfl) rfl
  · exact Finset.sum_congr rfl fun j _ => congrArg₂ (· * ·) (parts_2 u q k v g t _ j rfl) rfl
  · exact Finset.sum_congr rfl fun j _ => congrArg₂ (· * ·) (parts_3 u q k v g t _ j rfl) rfl
  · exact Finset.sum_congr rfl fun j _ => congrArg₂ (· * ·) (parts_4 u q k v g t _ j rfl) rfl

end

end Cert.Weights

end
-- ==== Proof.Mixer.Gates.lean ====
/- The gradients behind the output projection: at the two branches, at their gates and at their inputs. A block of the kernel is rows of the specification, and so is the reference. -/
module

public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel2
public import proofs.«01_k».proof.Proof.Gen.Kernel2Ideal
public import proofs.«01_k».proof.Proof.Gen.Reference2Ideal
public import proofs.«01_k».proof.Proof.Weights.Parts
public import proofs.«01_k».proof.Proof.Mlp.Algebra
public import proofs.«01_k».proof.Defs
public import Idealize.ShloMosaic.Lib.Claim
public import Idealize.ShloMosaic.Lib.Quiescent
public import Idealize.ShloMosaic.Lib.Pipeline.ReadBack

@[expose] public section

set_option maxRecDepth 16384

noncomputable section

namespace Cert.Gates

open Idealize.ShloMosaic

/-- The sigmoid. -/
def sigm (v : EReal) : EReal := Ideal.div 1 (1 + Ideal.exp (-v))

variable {n : ℕ} (d : Fin n → Fin 1024 → EReal) (wo : Fin 1024 → Fin 1024 → EReal) (s : Fin n → Fin 2048 → EReal)
variable (y : Fin n → Fin 512 → EReal) (w : Fin 512 → Fin 1024 → EReal) (e : Fin 2) (t : Fin n)

/-- The gate of branch `e` at column `k`. -/
def col (e : Fin 2) (k : Fin 1024) : Fin 2048 := ⟨e.val * 1024 + k.val, by omega⟩
/-- The gradient at the merged branches, -/
def merged (k : Fin 1024) : EReal := ∑ j, d t j * wo k j
/-- at branch `e`, whose gates are `s`, -/
def atBranch (k : Fin 1024) : EReal := merged d wo t k * s t (col e k)
/-- at its gates, -/
def atGate (k : Fin 1024) : EReal := merged d wo t k * (∑ j, y t j * w j k) * s t (col e k) * (1 - s t (col e k))
/-- and at its input. -/
def atInput (j : Fin 512) : EReal := ∑ k, atBranch d wo s e t k * w j k

/-- Both branches' gates side by side. -/
def gates (y₀ y₁ : Fin n → Fin 512 → EReal) (w₀ w₁ : Fin 512 → Fin 1024 → EReal) (u : Fin n) (r : Fin 2048) : EReal :=
  if h : r.val < 1024 then atGate d wo s y₀ w₀ 0 u ⟨r.val, h⟩ else atGate d wo s y₁ w₁ 1 u ⟨r.val - 1024, by omega⟩

/-- A sum over the columns goes device by device. -/
theorem sum_cols (f : Fin 1024 → EReal) :
    ∑ k, f k = (∑ b : Fin 256, f ⟨b.val, by omega⟩) + (∑ b : Fin 256, f ⟨256 + b.val, by omega⟩) + (∑ b : Fin 256, f ⟨512 + b.val, by omega⟩) + ∑ b : Fin 256, f ⟨768 + b.val, by omega⟩ := by
  rw [Fin.sum_univ_add (a := 768) (b := 256) f, Fin.sum_univ_add (a := 512) (b := 256) fun k => f (Fin.castAdd 256 k),
    Fin.sum_univ_add (a := 256) (b := 256) fun k => f (Fin.castAdd 256 (Fin.castAdd 256 k))]
  rfl

end Cert.Gates

namespace Cert.Kernel2Ideal.Gates

open Idealize.ShloMosaic Idealize.ShloMosaic.TcCoe Cert.Kernel2Ideal Cert.Kernel2Ideal.Gen Cert.Kernel2Ideal.Value Cert.Gates

/-- Both offsets are zero. -/
theorem hz2 : (![0, 0] : Fin 2 → ℕ) = fun _ => 0 := by decide

/-- A device's columns of a branch's weight. -/
structure Slabs (w0 w1 w2 w3 : Vec Ideal S1x512x256 .bf16) (w : Fin 512 → Fin 1024 → EReal) : Prop where
  h0 : ∀ (j : Fin 512) (b : Fin 256), w0 (ix3 0 j b) = w j ⟨b.val, by omega⟩
  h1 : ∀ (j : Fin 512) (b : Fin 256), w1 (ix3 0 j b) = w j ⟨256 + b.val, by omega⟩
  h2 : ∀ (j : Fin 512) (b : Fin 256), w2 (ix3 0 j b) = w j ⟨512 + b.val, by omega⟩
  h3 : ∀ (j : Fin 512) (b : Fin 256), w3 (ix3 0 j b) = w j ⟨768 + b.val, by omega⟩

section
variable (w0 w1 w2 w3 : Vec Ideal S1x512x256 .bf16) (w : Fin 512 → Fin 1024 → EReal) (W : Slabs w0 w1 w2 w3 w) (q : Fin 512)
include W

/-- The branch's gradient at its gates -/
theorem pay9 (m g : Vec Ideal S512x1024 .f32) (y : Vec Ideal S512x512 .bf16) (k : Fin 1024) :
    k0_pay9 m g y w0 w1 w2 w3 (ix2 q k) = m (ix2 q k) * (∑ j, y (ix2 q j) * w j k) * g (ix2 q k) * (1 - g (ix2 q k)) := by
  pointwise [k0_pay9]
  refine congrArg (fun s => m (ix2 q k) * s * g (ix2 q k) * (1 - g (ix2 q k))) ?_
  repeat' split
  all_goals simp only [W.h0, W.h1, W.h2, W.h3]
  all_goals
    refine Finset.sum_congr rfl fun j _ => congrArg (fun k => y (ix2 q j) * w j k) (Fin.ext ?_)
    dsimp only
    omega

/-- and at its input. -/
theorem pay6 (v : Vec Ideal S512x1024 .bf16) (j : Fin 512) : k0_pay6 v w0 w1 w2 w3 (ix2 q j) = ∑ k, v (ix2 q k) * w j k := by
  pointwise [k0_pay6]
  simp only [W.h0, W.h1, W.h2, W.h3]
  exact (sum_cols fun k => v (ix2 q k) * w j k).symm

end

section
variable (x0 : Vec Ideal S512x1024 .bf16) (x1 : Vec Ideal S512x2048 .bf16) (x2 x3 : Vec Ideal S512x512 .bf16) (x4 : Vec Ideal S1024x1024 .bf16) (x5 x6 : Vec Ideal S4x512x256 .bf16)
variable (q : Fin 512)

/-- The block's gradients, -/
def bd (q : Fin 512) (k : Fin 1024) : EReal := x0 (ix2 q k)
/-- gates, -/
def bs (q : Fin 512) (k : Fin 2048) : EReal := x1 (ix2 q k)
/-- branches' inputs, -/
def by_ (x : Vec Ideal S512x512 .bf16) (q j : Fin 512) : EReal := x (ix2 q j)
/-- the output projection's weight, -/
def bwo (k j : Fin 1024) : EReal := x4 (ix2 k j)
/-- and a branch's weight, whose columns lie by device. -/
def bw (x : Vec Ideal S4x512x256 .bf16) (j : Fin 512) (k : Fin 1024) : EReal := x (ix3 ⟨k.val / 256, by omega⟩ j ⟨k.val % 256, by omega⟩)

theorem slabs (x : Vec Ideal S4x512x256 .bf16) : Slabs (View.ld x r0_4) (View.ld x r0_5) (View.ld x r0_6) (View.ld x r0_7) (bw x) where
  h0 j b := by
    unfold bw
    pointwise
    exact congrArg₂ (fun s b => x (ix3 s j b)) (Fin.ext (by show 0 = b.val / 256; omega)) (Fin.ext (by dsimp only; omega))
  h1 j b := by
    unfold bw
    pointwise
    exact congrArg₂ (fun s b => x (ix3 s j b)) (Fin.ext (by show 1 = (256 + b.val) / 256; omega)) (Fin.ext (by dsimp only; omega))
  h2 j b := by
    unfold bw
    pointwise
    exact congrArg₂ (fun s b => x (ix3 s j b)) (Fin.ext (by dsimp only; omega)) (Fin.ext (by dsimp only; omega))
  h3 j b := by
    unfold bw
    pointwise
    exact congrArg₂ (fun s b => x (ix3 s j b)) (Fin.ext (by dsimp only; omega)) (Fin.ext (by dsimp only; omega))

/-- The gradient at the merged branches, -/
theorem pay2 (k : Fin 1024) : k0_pay2 (View.ld x0 r0_0) (View.ld x4 r0_1) (ix2 q k) = merged (bd x0) (bwo x4) q k := by
  pointwise [k0_pay2]
  rfl

/-- at the first branch -/
theorem pay4 (k : Fin 1024) : k0_pay4 (View.ld x0 r0_0) (View.ld x4 r0_1) (View.ld x1 r0_2) (ix2 q k) = atBranch (bd x0) (bwo x4) (bs x1) 0 q k := by
  pointwise [k0_pay4, k0_pay3]
  exact congrArg₂ (· * ·) (pay2 x0 x4 q k) (congrArg (fun k => x1 (ix2 q k)) (Fin.ext (by simp [col])))

/-- and at the second. -/
theorem pay8 (k : Fin 1024) : k0_pay8 (k0_pay13 x0 x1 x2 x3 x4 x5 x6) (View.ld x1 r0_8) (ix2 q k) = atBranch (bd x0) (bwo x4) (bs x1) 1 q k := by
  pointwise [k0_pay8, k0_pay7]
  exact congrArg₂ (· * ·) (pay2 x0 x4 q k) (congrArg (fun k => x1 (ix2 q k)) (Fin.ext (by simp [col])))

theorem out_7 (k : Fin 1024) : out0_7 x0 x1 x2 x3 x4 x5 x6 (ix2 q k) = atBranch (bd x0) (bwo x4) (bs x1) 0 q k := by
  unfold out0_7
  rw [View.canon_unit_zero hz2]
  exact pay4 x0 x1 x4 q k

theorem out_8 (k : Fin 1024) : out0_8 x0 x1 x2 x3 x4 x5 x6 (ix2 q k) = atBranch (bd x0) (bwo x4) (bs x1) 1 q k := by
  unfold out0_8
  rw [View.canon_unit_zero hz2]
  exact pay8 x0 x1 x2 x3 x4 x5 x6 q k

theorem out_10 (j : Fin 512) : out0_10 x0 x1 x2 x3 x4 x5 x6 (ix2 q j) = atInput (bd x0) (bwo x4) (bs x1) (bw x5) 0 q j := by
  unfold out0_10
  rw [View.canon_unit_zero hz2]
  refine (pay6 _ _ _ _ (bw x5) (slabs x5) q _ j).trans (Finset.sum_congr rfl fun k _ => ?_)
  rw [pay4]

theorem out_11 (j : Fin 512) : out0_11 x0 x1 x2 x3 x4 x5 x6 (ix2 q j) = atInput (bd x0) (bwo x4) (bs x1) (bw x6) 1 q j := by
  unfold out0_11
  rw [View.canon_unit_zero hz2]
  refine (pay6 _ _ _ _ (bw x6) (slabs x6) q (k0_pay8 (k0_pay13 x0 x1 x2 x3 x4 x5 x6) (View.ld x1 r0_8)) j).trans (Finset.sum_congr rfl fun k _ => ?_)
  rw [pay8]

theorem gate_0 (k : Fin 1024) : k0_pay3 (View.ld x1 r0_2) (ix2 q k) = bs x1 q (col 0 k) := by
  pointwise [k0_pay3]
  exact congrArg (fun k => x1 (ix2 q k)) (Fin.ext (by simp [col]))
theorem gate_1 (k : Fin 1024) : k0_pay7 (View.ld x1 r0_8) (ix2 q k) = bs x1 q (col 1 k) := by
  pointwise [k0_pay7]
  exact congrArg (fun k => x1 (ix2 q k)) (Fin.ext (by simp [col]))
theorem ld_y (x : Vec Ideal S512x512 .bf16) (j : Fin 512) : View.ld x r0_3 (ix2 q j) = by_ x q j := by
  pointwise
  rfl

theorem out_9 (r : Fin 2048) : out0_9 x0 x1 x2 x3 x4 x5 x6 (ix2 q r) = gates (bd x0) (bwo x4) (bs x1) (by_ x2) (by_ x3) (bw x5) (bw x6) q r := by
  unfold out0_9 gates atGate
  canon_tiles z h
  all_goals
    idx_vars z
    obtain rfl : q = z0 := Fin.ext h0
    have hr : r.val = _ := h1
  · rw [dif_neg (by omega)]
    have hz : z1 = ⟨r.val - 1024, by omega⟩ := Fin.ext (by dsimp only; omega)
    rw [← hz]
    refine (pay9 _ _ _ _ (bw x6) (slabs x6) q (k0_pay2 (View.ld x0 r0_0) (View.ld x4 r0_1)) _ _ _).trans ?_
    simp only [gate_1, pay2]
    exact congrArg (fun s => _ * s * _ * (1 - _)) (Finset.sum_congr rfl fun j _ => congrArg (· * bw x6 j z1) (ld_y q x3 j))
  · rw [dif_pos (by omega)]
    have hz : z1 = ⟨r.val, by omega⟩ := Fin.ext (by dsimp only; omega)
    rw [← hz]
    refine (pay9 _ _ _ _ (bw x5) (slabs x5) q (k0_pay2 (View.ld x0 r0_0) (View.ld x4 r0_1)) (k0_pay3 (View.ld x1 r0_2)) _ _).trans ?_
    simp only [gate_0, pay2]
    exact congrArg (fun s => _ * s * _ * (1 - _)) (Finset.sum_congr rfl fun j _ => congrArg (· * bw x5 j z1) (ld_y q x2 j))

end

variable (m : (ℓ : Loc nD τ sig) → Buf (Elt Ideal) ℓ) (c : Dev nD)

/-- The gradient that comes in, -/
def d (t : Fin 4096) (k : Fin 1024) : EReal := m ((c : Thread nD τ).loc main_arg0) (ix2 t k)
/-- the gates, -/
def s (t : Fin 4096) (r : Fin 2048) : EReal := sigm (m ((c : Thread nD τ).loc main_arg1) (ix2 t r))
/-- the branches' inputs, -/
def yp (t : Fin 4096) (j : Fin 512) : EReal := m ((c : Thread nD τ).loc main_arg2) (ix2 t j)
def ya (t : Fin 4096) (j : Fin 512) : EReal := m ((c : Thread nD τ).loc main_arg3) (ix2 t j)
/-- the output projection's weight -/
def wo (k j : Fin 1024) : EReal := m ((c : Thread nD τ).loc main_arg4) (ix2 k j)
/-- and the branches'. -/
def wp (j : Fin 512) (k : Fin 1024) : EReal := m ((c : Thread nD τ).loc main_arg5) (ix2 j k)
def wa (j : Fin 512) (k : Fin 1024) : EReal := m ((c : Thread nD τ).loc main_arg6) (ix2 j k)

/-- Where a point's blocks stand. -/
theorem idx : ∀ t : Fin cfg0.N, win0_0.index t = ![t.val, 0] ∧ win0_1.index t = ![t.val, 0] ∧ win0_2.index t = ![t.val, 0] ∧ win0_3.index t = ![t.val, 0] ∧ win0_4.index t = ![0, 0]
    ∧ win0_5.index t = ![0, 0, 0] ∧ win0_6.index t = ![0, 0, 0] ∧ win0_7.index t = ![t.val, 0] ∧ win0_8.index t = ![t.val, 0] ∧ win0_9.index t = ![t.val, 0] ∧ win0_10.index t = ![t.val, 0] ∧ win0_11.index t = ![t.val, 0] :=
  (by decide +kernel : ∀ t : Fin grid0.N, _)

theorem pt_lt (t : Fin cfg0.N) : t.val < 8 := Nat.lt_of_lt_of_eq t.isLt N_0

/-- The token at row `q` of a point's block. -/
def tok (n : ℕ) (h : n < 8) (q : Fin 512) : Fin 4096 := ⟨n * 512 + q.val, by omega⟩

/-- What the host hands to the kernel: the gates, -/
theorem V_s (t : Fin 4096) (r : Fin 2048) : V m c main_v6 (ix2 t r) = s m c t r := by
  entry_read
  pointwise
  rfl
/-- the output projection's weight, -/
theorem V_wo (k j : Fin 1024) : V m c main_v7 (ix2 k j) = wo m c k j := by
  entry_read
  pointwise
  rfl
/-- and the branches' by device. -/
theorem V_wp (e : Fin 4) (j : Fin 512) (b : Fin 256) : V m c main_v10 (ix3 e j b) = wp m c j ⟨e.val * 256 + b.val, by omega⟩ := by
  entry_read
  pointwise
  blk_ext [wp]
theorem V_wa (e : Fin 4) (j : Fin 512) (b : Fin 256) : V m c main_v13 (ix3 e j b) = wa m c j ⟨e.val * 256 + b.val, by omega⟩ := by
  entry_read
  pointwise
  blk_ext [wa]

theorem iblk_0 (t : Fin cfg0.N) (q : Fin 512) : bd (iblk m c 0 t) q = d m c (tok t.val (pt_lt t) q) := funext fun k => by
  show (iblk m c 0 t : Vec Ideal S512x1024 .bf16) (ix2 q k) = _
  refine Eq.trans ?_ (congrFun (V_main_arg0 m c) (ix2 (tok t.val (pt_lt t) q) k))
  blk_ext [iblk, idx t, tok]
theorem iblk_2 (t : Fin cfg0.N) (q : Fin 512) : by_ (iblk m c 2 t) q = yp m c (tok t.val (pt_lt t) q) := funext fun k => by
  show (iblk m c 2 t : Vec Ideal S512x512 .bf16) (ix2 q k) = _
  refine Eq.trans ?_ (congrFun (V_main_arg2 m c) (ix2 (tok t.val (pt_lt t) q) k))
  blk_ext [iblk, idx t, tok]
theorem iblk_3 (t : Fin cfg0.N) (q : Fin 512) : by_ (iblk m c 3 t) q = ya m c (tok t.val (pt_lt t) q) := funext fun k => by
  show (iblk m c 3 t : Vec Ideal S512x512 .bf16) (ix2 q k) = _
  refine Eq.trans ?_ (congrFun (V_main_arg3 m c) (ix2 (tok t.val (pt_lt t) q) k))
  blk_ext [iblk, idx t, tok]
theorem iblk_1 (t : Fin cfg0.N) (q : Fin 512) : bs (iblk m c 1 t) q = s m c (tok t.val (pt_lt t) q) := funext fun k => by
  show (iblk m c 1 t : Vec Ideal S512x2048 .bf16) (ix2 q k) = _
  refine Eq.trans ?_ (V_s m c (tok t.val (pt_lt t) q) k)
  blk_ext [iblk, idx t, tok]
theorem iblk_4 (t : Fin cfg0.N) : bwo (iblk m c 4 t) = wo m c := funext fun k => funext fun j => by
  show (iblk m c 4 t : Vec Ideal S1024x1024 .bf16) (ix2 k j) = _
  refine Eq.trans ?_ (V_wo m c k j)
  blk_ext [iblk, idx t]
theorem iblk_5 (t : Fin cfg0.N) : bw (iblk m c 5 t) = wp m c := funext fun j => funext fun k => by
  show (iblk m c 5 t : Vec Ideal S4x512x256 .bf16) (ix3 ⟨k.val / 256, by omega⟩ j ⟨k.val % 256, by omega⟩) = _
  refine Eq.trans ?_ ((V_wp m c ⟨k.val / 256, by omega⟩ j ⟨k.val % 256, by omega⟩).trans (congrArg (wp m c j) (Fin.ext (Nat.div_add_mod' k.val 256))))
  blk_ext [iblk, idx t]
theorem iblk_6 (t : Fin cfg0.N) : bw (iblk m c 6 t) = wa m c := funext fun j => funext fun k => by
  show (iblk m c 6 t : Vec Ideal S4x512x256 .bf16) (ix3 ⟨k.val / 256, by omega⟩ j ⟨k.val % 256, by omega⟩) = _
  refine Eq.trans ?_ ((V_wa m c ⟨k.val / 256, by omega⟩ j ⟨k.val % 256, by omega⟩).trans (congrArg (wa m c j) (Fin.ext (Nat.div_add_mod' k.val 256))))
  blk_ext [iblk, idx t]

/-- A block's gradients at a branch are rows of the arrays', -/
theorem branch_eq (e : Fin 2) (t : Fin cfg0.N) (q : Fin 512) : atBranch (bd (iblk m c 0 t)) (bwo (iblk m c 4 t)) (bs (iblk m c 1 t)) e q = atBranch (d m c) (wo m c) (s m c) e (tok t.val (pt_lt t) q) := by
  funext k
  unfold atBranch merged
  simp only [iblk_0, iblk_1, iblk_4]
/-- and so are those at its gates. -/
theorem gates_eq (t : Fin cfg0.N) (q : Fin 512) :
    gates (bd (iblk m c 0 t)) (bwo (iblk m c 4 t)) (bs (iblk m c 1 t)) (by_ (iblk m c 2 t)) (by_ (iblk m c 3 t)) (bw (iblk m c 5 t)) (bw (iblk m c 6 t)) q = gates (d m c) (wo m c) (s m c) (yp m c) (ya m c) (wp m c) (wa m c) (tok t.val (pt_lt t) q) := by
  funext r
  unfold gates atGate merged
  simp only [iblk_0, iblk_1, iblk_2, iblk_3, iblk_4, iblk_5, iblk_6]

theorem arr_7 : (dats m 0 c).arrAt 7 (cfgs 0).N = fun y => atBranch (d m c) (wo m c) (s m c) 0 (y 0) (y 1) := by
  refine (dats m 0 c).arrAt_eq_of_covers 7 _ (by decide +kernel) fun t hf y => ?_
  blk_simp
  rw [after0_7]
  idx_vars y
  refine (out_7 _ _ _ _ _ _ _ y0 y1).trans ((congrFun (branch_eq m c 0 t y0) y1).trans ?_)
  refine congrArg₂ (atBranch (d m c) (wo m c) (s m c) 0) (Fin.ext ?_) (Fin.ext ?_)
  · blk_simp [idx t]; simp [tok]
  · blk_simp [idx t]

theorem arr_8 : (dats m 0 c).arrAt 8 (cfgs 0).N = fun y => atBranch (d m c) (wo m c) (s m c) 1 (y 0) (y 1) := by
  refine (dats m 0 c).arrAt_eq_of_covers 8 _ (by decide +kernel) fun t hf y => ?_
  blk_simp
  rw [after0_8]
  idx_vars y
  refine (out_8 _ _ _ _ _ _ _ y0 y1).trans ((congrFun (branch_eq m c 1 t y0) y1).trans ?_)
  refine congrArg₂ (atBranch (d m c) (wo m c) (s m c) 1) (Fin.ext ?_) (Fin.ext ?_)
  · blk_simp [idx t]; simp [tok]
  · blk_simp [idx t]

theorem arr_9 : (dats m 0 c).arrAt 9 (cfgs 0).N = fun y => gates (d m c) (wo m c) (s m c) (yp m c) (ya m c) (wp m c) (wa m c) (y 0) (y 1) := by
  refine (dats m 0 c).arrAt_eq_of_covers 9 _ (by decide +kernel) fun t hf y => ?_
  blk_simp
  rw [after0_9]
  idx_vars y
  refine (out_9 _ _ _ _ _ _ _ y0 y1).trans ((congrFun (gates_eq m c t y0) y1).trans ?_)
  refine congrArg₂ (gates (d m c) (wo m c) (s m c) (yp m c) (ya m c) (wp m c) (wa m c)) (Fin.ext ?_) (Fin.ext ?_)
  · blk_simp [idx t]; simp [tok]
  · blk_simp [idx t]

theorem arr_10 : (dats m 0 c).arrAt 10 (cfgs 0).N = fun y => atInput (d m c) (wo m c) (s m c) (wp m c) 0 (y 0) (y 1) := by
  refine (dats m 0 c).arrAt_eq_of_covers 10 _ (by decide +kernel) fun t hf y => ?_
  blk_simp
  rw [after0_10]
  idx_vars y
  refine (out_10 _ _ _ _ _ _ _ y0 y1).trans ?_
  unfold atInput
  rw [branch_eq m c 0 t y0, iblk_5]
  show atInput (d m c) (wo m c) (s m c) (wp m c) 0 (tok t.val (pt_lt t) y0) y1 = _
  refine congrArg₂ (atInput (d m c) (wo m c) (s m c) (wp m c) 0) (Fin.ext ?_) (Fin.ext ?_)
  · blk_simp [idx t]; simp [tok]
  · blk_simp [idx t]

theorem arr_11 : (dats m 0 c).arrAt 11 (cfgs 0).N = fun y => atInput (d m c) (wo m c) (s m c) (wa m c) 1 (y 0) (y 1) := by
  refine (dats m 0 c).arrAt_eq_of_covers 11 _ (by decide +kernel) fun t hf y => ?_
  blk_simp
  rw [after0_11]
  idx_vars y
  refine (out_11 _ _ _ _ _ _ _ y0 y1).trans ?_
  unfold atInput
  rw [branch_eq m c 1 t y0, iblk_6]
  show atInput (d m c) (wo m c) (s m c) (wa m c) 1 (tok t.val (pt_lt t) y0) y1 = _
  refine congrArg₂ (atInput (d m c) (wo m c) (s m c) (wa m c) 1) (Fin.ext ?_) (Fin.ext ?_)
  · blk_simp [idx t]; simp [tok]
  · blk_simp [idx t]

end Cert.Kernel2Ideal.Gates

namespace Cert.Proof.Gates

open Idealize.ShloMosaic Idealize.ShloMosaic.TcCoe Idealize.ShloMosaic.Tactic Idealize.SL.Sem Cert.Weights Cert.Gates

section
open Cert.Reference2Ideal.Read

variable (x0 : (⟨Cert.Reference2Ideal.S4096x1024, .bf16⟩ : BufTy).Contents (Elt Ideal)) (x1 : (⟨Cert.Reference2Ideal.S4096x2048, .f32⟩ : BufTy).Contents (Elt Ideal)) (x2 x3 : (⟨Cert.Reference2Ideal.S4096x512, .bf16⟩ : BufTy).Contents (Elt Ideal)) (x4 : (⟨Cert.Reference2Ideal.S1024x1024, .f32⟩ : BufTy).Contents (Elt Ideal)) (x5 x6 : (⟨Cert.Reference2Ideal.S512x1024, .f32⟩ : BufTy).Contents (Elt Ideal))
variable (t : Fin 4096) (k : Fin 1024)

/-- The reference's gates, -/
theorem reference_gate (r : Fin 2048) : val_main_v9 (F := Ideal) x1 (ix2 t r) = sigm (x1 (ix2 t r)) := by
  pointwise [val_main_v4, val_main_v5, val_main_cst, val_main_v6, val_main_v7, val_main_cst_0, val_main_v8, val_main_v9]
  rfl

/-- its gradient at the merged branches, -/
theorem reference_merged : val_main_v20 (F := Ideal) x0 x4 (ix2 t k) = merged (fun t j => x0 (ix2 t j)) (fun t j => x4 (ix2 t j)) t k := by
  pointwise [val_main_v19, val_main_v20]
  rfl

/-- at the first branch -/
theorem reference_lo : val_main_v24 (F := Ideal) x0 x1 x4 (ix2 t k) = atBranch (fun t j => x0 (ix2 t j)) (fun t j => x4 (ix2 t j)) (fun t r => sigm (x1 (ix2 t r))) 0 t k := by
  pointwise [val_main_v24, val_main_v13]
  unfold atBranch
  rw [reference_gate, reference_merged, mul_comm]
  exact congrArg (fun r => merged (fun t j => x0 (ix2 t j)) (fun t j => x4 (ix2 t j)) t k * sigm (x1 (ix2 t r))) (Fin.ext (by simp [col]))

/-- and at the second, -/
theorem reference_hi : val_main_v21 (F := Ideal) x0 x1 x4 (ix2 t k) = atBranch (fun t j => x0 (ix2 t j)) (fun t j => x4 (ix2 t j)) (fun t r => sigm (x1 (ix2 t r))) 1 t k := by
  pointwise [val_main_v21, val_main_v15]
  unfold atBranch
  rw [reference_gate, reference_merged, mul_comm]
  exact congrArg (fun r => merged (fun t j => x0 (ix2 t j)) (fun t j => x4 (ix2 t j)) t k * sigm (x1 (ix2 t r))) (Fin.ext (by simp [col]))

theorem reference_0 : val_main_v29 (F := Ideal) x0 x1 x4 = fun y => atBranch (fun t j => x0 (ix2 t j)) (fun t j => x4 (ix2 t j)) (fun t r => sigm (x1 (ix2 t r))) 0 (y 0) (y 1) := by
  funext y
  idx_vars y
  pointwise [val_main_v29]
  exact reference_lo x0 x1 x4 y0 y1

theorem reference_1 : val_main_v30 (F := Ideal) x0 x1 x4 = fun y => atBranch (fun t j => x0 (ix2 t j)) (fun t j => x4 (ix2 t j)) (fun t r => sigm (x1 (ix2 t r))) 1 (y 0) (y 1) := by
  funext y
  idx_vars y
  pointwise [val_main_v30]
  exact reference_hi x0 x1 x4 y0 y1

/-- at their gates -/
theorem reference_2 : val_main_v31 (F := Ideal) x0 x1 x2 x3 x4 x5 x6 = fun y => gates (fun t j => x0 (ix2 t j)) (fun t j => x4 (ix2 t j)) (fun t r => sigm (x1 (ix2 t r))) (fun t j => x2 (ix2 t j)) (fun t j => x3 (ix2 t j)) (fun t j => x5 (ix2 t j)) (fun t j => x6 (ix2 t j)) (y 0) (y 1) := by
  funext y
  idx_vars y
  show _ = gates (fun t j => x0 (ix2 t j)) (fun t j => x4 (ix2 t j)) (fun t r => sigm (x1 (ix2 t r))) (fun t j => x2 (ix2 t j)) (fun t j => x3 (ix2 t j)) (fun t j => x5 (ix2 t j)) (fun t j => x6 (ix2 t j)) y0 y1
  unfold gates atGate
  pointwise [val_main_v31, val_main_v28, val_main_v27, val_main_v23, val_main_v26, val_main_v22, val_main_v25, val_main_cst_2, val_main_cst_3, val_main_v12, val_main_v11, val_main_v10, val_main_cst_1, val_main_v0, val_main_v1, val_main_v2, val_main_v3]
  by_cases h : y1.val < 1024
  · have e : col 0 ⟨y1.val, h⟩ = y1 := Fin.ext (by simp [col])
    rw [dif_neg (show ¬(1024 ≤ y1.val ∧ y1.val - 1024 < 1024) by omega), dif_pos h, dif_pos h, zero_add, reference_gate, reference_merged, e]
    exact (mul_assoc _ _ _).symm
  · have e : col 1 ⟨y1.val - 1024, by omega⟩ = y1 := Fin.ext (by simp [col]; omega)
    rw [dif_pos (show 1024 ≤ y1.val ∧ y1.val - 1024 < 1024 by omega), dif_neg h, dif_neg h, add_zero, reference_gate, reference_merged, e]
    exact (mul_assoc _ _ _).symm

/-- and at their inputs. -/
theorem reference_3 : val_main_v32 (F := Ideal) x0 x1 x4 x5 = fun y => atInput (fun t j => x0 (ix2 t j)) (fun t j => x4 (ix2 t j)) (fun t r => sigm (x1 (ix2 t r))) (fun t j => x5 (ix2 t j)) 0 (y 0) (y 1) := by
  funext y
  idx_vars y
  pointwise [val_main_v32]
  exact Finset.sum_congr rfl fun k _ => congrArg (· * x5 (ix2 y1 k)) (reference_lo x0 x1 x4 y0 k)

theorem reference_4 : val_main_v34 (F := Ideal) x0 x1 x4 x6 = fun y => atInput (fun t j => x0 (ix2 t j)) (fun t j => x4 (ix2 t j)) (fun t r => sigm (x1 (ix2 t r))) (fun t j => x6 (ix2 t j)) 1 (y 0) (y 1) := by
  funext y
  idx_vars y
  pointwise [val_main_v34, val_main_v33]
  exact Finset.sum_congr rfl fun k _ => congrArg (· * x6 (ix2 y1 k)) (reference_hi x0 x1 x4 y0 k)

end

/-- The compiled kernel's frame, -/
theorem kernel_frame : Cert.quiescent_Kernel2 (hKernel2 := Cert.Kernel2.Gen.facts) := fun m ρ _ => by
  have same : ∀ Q, θ_run (Cert.Kernel2.defs (F := Bits)) (onTc (τ := Cert.Kernel2.τ) (Cert.Kernel2.main (F := Bits))) ⟨m, fun _ => 0, ρ⟩ Q
      = θ_run (Cert.Kernel2Ideal.defs (F := Bits)) (onTc (τ := Cert.Kernel2Ideal.τ) (Cert.Kernel2Ideal.main (F := Bits))) ⟨m, fun _ => 0, ρ⟩ Q := fun Q => by sl_kernel_rfl
  exact (same _).mpr (Cert.Kernel2Ideal.Gen.frame (F := Bits) m ρ)

/-- that of the kernel over the reals -/
theorem ideal_frame : Cert.quiescent_Kernel2Ideal (hKernel2Ideal := Cert.Kernel2Ideal.Gen.facts) := fun m ρ _ => Cert.Kernel2Ideal.Gen.frame m ρ

/-- and the reference's. -/
theorem reference_frame : Cert.quiescent_Reference2Ideal (hReference2Ideal := Cert.Reference2Ideal.Gen.facts) := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

/-- Kernel and reference end with the same arrays. -/
theorem value : Cert.algebraic_Kernel2Ideal_Reference2Ideal (hKernel2Ideal := Cert.Kernel2Ideal.Gen.facts) (hReference2Ideal := Cert.Reference2Ideal.Gen.facts) := by
  intro m g m' g' _ hagree
  refine ⟨fun c y => atBranch (Cert.Kernel2Ideal.Gates.d m c) (Cert.Kernel2Ideal.Gates.wo m c) (Cert.Kernel2Ideal.Gates.s m c) 0 (y 0) (y 1), fun c y => atBranch (Cert.Kernel2Ideal.Gates.d m c) (Cert.Kernel2Ideal.Gates.wo m c) (Cert.Kernel2Ideal.Gates.s m c) 1 (y 0) (y 1), fun c y => gates (Cert.Kernel2Ideal.Gates.d m c) (Cert.Kernel2Ideal.Gates.wo m c) (Cert.Kernel2Ideal.Gates.s m c) (Cert.Kernel2Ideal.Gates.yp m c) (Cert.Kernel2Ideal.Gates.ya m c) (Cert.Kernel2Ideal.Gates.wp m c) (Cert.Kernel2Ideal.Gates.wa m c) (y 0) (y 1), fun c y => atInput (Cert.Kernel2Ideal.Gates.d m c) (Cert.Kernel2Ideal.Gates.wo m c) (Cert.Kernel2Ideal.Gates.s m c) (Cert.Kernel2Ideal.Gates.wp m c) 0 (y 0) (y 1), fun c y => atInput (Cert.Kernel2Ideal.Gates.d m c) (Cert.Kernel2Ideal.Gates.wo m c) (Cert.Kernel2Ideal.Gates.s m c) (Cert.Kernel2Ideal.Gates.wa m c) 1 (y 0) (y 1),
    (θ_run Cert.Kernel2Ideal.defs _ _).mono (fun r h c => ⟨(h c).1.trans (Cert.Kernel2Ideal.Gates.arr_7 m c), (h c).2.1.trans (Cert.Kernel2Ideal.Gates.arr_8 m c), (h c).2.2.1.trans (Cert.Kernel2Ideal.Gates.arr_9 m c), (h c).2.2.2.1.trans (Cert.Kernel2Ideal.Gates.arr_10 m c), (h c).2.2.2.2.1.trans (Cert.Kernel2Ideal.Gates.arr_11 m c), (h c).2.2.2.2.2⟩)
      (Cert.Kernel2Ideal.Value.run_blocks (F := Ideal) m g), ?_⟩
  refine (θ_run Cert.Reference2Ideal.defs _ _).mono (fun r h c => ⟨(h c).1.trans ?_, (h c).2.1.trans ?_, (h c).2.2.1.trans ?_, (h c).2.2.2.1.trans ?_, (h c).2.2.2.2.1.trans ?_, (h c).2.2.2.2.2⟩) (Cert.Reference2Ideal.Value.run (F := Ideal) m' g')
  · rw [(hagree c).1, (hagree c).2.1, (hagree c).2.2.2.2.1]
    exact reference_0 _ _ _
  · rw [(hagree c).1, (hagree c).2.1, (hagree c).2.2.2.2.1]
    exact reference_1 _ _ _
  · rw [(hagree c).1, (hagree c).2.1, (hagree c).2.2.1, (hagree c).2.2.2.1, (hagree c).2.2.2.2.1, (hagree c).2.2.2.2.2.1, (hagree c).2.2.2.2.2.2]
    exact reference_2 _ _ _ _ _ _ _
  · rw [(hagree c).1, (hagree c).2.1, (hagree c).2.2.2.2.1, (hagree c).2.2.2.2.2.1]
    exact reference_3 _ _ _ _
  · rw [(hagree c).1, (hagree c).2.1, (hagree c).2.2.2.2.1, (hagree c).2.2.2.2.2.2]
    exact reference_4 _ _ _ _

end Cert.Proof.Gates

end
-- ==== Proof.Mixer.Inproj.lean ====
/- The gradients behind the input projection and its norm: a block of the kernel is rows of the specification, and so is the reference. -/
module

public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel3
public import proofs.«01_k».proof.Proof.Gen.Kernel3Ideal
public import proofs.«01_k».proof.Proof.Gen.Reference3Ideal
public import proofs.«01_k».proof.Proof.Weights.Parts
public import proofs.«01_k».proof.Proof.Mlp.Algebra
public import proofs.«01_k».proof.Defs
public import Idealize.ShloMosaic.Lib.Claim
public import Idealize.ShloMosaic.Lib.Quiescent
public import Idealize.ShloMosaic.Lib.Pipeline.ReadBack

@[expose] public section

set_option maxRecDepth 16384

noncomputable section

namespace Cert.Mlp

open Idealize.ShloMosaic

/-- The gradient at the normalised tokens, from the gradients `P` at the projection's columns, -/
def projBack {n : ℕ} (P : Fin n → Fin 3328 → EReal) (w : Fin 1024 → Fin 3328 → EReal) (t : Fin n) (c : Fin 1024) : EReal := ∑ r, P t r * w c r
/-- and at the tokens, where the residual's gradient comes in. -/
def tokenBack {n : ℕ} (P : Fin n → Fin 3328 → EReal) (w : Fin 1024 → Fin 3328 → EReal) (g : Row) (x dx1 : Fin n → Row) (t : Fin n) (c : Fin 1024) : EReal :=
  dx1 t c + normBack (x t) g (projBack P w t) c

end Cert.Mlp

namespace Cert.Kernel3Ideal.Inproj

open Idealize.ShloMosaic Idealize.ShloMosaic.TcCoe Cert.Kernel3Ideal Cert.Kernel3Ideal.Gen Cert.Kernel3Ideal.Value Cert.Weights Cert.Mlp

/-- Both offsets are zero. -/
theorem hz2 : (![0, 0] : Fin 2 → ℕ) = fun _ => 0 := by decide

section
variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x2048 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S3328x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S1x1024 .f32) (harg11 : arg11.IsWhole)
variable (x0 x1 : Vec Ideal S512x512 .bf16) (x2 x3 : Vec Ideal S512x128 .bf16) (x4 : Vec Ideal S512x2048 .bf16) (x5 x6 : Vec Ideal S512x1024 .f32)
variable (x7 : Vec Ideal S3328x1024 .bf16) (x8 : Vec Ideal S1x1024 .f32) (xo10 : Vec Ideal S1x1024 .f32)

/-- The block's five gradients side by side, -/
abbrev side : Fin 512 → Fin 3328 → EReal :=
  parts (fun q j => x0 (ix2 q j)) (fun q j => x1 (ix2 q j)) (fun q j => x2 (ix2 q j)) (fun q j => x3 (ix2 q j)) (fun q j => x4 (ix2 q j))
/-- its rows of tokens or of gradients, -/
abbrev rows (v : Vec Ideal S512x1024 .f32) (q : Fin 512) : Row := fun k => v (ix2 q k)
/-- the gain, -/
abbrev gain (v : Vec Ideal S1x1024 .f32) : Row := fun k => v (ix2 0 k)
/-- the weight, columns first, -/
abbrev weight (v : Vec Ideal S3328x1024 .bf16) (k : Fin 1024) (r : Fin 3328) : EReal := v (ix2 r k)

/-- The five products with the weight's rows add up to the product with all of them. -/
theorem pay6 (w0 w1 : Vec Ideal S512x1024 .bf16) (w2 w3 : Vec Ideal S128x1024 .bf16) (w4 : Vec Ideal S2048x1024 .bf16)
    (h0 : ∀ (j : Fin 512) (k : Fin 1024), w0 (ix2 j k) = x7 (ix2 ⟨j.val, by omega⟩ k)) (h1 : ∀ (j : Fin 512) (k : Fin 1024), w1 (ix2 j k) = x7 (ix2 ⟨512 + j.val, by omega⟩ k)) (h2 : ∀ (j : Fin 128) (k : Fin 1024), w2 (ix2 j k) = x7 (ix2 ⟨1024 + j.val, by omega⟩ k)) (h3 : ∀ (j : Fin 128) (k : Fin 1024), w3 (ix2 j k) = x7 (ix2 ⟨1152 + j.val, by omega⟩ k)) (h4 : ∀ (j : Fin 2048) (k : Fin 1024), w4 (ix2 j k) = x7 (ix2 ⟨1280 + j.val, by omega⟩ k)) (q : Fin 512) (k : Fin 1024) :
    k0_pay6 x0 w0 x1 w1 x2 w2 x3 w3 x4 w4 (ix2 q k) = projBack (side x0 x1 x2 x3 x4) (weight x7) q k := by
  pointwise [k0_pay6]
  simp only [h0, h1, h2, h3, h4]
  exact (sum_parts (fun q j => x0 (ix2 q j)) (fun q j => x1 (ix2 q j)) (fun q j => x2 (ix2 q j)) (fun q j => x3 (ix2 q j)) (fun q j => x4 (ix2 q j)) q (fun r => x7 (ix2 r k))).symm

/-- The gradient through the norm, -/
theorem pay3 (d x r : Vec Ideal S512x1024 .f32) (g : Vec Ideal S1x1024 .f32) (q : Fin 512) (k : Fin 1024) :
    k0_pay3 d x g r (ix2 q k) = rows r q k + normBack (rows x q) (gain g) (rows d q) k := by
  pointwise [k0_pay3, k0_pay2, k0_pay1]
  simp only [normBack, normed, scale, meanSq]

/-- and the gain's. -/
theorem pay4 (d x : Vec Ideal S512x1024 .f32) (a : Vec Ideal S1x1024 .f32) (k : Fin 1024) :
    k0_pay4 d x a (ix2 0 k) = a (ix2 0 k) + ∑ q, rows d q k * normed (rows x q) k := by
  pointwise [k0_pay4, k0_pay2, k0_pay1]
  simp only [normed, scale, meanSq]

theorem out_A_9 (hc0 : cond0_0 i) (q : Fin 512) (k : Fin 1024) :
    out0_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8 (ix2 q k) = tokenBack (side x0 x1 x2 x3 x4) (weight x7) (gain x8) (rows x5) (rows x6) q k := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8)]
  unfold kernelRun0_A
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x512) hz2, View.ld_unit_zero (S := S512x128) hz2, View.ld_unit_zero (S := S512x2048) hz2, View.ld_unit_zero (S := S512x1024) hz2, View.ld_unit_zero (S := S1x1024) hz2]
  rw [pay3]
  refine congrArg (rows x6 q k + normBack (rows x5 q) (gain x8) · k) (funext fun k => ?_)
  exact pay6 x0 x1 x2 x3 x4 x7 _ _ _ _ _ (fun j k => by pointwise) (fun j k => by pointwise) (fun j k => by pointwise) (fun j k => by pointwise) (fun j k => by pointwise) q k

theorem out_A_10 (hc0 : cond0_0 i) (k : Fin 1024) :
    out0_A_10 c i arg1 harg1 arg2 harg2 arg3 harg3 arg4 harg4 arg5 harg5 arg6 harg6 arg7 harg7 arg8 harg8 arg9 harg9 arg10 harg10 arg11 harg11 hc0 x0 x1 x2 x3 x4 x5 x6 x7 x8 (ix2 0 k) = ∑ q, projBack (side x0 x1 x2 x3 x4) (weight x7) q k * normed (rows x5 q) k := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 x0 x1 x2 x3 x4 x5 x6 x7 x8)]
  unfold kernelRun0_A
  dsimp only
  try sl_unfold_words
  rw [View.canon_cons_unit_zero (S := S1x1024) hz2, View.readCov_unit_zero (S := S1x1024) _ hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x512) hz2, View.ld_unit_zero (S := S512x128) hz2, View.ld_unit_zero (S := S512x2048) hz2, View.ld_unit_zero (S := S512x1024) hz2, View.ld_unit_zero (S := S1x1024) hz2]
  rw [pay4]
  rw [show (k0_pay5 (F := Ideal)) (ix2 0 k) = 0 by pointwise [k0_pay5], zero_add]
  refine Finset.sum_congr rfl fun q _ => congrArg (· * normed (rows x5 q) k) ?_
  exact pay6 x0 x1 x2 x3 x4 x7 _ _ _ _ _ (fun j k => by pointwise) (fun j k => by pointwise) (fun j k => by pointwise) (fun j k => by pointwise) (fun j k => by pointwise) q k

theorem out_B_9 (hc0 : ¬cond0_0 i) (q : Fin 512) (k : Fin 1024) :
    out0_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10 (ix2 q k) = tokenBack (side x0 x1 x2 x3 x4) (weight x7) (gain x8) (rows x5) (rows x6) q k := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x512) hz2, View.ld_unit_zero (S := S512x128) hz2, View.ld_unit_zero (S := S512x2048) hz2, View.ld_unit_zero (S := S512x1024) hz2, View.ld_unit_zero (S := S1x1024) hz2]
  rw [pay3]
  refine congrArg (rows x6 q k + normBack (rows x5 q) (gain x8) · k) (funext fun k => ?_)
  exact pay6 x0 x1 x2 x3 x4 x7 _ _ _ _ _ (fun j k => by pointwise) (fun j k => by pointwise) (fun j k => by pointwise) (fun j k => by pointwise) (fun j k => by pointwise) q k

theorem out_B_10 (hc0 : ¬cond0_0 i) (k : Fin 1024) :
    out0_B_10 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10 (ix2 0 k) = xo10 (ix2 0 k) + ∑ q, projBack (side x0 x1 x2 x3 x4) (weight x7) q k * normed (rows x5 q) k := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x512) hz2, View.ld_unit_zero (S := S512x128) hz2, View.ld_unit_zero (S := S512x2048) hz2, View.ld_unit_zero (S := S512x1024) hz2, View.ld_unit_zero (S := S1x1024) hz2]
  rw [pay4]
  refine congrArg (xo10 (ix2 0 k) + ·) (Finset.sum_congr rfl fun q _ => congrArg (· * normed (rows x5 q) k) ?_)
  exact pay6 x0 x1 x2 x3 x4 x7 _ _ _ _ _ (fun j k => by pointwise) (fun j k => by pointwise) (fun j k => by pointwise) (fun j k => by pointwise) (fun j k => by pointwise) q k

end

variable (m : (ℓ : Loc nD τ sig) → Buf (Elt Ideal) ℓ) (c : Dev nD)

/-- The gradients at the pooled branch's input, -/
def du (t : Fin 4096) (i : Fin 512) : EReal := m ((c : Thread nD τ).loc main_arg0) (ix2 t i)
/-- at the queries, -/
def dq (t : Fin 4096) (i : Fin 512) : EReal := m ((c : Thread nD τ).loc main_arg1) (ix2 t i)
/-- at the keys, -/
def dk (t : Fin 4096) (i : Fin 128) : EReal := m ((c : Thread nD τ).loc main_arg2) (ix2 t i)
/-- at the values -/
def dv (t : Fin 4096) (i : Fin 128) : EReal := m ((c : Thread nD τ).loc main_arg3) (ix2 t i)
/-- and at the gates, -/
def dg (t : Fin 4096) (i : Fin 2048) : EReal := m ((c : Thread nD τ).loc main_arg4) (ix2 t i)
/-- the five side by side, -/
def cols : Fin 4096 → Fin 3328 → EReal := parts (du m c) (dq m c) (dk m c) (dv m c) (dg m c)
/-- the tokens, -/
def x (t : Fin 4096) : Row := fun k => m ((c : Thread nD τ).loc main_arg5) (ix2 t k)
/-- the residual's gradient, -/
def dx1 (t : Fin 4096) : Row := fun k => m ((c : Thread nD τ).loc main_arg6) (ix2 t k)
/-- the weight -/
def w (k : Fin 1024) (r : Fin 3328) : EReal := m ((c : Thread nD τ).loc main_arg7) (ix2 k r)
/-- and the gain. -/
def g : Row := fun k => m ((c : Thread nD τ).loc main_arg8) (ix2 0 k)

/-- Where a point's blocks stand. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![0, 0] ∧ win0_8.index t = ![0, 0]
    ∧ win0_9.index t = ![t.val, 0] ∧ win0_10.index t = ![0, 0] :=
  (by decide +kernel : ∀ t : Fin grid0.N, _)

theorem lt_of_pt {n : ℕ} (h : n < cfg0.N) : n < 8 := Nat.lt_of_lt_of_eq h N_0
theorem pt_lt (t : Fin cfg0.N) : t.val < 8 := lt_of_pt t.isLt

/-- The token at row `q` of a point's block. -/
def tok (n : ℕ) (h : n < 8) (q : Fin 512) : Fin 4096 := ⟨n * 512 + q.val, by omega⟩

theorem iblk_0 (t : Fin cfg0.N) (q : Fin 512) (i : Fin 512) : (iblk m c 0 t : Vec Ideal S512x512 .bf16) (ix2 q i) = du m c (tok t.val (pt_lt t) q) i := by
  refine Eq.trans ?_ (congrFun (V_main_arg0 m c) (ix2 _ _))
  blk_ext [iblk, idx t, tok]
theorem iblk_1 (t : Fin cfg0.N) (q : Fin 512) (i : Fin 512) : (iblk m c 1 t : Vec Ideal S512x512 .bf16) (ix2 q i) = dq m c (tok t.val (pt_lt t) q) i := by
  refine Eq.trans ?_ (congrFun (V_main_arg1 m c) (ix2 _ _))
  blk_ext [iblk, idx t, tok]
theorem iblk_2 (t : Fin cfg0.N) (q : Fin 512) (i : Fin 128) : (iblk m c 2 t : Vec Ideal S512x128 .bf16) (ix2 q i) = dk m c (tok t.val (pt_lt t) q) i := by
  refine Eq.trans ?_ (congrFun (V_main_arg2 m c) (ix2 _ _))
  blk_ext [iblk, idx t, tok]
theorem iblk_3 (t : Fin cfg0.N) (q : Fin 512) (i : Fin 128) : (iblk m c 3 t : Vec Ideal S512x128 .bf16) (ix2 q i) = dv m c (tok t.val (pt_lt t) q) i := by
  refine Eq.trans ?_ (congrFun (V_main_arg3 m c) (ix2 _ _))
  blk_ext [iblk, idx t, tok]
theorem iblk_4 (t : Fin cfg0.N) (q : Fin 512) (i : Fin 2048) : (iblk m c 4 t : Vec Ideal S512x2048 .bf16) (ix2 q i) = dg m c (tok t.val (pt_lt t) q) i := by
  refine Eq.trans ?_ (congrFun (V_main_arg4 m c) (ix2 _ _))
  blk_ext [iblk, idx t, tok]
theorem iblk_5 (t : Fin cfg0.N) (q : Fin 512) : rows (iblk m c 5 t) q = x m c (tok t.val (pt_lt t) q) := funext fun k => by
  show (iblk m c 5 t : Vec Ideal S512x1024 .f32) (ix2 q k) = _
  refine Eq.trans ?_ (congrFun (V_main_arg5 m c) (ix2 (tok t.val (pt_lt t) q) k))
  blk_ext [iblk, idx t, tok]
theorem iblk_6 (t : Fin cfg0.N) (q : Fin 512) : rows (iblk m c 6 t) q = dx1 m c (tok t.val (pt_lt t) q) := funext fun k => by
  show (iblk m c 6 t : Vec Ideal S512x1024 .f32) (ix2 q k) = _
  refine Eq.trans ?_ (congrFun (V_main_arg6 m c) (ix2 (tok t.val (pt_lt t) q) k))
  blk_ext [iblk, idx t, tok]
theorem V_w (k : Fin 1024) (r : Fin 3328) : V m c main_v1 (ix2 r k) = w m c k r := by
  entry_read
  pointwise
  blk_ext [w]
theorem iblk_7 (t : Fin cfg0.N) : weight (iblk m c 7 t) = w m c := funext fun k => funext fun r => by
  show (iblk m c 7 t : Vec Ideal S3328x1024 .bf16) (ix2 r k) = _
  refine Eq.trans ?_ (V_w m c k r)
  blk_ext [iblk, idx t]
theorem iblk_8 (t : Fin cfg0.N) : gain (iblk m c 8 t) = g m c := funext fun k => by
  show (iblk m c 8 t : Vec Ideal S1x1024 .f32) (ix2 0 k) = _
  refine Eq.trans ?_ (congrFun (V_main_arg8 m c) (ix2 0 k))
  blk_ext [iblk, idx t]

/-- A block's five gradients side by side are rows of the five arrays side by side, -/
theorem side_eq (t : Fin cfg0.N) (q : Fin 512) :
    side (iblk m c 0 t) (iblk m c 1 t) (iblk m c 2 t) (iblk m c 3 t) (iblk m c 4 t) q = cols m c (tok t.val (pt_lt t) q) := by
  funext r
  unfold side cols parts
  simp only [iblk_0, iblk_1, iblk_2, iblk_3, iblk_4]

/-- and so are the gradients behind the projection. -/
theorem proj_eq (t : Fin cfg0.N) (q : Fin 512) :
    projBack (side (iblk m c 0 t) (iblk m c 1 t) (iblk m c 2 t) (iblk m c 3 t) (iblk m c 4 t)) (weight (iblk m c 7 t)) q
      = projBack (cols m c) (w m c) (tok t.val (pt_lt t) q) := by
  funext k
  unfold projBack
  rw [side_eq, iblk_7]

/-- The tokens' gradient after a point, -/
theorem after_9 (t : Fin cfg0.N) (q : Fin 512) (k : Fin 1024) :
    (outsAt0 m c t.val t.isLt).1 (ix2 q k) = tokenBack (cols m c) (w m c) (g m c) (x m c) (dx1 m c) (tok t.val (pt_lt t) q) k := by
  have e : tokenBack (side (iblk m c 0 t) (iblk m c 1 t) (iblk m c 2 t) (iblk m c 3 t) (iblk m c 4 t)) (weight (iblk m c 7 t)) (gain (iblk m c 8 t)) (rows (iblk m c 5 t)) (rows (iblk m c 6 t)) q k
      = tokenBack (cols m c) (w m c) (g m c) (x m c) (dx1 m c) (tok t.val (pt_lt t) q) k := by
    unfold tokenBack
    rw [proj_eq, iblk_5, iblk_6, iblk_8]
  by_cases h0 : t.val % 8 = 0
  · refine (congrArg (fun p => p.1 (ix2 q k)) (outsAt0_A m c t h0)).trans ?_
    dsimp only
    rw [out_A_9]
    exact e
  · refine (congrArg (fun p => p.1 (ix2 q k)) (outsAt0_B m c t h0)).trans ?_
    dsimp only
    rw [out_B_9]
    exact e

/-- and what a point adds to the gain's, -/
def term (k : Fin 1024) (n : ℕ) : EReal :=
  ∑ q : Fin 512, projBack (cols m c) (w m c) (tok (n % 8) (Nat.mod_lt n (by decide)) q) k * normed (x m c (tok (n % 8) (Nat.mod_lt n (by decide)) q)) k

/-- which the eight points add up to. -/
theorem sum_term (k : Fin 1024) (n : ℕ) (h : n = 7) :
    ∑ s : Fin (n + 1), term m c k s.val = grad (projBack (cols m c) (w m c)) (fun t => normed (x m c t)) k k := by
  subst h
  refine grad_blocks 8 512 rfl _ _ _ _ _ fun s => Finset.sum_congr rfl fun q _ => ?_
  have e : s.val % 8 = s.val := Nat.mod_eq_of_lt s.isLt
  simp only [e, tok]

theorem after_10 (k : Fin 1024) (n : ℕ) (h : n < cfg0.N) : (outsAt0 m c n h).2 (ix2 0 k) = ∑ s : Fin (n + 1), term m c k s.val := by
  refine sum_of_steps cfg0.N (fun n h => (outsAt0 m c n h).2 (ix2 0 k)) (term m c k) (fun h => ?_) (fun n h => ?_) n h
  · refine (congrArg (fun p => p.2 (ix2 0 k)) (outsAt0_A m c ⟨0, h⟩ (Nat.zero_mod 8))).trans ?_
    dsimp only
    rw [out_A_10]
    unfold term
    refine Finset.sum_congr rfl fun q _ => ?_
    rw [proj_eq, iblk_5]
  · have e4 : (n + 1) % 8 = n + 1 := Nat.mod_eq_of_lt (lt_of_pt h)
    have ne : ¬(n + 1) % 8 = 0 := by have := lt_of_pt h; omega
    refine (congrArg (fun p => p.2 (ix2 0 k)) (outsAt0_B m c ⟨n + 1, h⟩ ne)).trans ?_
    dsimp only
    rw [out_B_10]
    unfold term
    refine congrArg₂ (· + ·) rfl (Finset.sum_congr rfl fun q _ => ?_)
    rw [proj_eq, iblk_5]
    simp only [e4]

/-- The tokens' gradient -/
theorem arr_9 : (dats m 0 c).arrAt 9 (cfgs 0).N = fun y => tokenBack (cols m c) (w m c) (g m c) (x m c) (dx1 m c) (y 0) (y 1) := by
  refine (dats m 0 c).arrAt_eq_of_covers 9 _ (by decide +kernel) fun t hf y => ?_
  blk_simp
  rw [after0_9]
  idx_vars y
  refine (after_9 m c t y0 y1).trans ?_
  refine congrArg₂ (tokenBack (cols m c) (w m c) (g m c) (x m c) (dx1 m c)) (Fin.ext ?_) (Fin.ext ?_)
  · blk_simp [idx t]; simp [tok]
  · blk_simp [idx t]

/-- and the gain's. -/
theorem arr_10 : (dats m 0 c).arrAt 10 (cfgs 0).N = fun y => grad (projBack (cols m c) (w m c)) (fun t => normed (x m c t)) (y 1) (y 1) := by
  refine (dats m 0 c).arrAt_eq_of_covers 10 _ (by decide +kernel) fun t hf y => ?_
  have h3 : t.val = 7 := by have := (flush0_10 t).mp hf; have := pt_lt t; omega
  blk_simp
  rw [after0_10]
  idx_vars y
  obtain rfl : y0 = 0 := Fin.ext (by omega)
  refine (after_10 m c y1 t.val t.isLt).trans ((sum_term m c _ t.val h3).trans ?_)
  refine congrArg (fun k => grad (projBack (cols m c) (w m c)) (fun t => normed (x m c t)) k k) (Fin.ext ?_)
  blk_simp [idx t]

end Cert.Kernel3Ideal.Inproj

namespace Cert.Proof.Inproj

open Idealize.ShloMosaic Idealize.ShloMosaic.TcCoe Idealize.ShloMosaic.Tactic Idealize.SL.Sem Cert.Weights Cert.Mlp

section
open Cert.Reference3Ideal.Read

variable (x0 x1 : (⟨Cert.Reference3Ideal.S4096x512, .bf16⟩ : BufTy).Contents (Elt Ideal)) (x2 x3 : (⟨Cert.Reference3Ideal.S4096x128, .bf16⟩ : BufTy).Contents (Elt Ideal)) (x4 : (⟨Cert.Reference3Ideal.S4096x2048, .bf16⟩ : BufTy).Contents (Elt Ideal)) (x5 x6 : (⟨Cert.Reference3Ideal.S4096x1024, .f32⟩ : BufTy).Contents (Elt Ideal)) (x7 : (⟨Cert.Reference3Ideal.S1024x3328, .f32⟩ : BufTy).Contents (Elt Ideal)) (x8 : (⟨Cert.Reference3Ideal.S1x1024, .f32⟩ : BufTy).Contents (Elt Ideal))
variable (t : Fin 4096) (c : Fin 1024)

theorem add4 (a b c d : EReal) : a + b + c + d = a + (b + c + d) := by simp only [add_assoc]

/-- The reference's five gradients side by side, -/
theorem reference_cols (r : Fin 3328) : val_main_v26 (F := Ideal) x0 x1 x2 x3 x4 (ix2 t r) = parts (fun t j => x0 (ix2 t j)) (fun t j => x1 (ix2 t j)) (fun t j => x2 (ix2 t j)) (fun t j => x3 (ix2 t j)) (fun t j => x4 (ix2 t j)) t r := by
  unfold parts
  pointwise [val_main_v26, val_main_v25, val_main_v24, val_main_v23, val_main_v22, val_main_v21]
  repeat' split
  all_goals first
    | omega
    | rfl
    | exact congrArg (fun k => x1 (ix2 t k)) (Fin.ext (by dsimp only <;> omega))
    | exact congrArg (fun k => x2 (ix2 t k)) (Fin.ext (by dsimp only <;> omega))
    | exact congrArg (fun k => x3 (ix2 t k)) (Fin.ext (by dsimp only <;> omega))
    | exact congrArg (fun k => x4 (ix2 t k)) (Fin.ext (by dsimp only <;> omega))

/-- the gradient at the normalised tokens, -/
theorem reference_proj : val_main_v27 (F := Ideal) x0 x1 x2 x3 x4 x7 (ix2 t c) = projBack (parts (fun t j => x0 (ix2 t j)) (fun t j => x1 (ix2 t j)) (fun t j => x2 (ix2 t j)) (fun t j => x3 (ix2 t j)) (fun t j => x4 (ix2 t j))) (fun k r => x7 (ix2 k r)) t c := by
  pointwise [val_main_v27]
  unfold projBack
  exact Finset.sum_congr rfl fun r _ => congrArg (· * x7 (ix2 c r)) (reference_cols x0 x1 x2 x3 x4 t r)

/-- the inverse root of the mean square, -/
theorem reference_scale : val_main_v7 (F := Ideal) x5 (ix2 t 0) = scale fun k => x5 (ix2 t k) := by
  pointwise [val_main_v0, val_main_v1, val_main_cst, val_main_v2, val_main_v3, val_main_cst_0, val_main_v4, val_main_v5, val_main_cst_1, val_main_v6, val_main_v7]
  rfl

/-- the gradient through it, -/
theorem reference_back : val_main_v42 (F := Ideal) x0 x1 x2 x3 x4 x5 x7 x8 (ix1 t)
    = meanBack (fun k => x5 (ix2 t k)) (fun k => x8 (ix2 0 k)) (projBack (parts (fun t j => x0 (ix2 t j)) (fun t j => x1 (ix2 t j)) (fun t j => x2 (ix2 t j)) (fun t j => x3 (ix2 t j)) (fun t j => x4 (ix2 t j))) (fun k r => x7 (ix2 k r)) t) := by
  pointwise [val_main_v0, val_main_v1, val_main_cst, val_main_v2, val_main_v3, val_main_cst_0, val_main_v4, val_main_v5, val_main_cst_1, val_main_v6, val_main_v8, val_main_v9, val_main_cst_2, val_main_v10, val_main_v31, val_main_v32, val_main_v33, val_main_v34, val_main_cst_4, val_main_v35, val_main_v39, val_main_v40, val_main_cst_5, val_main_v41, val_main_v42, val_main_cst_6]
  simp only [Fin.sum_univ_one, reference_proj, reference_scale]
  rfl

/-- the tokens' gradient -/
theorem reference_0 : val_main_v47 (F := Ideal) x0 x1 x2 x3 x4 x5 x6 x7 x8
    = fun y => tokenBack (parts (fun t j => x0 (ix2 t j)) (fun t j => x1 (ix2 t j)) (fun t j => x2 (ix2 t j)) (fun t j => x3 (ix2 t j)) (fun t j => x4 (ix2 t j))) (fun k r => x7 (ix2 k r)) (fun k => x8 (ix2 0 k)) (fun t k => x5 (ix2 t k)) (fun t k => x6 (ix2 t k)) (y 0) (y 1) := by
  funext y
  idx_vars y
  pointwise [val_main_v31, val_main_v32, val_main_v36, val_main_v37, val_main_v38, val_main_v43, val_main_v44, val_main_v45, val_main_v46, val_main_v47]
  rw [reference_back, reference_proj, reference_scale]
  refine (add4 _ _ _ _).trans (congrArg (x6 (ix2 y0 y1) + ·) ?_)
  exact normBack_eq (fun k => x5 (ix2 y0 k)) (fun k => x8 (ix2 0 k)) (projBack (parts (fun t j => x0 (ix2 t j)) (fun t j => x1 (ix2 t j)) (fun t j => x2 (ix2 t j)) (fun t j => x3 (ix2 t j)) (fun t j => x4 (ix2 t j))) (fun k r => x7 (ix2 k r)) y0) y1

/-- and the gain's. -/
theorem reference_1 : val_main_v30 (F := Ideal) x0 x1 x2 x3 x4 x5 x7
    = fun y => grad (projBack (parts (fun t j => x0 (ix2 t j)) (fun t j => x1 (ix2 t j)) (fun t j => x2 (ix2 t j)) (fun t j => x3 (ix2 t j)) (fun t j => x4 (ix2 t j))) (fun k r => x7 (ix2 k r))) (fun t => normed fun k => x5 (ix2 t k)) (y 1) (y 1) := by
  funext y
  idx_vars y
  obtain rfl : y0 = 0 := Fin.ext (by omega)
  pointwise [val_main_v11, val_main_v12, val_main_v28, val_main_cst_3, val_main_v29, val_main_v30]
  unfold grad
  refine Finset.sum_congr rfl fun t _ => ?_
  rw [reference_proj, reference_scale, mul_comm]
  rfl

end

/-- The compiled kernel's frame, -/
theorem kernel_frame : Cert.quiescent_Kernel3 (hKernel3 := Cert.Kernel3.Gen.facts) := fun m ρ _ => by
  have same : ∀ Q, θ_run (Cert.Kernel3.defs (F := Bits)) (onTc (τ := Cert.Kernel3.τ) (Cert.Kernel3.main (F := Bits))) ⟨m, fun _ => 0, ρ⟩ Q
      = θ_run (Cert.Kernel3Ideal.defs (F := Bits)) (onTc (τ := Cert.Kernel3Ideal.τ) (Cert.Kernel3Ideal.main (F := Bits))) ⟨m, fun _ => 0, ρ⟩ Q := fun Q => by sl_kernel_rfl
  exact (same _).mpr (Cert.Kernel3Ideal.Gen.frame (F := Bits) m ρ)

/-- that of the kernel over the reals -/
theorem ideal_frame : Cert.quiescent_Kernel3Ideal (hKernel3Ideal := Cert.Kernel3Ideal.Gen.facts) := fun m ρ _ => Cert.Kernel3Ideal.Gen.frame m ρ

/-- and the reference's. -/
theorem reference_frame : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- Kernel and reference end with the same arrays. -/
theorem value : Cert.algebraic_Kernel3Ideal_Reference3Ideal (hKernel3Ideal := Cert.Kernel3Ideal.Gen.facts) (hReference3Ideal := Cert.Reference3Ideal.Gen.facts) := by
  intro m g m' g' _ hagree
  refine ⟨fun c y => tokenBack (Cert.Kernel3Ideal.Inproj.cols m c) (Cert.Kernel3Ideal.Inproj.w m c) (Cert.Kernel3Ideal.Inproj.g m c) (Cert.Kernel3Ideal.Inproj.x m c) (Cert.Kernel3Ideal.Inproj.dx1 m c) (y 0) (y 1), fun c y => grad (projBack (Cert.Kernel3Ideal.Inproj.cols m c) (Cert.Kernel3Ideal.Inproj.w m c)) (fun t => normed (Cert.Kernel3Ideal.Inproj.x m c t)) (y 1) (y 1),
    (θ_run Cert.Kernel3Ideal.defs _ _).mono (fun r h c => ⟨(h c).1.trans (Cert.Kernel3Ideal.Inproj.arr_9 m c), (h c).2.1.trans (Cert.Kernel3Ideal.Inproj.arr_10 m c), (h c).2.2⟩)
      (Cert.Kernel3Ideal.Value.run_blocks (F := Ideal) m g), ?_⟩
  refine (θ_run Cert.Reference3Ideal.defs _ _).mono (fun r h c => ⟨(h c).1.trans ?_, (h c).2.1.trans ?_, (h c).2.2⟩) (Cert.Reference3Ideal.Value.run (F := Ideal) m' g')
  · refine (Cert.Reference3Ideal.Read.val_main_v47_eq m' c).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact reference_0 _ _ _ _ _ _ _ _ _
  · rw [(hagree c).1, (hagree c).2.1, (hagree c).2.2.1, (hagree c).2.2.2.1, (hagree c).2.2.2.2.1, (hagree c).2.2.2.2.2.1, (hagree c).2.2.2.2.2.2.2.1]
    exact reference_1 _ _ _ _ _ _ _

end Cert.Proof.Inproj

end
-- ==== Proof.Weights.Down.lean ====
/- The gradient of the down projection: the kernel's array and the reference's are the sum over the tokens. -/
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel4
public import proofs.«01_k».proof.Proof.Gen.Kernel4Ideal
public import proofs.«01_k».proof.Proof.Gen.Reference4Ideal
public import proofs.«01_k».proof.Proof.Weights.Spec
public import proofs.«01_k».proof.Defs
public import Idealize.ShloMosaic.Lib.Claim
public import Idealize.ShloMosaic.Lib.Quiescent

@[expose] public section

set_option maxRecDepth 16384

noncomputable section

namespace Cert.Kernel4Ideal.Down

open Idealize.ShloMosaic Idealize.ShloMosaic.TcCoe Cert.Kernel4Ideal Cert.Kernel4Ideal.Gen Cert.Kernel4Ideal.Value Cert.Weights

variable (m : (ℓ : Loc nD τ sig) → Buf (Elt Ideal) ℓ) (c : Dev nD)

/-- The hidden activations, -/
def x (t : Fin 4096) (i : Fin 4096) : EReal := m ((c : Thread nD τ).loc main_arg0) (ix2 t i)
/-- and the gradients at the projection's output. -/
def d (t : Fin 4096) (j : Fin 1024) : EReal := m ((c : Thread nD τ).loc main_arg1) (ix2 t j)

/-- The step's array at an index: what was there, and the block's products. -/
theorem pay (acc : Vec Ideal S2048x1024 .f32) (a : Vec Ideal S1024x2048 .bf16) (b : Vec Ideal S1024x1024 .bf16) (i : Fin 2048) (j : Fin 1024) :
    k0_pay2 acc a b (ix2 i j) = acc (ix2 i j) + ∑ q : Fin 1024, a (ix2 q i) * b (ix2 q j) := by
  pointwise [k0_pay2]

/-- Where a point's blocks stand. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem pt_lt (t : Fin cfg0.N) : t.val < 8 := Nat.lt_of_lt_of_eq t.isLt N_0

/-- The point's block of activations -/
abbrev xb (t : Fin cfg0.N) : Vec Ideal S1024x2048 .bf16 := iblk m c 0 t
/-- and of gradients. -/
abbrev db (t : Fin cfg0.N) : Vec Ideal S1024x1024 .bf16 := iblk m c 1 t

/-- Both read at an index. -/
theorem iblk_0 (t : Fin cfg0.N) (q : Fin 1024) (i : Fin 2048) : xb m c t (ix2 q i)
    = x m c ⟨t.val % 4 * 1024 + q.val, by omega⟩ ⟨t.val / 4 * 2048 + i.val, by have := pt_lt t; omega⟩ := by
  refine Eq.trans ?_ (congrFun (V_main_arg0 m c) (ix2 _ _))
  blk_ext [iblk, idx t]
theorem iblk_1 (t : Fin cfg0.N) (q j : Fin 1024) : db m c t (ix2 q j) = d m c ⟨t.val % 4 * 1024 + q.val, by omega⟩ j := by
  refine Eq.trans ?_ (congrFun (V_main_arg1 m c) (ix2 _ _))
  blk_ext [iblk, idx t]

/-- What a point adds. -/
def term (i : Fin 4096) (j : Fin 1024) (n : ℕ) : EReal :=
  ∑ q : Fin 1024, x m c ⟨n % 4 * 1024 + q.val, by omega⟩ i * d m c ⟨n % 4 * 1024 + q.val, by omega⟩ j

/-- What a run of points leaves at an index of its block. -/
theorem run_sum (t : Fin cfg0.N) (h3 : t.val % 4 = 3) (i : Fin 2048) (j : Fin 1024) (i' : Fin 4096) (hi : i'.val = t.val / 4 * 2048 + i.val) :
    outsAt0 m c t.val t.isLt (ix2 i j) = grad (x m c) (d m c) i' j := by
  have hN := pt_lt t
  have hb : ∀ (n : ℕ) (h : n < cfg0.N), n / 4 = t.val / 4 → ∑ q : Fin 1024, xb m c ⟨n, h⟩ (ix2 q i) * db m c ⟨n, h⟩ (ix2 q j) = term m c i' j n := by
    intro n h hn
    refine Finset.sum_congr rfl fun q _ => ?_
    rw [iblk_0, iblk_1]
    exact congrArg₂ (· * ·) (congrArg (x m c _) (Fin.ext (by rw [hi, ← hn]))) rfl
  have hz : ∀ y, k0_pay1 (F := Ideal) y = 0 := fun y => by idx_vars y; pointwise [k0_pay1]
  rw [outsAt_2_eq]
  refine (fold_apply (reset2 m c) (step2 m c) (4 * (t.val / 4)) (ix2 i j) (term m c i' j) 3 ?_ ?_ (t.val % 4) (by omega) _).trans ?_
  · intro h
    exact (pay _ (xb m c _) (db m c _) i j).trans (by rw [hz, zero_add, hb _ h (by omega)])
  · intro n h acc h1 h2
    exact (pay _ (xb m c _) (db m c _) i j).trans (by rw [hb _ h (by omega)])
  · rw [h3]
    refine grad_blocks 4 1024 rfl _ _ _ _ _ fun s => ?_
    refine Finset.sum_congr rfl fun q _ => ?_
    have e : (4 * (t.val / 4) + s.val) % 4 = s.val := by have := s.isLt; omega
    simp only [e]

/-- The kernel's array is the gradient. -/
theorem arr : (dats m 0 c).arrAt 2 (cfgs 0).N = fun y => grad (x m c) (d m c) (y 0) (y 1) := by
  refine (dats m 0 c).arrAt_eq_of_covers 2 _ (by decide +kernel) fun t hf y => ?_
  have h3 : t.val % 4 = 3 := (flush0_2 t).mp hf
  blk_simp
  rw [after0_2]
  idx_vars y
  refine (run_sum m c t h3 y0 y1 ⟨t.val / 4 * 2048 + y0.val, by have := pt_lt t; omega⟩ rfl).trans ?_
  refine congrArg₂ (grad (x m c) (d m c)) (Fin.ext ?_) (Fin.ext ?_)
  · blk_simp [idx t]
  · blk_simp [idx t]

end Cert.Kernel4Ideal.Down

namespace Cert.Proof.Down

open Idealize.ShloMosaic Idealize.ShloMosaic.TcCoe Idealize.ShloMosaic.Tactic Idealize.SL.Sem Cert.Weights

/-- The reference's array is the gradient. -/
theorem reference_value (x0 : (⟨Cert.Reference4Ideal.S4096x4096, .bf16⟩ : BufTy).Contents (Elt Ideal)) (x1 : (⟨Cert.Reference4Ideal.S4096x1024, .bf16⟩ : BufTy).Contents (Elt Ideal)) :
    Cert.Reference4Ideal.Read.val_main_v5 (F := Ideal) x0 x1 = fun y => grad (fun t i => x0 (ix2 t i)) (fun t j => x1 (ix2 t j)) (y 0) (y 1) := by
  funext y
  idx_vars y
  pointwise [Cert.Reference4Ideal.Read.val_main_v5, Cert.Reference4Ideal.Read.val_main_v4, Cert.Reference4Ideal.Read.val_main_v3, Cert.Reference4Ideal.Read.val_main_v1]
  exact Finset.sum_congr rfl fun t _ => mul_comm _ _

/-- The compiled kernel's frame, -/
theorem kernel_frame : Cert.quiescent_Kernel4 (hKernel4 := Cert.Kernel4.Gen.facts) := fun m ρ _ => by
  have same : ∀ Q, θ_run (Cert.Kernel4.defs (F := Bits)) (onTc (τ := Cert.Kernel4.τ) (Cert.Kernel4.main (F := Bits))) ⟨m, fun _ => 0, ρ⟩ Q
      = θ_run (Cert.Kernel4Ideal.defs (F := Bits)) (onTc (τ := Cert.Kernel4Ideal.τ) (Cert.Kernel4Ideal.main (F := Bits))) ⟨m, fun _ => 0, ρ⟩ Q := fun Q => by sl_kernel_rfl
  exact (same _).mpr (Cert.Kernel4Ideal.Gen.frame (F := Bits) m ρ)

/-- that of the kernel over the reals -/
theorem ideal_frame : Cert.quiescent_Kernel4Ideal (hKernel4Ideal := Cert.Kernel4Ideal.Gen.facts) := fun m ρ _ => Cert.Kernel4Ideal.Gen.frame m ρ

/-- and the reference's. -/
theorem reference_frame : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- Kernel and reference end with the same array. -/
theorem value : Cert.algebraic_Kernel4Ideal_Reference4Ideal (hKernel4Ideal := Cert.Kernel4Ideal.Gen.facts) (hReference4Ideal := Cert.Reference4Ideal.Gen.facts) := by
  intro m g m' g' _ hagree
  refine ⟨fun c y => grad (Cert.Kernel4Ideal.Down.x m c) (Cert.Kernel4Ideal.Down.d m c) (y 0) (y 1),
    (θ_run Cert.Kernel4Ideal.defs _ _).mono (fun r h c => ⟨(h c).1.trans ((Cert.Kernel4Ideal.Value.final2 m c).symm.trans (Cert.Kernel4Ideal.Down.arr m c)), (h c).2⟩)
      (Cert.Kernel4Ideal.Value.run (F := Ideal) m g), ?_⟩
  refine (θ_run Cert.Reference4Ideal.defs _ _).mono (fun r h c => ⟨(h c).1.trans ?_, (h c).2⟩) (Cert.Reference4Ideal.Value.run (F := Ideal) m' g')
  rw [(hagree c).1, (hagree c).2]
  exact reference_value _ _

end Cert.Proof.Down

end
-- ==== Proof.Weights.Up.lean ====
/- The gradient of the up projection: the kernel's array and the reference's are the sum over the tokens. -/
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel5
public import proofs.«01_k».proof.Proof.Gen.Kernel5Ideal
public import proofs.«01_k».proof.Proof.Gen.Reference5Ideal
public import proofs.«01_k».proof.Proof.Weights.Spec
public import proofs.«01_k».proof.Defs
public import Idealize.ShloMosaic.Lib.Claim
public import Idealize.ShloMosaic.Lib.Quiescent

@[expose] public section

set_option maxRecDepth 16384

noncomputable section

namespace Cert.Kernel5Ideal.Up

open Idealize.ShloMosaic Idealize.ShloMosaic.TcCoe Cert.Kernel5Ideal Cert.Kernel5Ideal.Gen Cert.Kernel5Ideal.Value Cert.Weights

variable (m : (ℓ : Loc nD τ sig) → Buf (Elt Ideal) ℓ) (c : Dev nD)

/-- The normalised stream, -/
def x (t : Fin 4096) (i : Fin 1024) : EReal := m ((c : Thread nD τ).loc main_arg0) (ix2 t i)
/-- and the gradients at the projection's output. -/
def d (t : Fin 4096) (j : Fin 4096) : EReal := m ((c : Thread nD τ).loc main_arg1) (ix2 t j)

/-- The step's array at an index: what was there, and the block's products. -/
theorem pay (acc : Vec Ideal S1x1024x1024 .f32) (a : Vec Ideal S1024x1024 .bf16) (b : Vec Ideal S1024x1024 .bf16) (i j : Fin 1024) :
    k0_pay2 acc a b (ix3 0 i j) = acc (ix3 0 i j) + ∑ q : Fin 1024, a (ix2 q i) * b (ix2 q j) := by
  pointwise [k0_pay2]

/-- Where a point's blocks stand. -/
theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

theorem pt_lt (t : Fin cfg0.N) : t.val < 16 := Nat.lt_of_lt_of_eq t.isLt N_0

/-- The point's block of the stream -/
abbrev xb (t : Fin cfg0.N) : Vec Ideal S1024x1024 .bf16 := iblk m c 0 t
/-- and of gradients. -/
abbrev db (t : Fin cfg0.N) : Vec Ideal S1024x1024 .bf16 := iblk m c 1 t

/-- Both read at an index. -/
theorem iblk_0 (t : Fin cfg0.N) (q i : Fin 1024) : xb m c t (ix2 q i) = x m c ⟨t.val % 4 * 1024 + q.val, by omega⟩ i := by
  refine Eq.trans ?_ (congrFun (V_main_arg0 m c) (ix2 _ _))
  blk_ext [iblk, idx t]
theorem iblk_1 (t : Fin cfg0.N) (q j : Fin 1024) : db m c t (ix2 q j)
    = d m c ⟨t.val % 4 * 1024 + q.val, by omega⟩ ⟨t.val / 4 * 1024 + j.val, by have := pt_lt t; omega⟩ := by
  refine Eq.trans ?_ (congrFun (V_main_arg1 m c) (ix2 _ _))
  blk_ext [iblk, idx t]

/-- What a point adds. -/
def term (i : Fin 1024) (j : Fin 4096) (n : ℕ) : EReal :=
  ∑ q : Fin 1024, x m c ⟨n % 4 * 1024 + q.val, by omega⟩ i * d m c ⟨n % 4 * 1024 + q.val, by omega⟩ j

/-- What a run of points leaves at an index of its block. -/
theorem run_sum (t : Fin cfg0.N) (h3 : t.val % 4 = 3) (i j : Fin 1024) (j' : Fin 4096) (hj : j'.val = t.val / 4 * 1024 + j.val) :
    outsAt0 m c t.val t.isLt (ix3 0 i j) = grad (x m c) (d m c) i j' := by
  have hN := pt_lt t
  have hb : ∀ (n : ℕ) (h : n < cfg0.N), n / 4 = t.val / 4 → ∑ q : Fin 1024, xb m c ⟨n, h⟩ (ix2 q i) * db m c ⟨n, h⟩ (ix2 q j) = term m c i j' n := by
    intro n h hn
    refine Finset.sum_congr rfl fun q _ => ?_
    rw [iblk_0, iblk_1]
    exact congrArg₂ (· * ·) rfl (congrArg (d m c _) (Fin.ext (by rw [hj, ← hn])))
  have hz : ∀ y, k0_pay1 (F := Ideal) y = 0 := fun y => by idx_vars y; pointwise [k0_pay1]
  rw [outsAt_2_eq]
  refine (fold_apply (reset2 m c) (step2 m c) (4 * (t.val / 4)) (ix3 0 i j) (term m c i j') 3 ?_ ?_ (t.val % 4) (by omega) _).trans ?_
  · intro h
    exact (pay _ (xb m c _) (db m c _) i j).trans (by rw [hz, zero_add, hb _ h (by omega)])
  · intro n h acc h1 h2
    exact (pay _ (xb m c _) (db m c _) i j).trans (by rw [hb _ h (by omega)])
  · rw [h3]
    refine grad_blocks 4 1024 rfl _ _ _ _ _ fun s => ?_
    refine Finset.sum_congr rfl fun q _ => ?_
    have e : (4 * (t.val / 4) + s.val) % 4 = s.val := by have := s.isLt; omega
    simp only [e]

/-- The gradient in slabs of 1024 columns. -/
def slabs (x : Fin 4096 → Fin 1024 → EReal) (d : Fin 4096 → Fin 4096 → EReal) (y : S4x1024x1024.Idx) : EReal :=
  grad x d (y 1) ⟨(y 0).val * 1024 + (y 2).val, by
    have h0 : (y 0).val < 4 := (y 0).isLt
    have h2 : (y 2).val < 1024 := (y 2).isLt
    omega⟩

/-- The kernel's array is the gradient. -/
theorem arr : (dats m 0 c).arrAt 2 (cfgs 0).N = slabs (x m c) (d m c) := by
  refine (dats m 0 c).arrAt_eq_of_covers 2 _ (by decide +kernel) fun t hf y => ?_
  have h3 : t.val % 4 = 3 := (flush0_2 t).mp hf
  blk_simp
  rw [after0_2]
  idx_vars y
  have hy0 : y0 = 0 := Fin.ext (by have := y0.isLt; omega)
  subst hy0
  refine (run_sum m c t h3 y1 y2 ⟨t.val / 4 * 1024 + y2.val, by have := pt_lt t; omega⟩ rfl).trans ?_
  refine congrArg₂ (grad (x m c) (d m c)) (Fin.ext ?_) (Fin.ext ?_)
  · blk_simp [idx t]
  · blk_simp [idx t]
    rfl

end Cert.Kernel5Ideal.Up

namespace Cert.Proof.Up

open Idealize.ShloMosaic Idealize.ShloMosaic.TcCoe Idealize.ShloMosaic.Tactic Idealize.SL.Sem Cert.Weights

/-- The reference's array is the gradient. -/
theorem reference_value (x0 : (⟨Cert.Reference5Ideal.S4096x1024, .bf16⟩ : BufTy).Contents (Elt Ideal)) (x1 : (⟨Cert.Reference5Ideal.S4096x4096, .bf16⟩ : BufTy).Contents (Elt Ideal)) :
    Cert.Reference5Ideal.Read.val_main_v7 (F := Ideal) x0 x1 = Cert.Kernel5Ideal.Up.slabs (fun t i => x0 (ix2 t i)) (fun t j => x1 (ix2 t j)) := by
  funext y
  idx_vars y
  pointwise [Cert.Reference5Ideal.Read.val_main_v7, Cert.Reference5Ideal.Read.val_main_v6, Cert.Reference5Ideal.Read.val_main_v5, Cert.Reference5Ideal.Read.val_main_v4, Cert.Reference5Ideal.Read.val_main_v3, Cert.Reference5Ideal.Read.val_main_v1]
  exact Finset.sum_congr rfl fun t _ => mul_comm _ _

/-- The compiled kernel's frame, -/
theorem kernel_frame : Cert.quiescent_Kernel5 (hKernel5 := Cert.Kernel5.Gen.facts) := fun m ρ _ => by
  have same : ∀ Q, θ_run (Cert.Kernel5.defs (F := Bits)) (onTc (τ := Cert.Kernel5.τ) (Cert.Kernel5.main (F := Bits))) ⟨m, fun _ => 0, ρ⟩ Q
      = θ_run (Cert.Kernel5Ideal.defs (F := Bits)) (onTc (τ := Cert.Kernel5Ideal.τ) (Cert.Kernel5Ideal.main (F := Bits))) ⟨m, fun _ => 0, ρ⟩ Q := fun Q => by sl_kernel_rfl
  exact (same _).mpr (Cert.Kernel5Ideal.Gen.frame (F := Bits) m ρ)

/-- that of the kernel over the reals -/
theorem ideal_frame : Cert.quiescent_Kernel5Ideal (hKernel5Ideal := Cert.Kernel5Ideal.Gen.facts) := fun m ρ _ => Cert.Kernel5Ideal.Gen.frame m ρ

/-- and the reference's. -/
theorem reference_frame : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- Kernel and reference end with the same array. -/
theorem value : Cert.algebraic_Kernel5Ideal_Reference5Ideal (hKernel5Ideal := Cert.Kernel5Ideal.Gen.facts) (hReference5Ideal := Cert.Reference5Ideal.Gen.facts) := by
  intro m g m' g' _ hagree
  refine ⟨fun c => Cert.Kernel5Ideal.Up.slabs (Cert.Kernel5Ideal.Up.x m c) (Cert.Kernel5Ideal.Up.d m c),
    (θ_run Cert.Kernel5Ideal.defs _ _).mono (fun r h c => ⟨(h c).1.trans ((Cert.Kernel5Ideal.Value.final2 m c).symm.trans (Cert.Kernel5Ideal.Up.arr m c)), (h c).2⟩)
      (Cert.Kernel5Ideal.Value.run (F := Ideal) m g), ?_⟩
  refine (θ_run Cert.Reference5Ideal.defs _ _).mono (fun r h c => ⟨(h c).1.trans ?_, (h c).2⟩) (Cert.Reference5Ideal.Value.run (F := Ideal) m' g')
  rw [(hagree c).1, (hagree c).2]
  exact reference_value _ _

end Cert.Proof.Up

end
-- ==== Proof.Weights.Mix.lean ====
/- The gradients of the mixed output's weights: the kernel's three arrays and the reference's are sums over the tokens. -/
module

public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel6
public import proofs.«01_k».proof.Proof.Gen.Kernel6Ideal
public import proofs.«01_k».proof.Proof.Gen.Reference6Ideal
public import proofs.«01_k».proof.Defs
public import Idealize.ShloMosaic.Lib.Claim
public import Idealize.ShloMosaic.Lib.Quiescent
public import proofs.«01_k».proof.Proof.Weights.Spec
public import Idealize.ShloMosaic.Lib.Pipeline.ReadBack

@[expose] public section

set_option maxRecDepth 16384

noncomputable section

namespace Cert.Kernel6Ideal.Mix

open Idealize.ShloMosaic Idealize.ShloMosaic.TcCoe Cert.Kernel6Ideal Cert.Kernel6Ideal.Gen Cert.Kernel6Ideal.Value Cert.Weights

/-- Both offsets are zero. -/
theorem hz2 : (![0, 0] : Fin 2 → ℕ) = fun _ => 0 := by decide

section
variable (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S4x512x256 .f32) (harg8 : arg8.IsWhole) (arg9 : Memref sig .tc .vmem S4x512x256 .f32) (harg9 : arg9.IsWhole)
variable (x0 x1 : Vec Ideal S1024x1024 .bf16) (x2 : Vec Ideal S1024x512 .bf16) (x3 : Vec Ideal S1024x1024 .bf16) (x4 : Vec Ideal S1024x512 .bf16) (x5 : Vec Ideal S1024x1024 .bf16)
variable (xo6 : Vec Ideal S1024x1024 .f32) (xo7 xo8 : Vec Ideal S4x512x256 .f32)

theorem out_B_6 (hc0 : ¬cond0_0 i) (a b : Fin 1024) :
    out0_B_6 c i arg1 harg1 arg2 harg2 arg3 harg3 arg4 harg4 arg5 harg5 arg6 harg6 arg7 harg7 arg8 harg8 arg9 harg9 hc0 x0 x1 x2 x3 x4 x5 xo6 xo7 xo8 (ix2 a b) = xo6 (ix2 a b) + ∑ q : Fin 1024, x0 (ix2 q a) * x1 (ix2 q b) := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo6 xo7 xo8)]
  unfold kernelRun0_B
  dsimp only
  try sl_unfold_words
  rw [View.canon_unit_zero hz2]
  simp only [View.readAt_eq_ld, harg1.read_unread, harg2.read_unread, harg7.read_unread, View.ld_unit_zero (S := S1024x1024) hz2, shapeCast_self]
  pointwise [k0_pay7]

theorem out_A_6 (hc0 : cond0_0 i) (a b : Fin 1024) :
    out0_A_6 c i arg1 harg1 arg2 harg2 arg3 harg3 arg4 harg4 arg5 harg5 arg6 harg6 arg7 harg7 arg8 harg8 arg9 harg9 hc0 x0 x1 x2 x3 x4 x5 (ix2 a b) = ∑ q : Fin 1024, x0 (ix2 q a) * x1 (ix2 q b) := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  try sl_unfold_words
  rw [View.canon_cons_unit_zero (S := S1024x1024) hz2, View.readCov_unit_zero (S := S1024x1024) _ hz2]
  simp only [View.readAt_eq_ld, harg1.read_unread, harg2.read_unread, View.ld_unit_zero (S := S1024x1024) hz2, shapeCast_self]
  pointwise [k0_pay7, k0_pay4]

theorem out_B_7 (hc0 : ¬cond0_0 i) (s : Fin 4) (a : Fin 512) (b : Fin 256) :
    out0_B_7 c i arg1 harg1 arg2 harg2 arg3 harg3 arg4 harg4 arg5 harg5 arg6 harg6 arg7 harg7 arg8 harg8 arg9 harg9 hc0 x0 x1 x2 x3 x4 x5 xo6 xo7 xo8 (ix3 s a b)
      = xo7 (ix3 s a b) + ∑ q : Fin 1024, x2 (ix2 q a) * x3 (ix2 q ⟨s.val * 256 + b.val, by omega⟩) := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xo6 xo7 xo8)]
  unfold kernelRun0_B
  dsimp only
  try sl_unfold_words
  simp only [View.readAt_eq_ld, harg3.read_unread, harg4.read_unread, harg5.read_unread, harg6.read_unread, harg8.read_unread, View.ld_unit_zero (S := S1024x1024) hz2, View.ld_unit_zero (S := S1024x512) hz2]
  canon_tiles z h
  all_goals
    idx_vars z
    obtain rfl : z0 = 0 := Fin.ext (by omega)
    obtain rfl : a = z1 := Fin.ext h1
    obtain rfl : b = z2 := Fin.ext h2
    have h0' : s.val = _ := h0
  · obtain rfl : s = 3 := Fin.ext (by simpa using h0')
    pointwise [k0_pay12, k0_pay11, k0_pay10, k0_pay9, k0_pay8, k0_pay5]
  · obtain rfl : s = 2 := Fin.ext (by simpa using h0')
    pointwise [k0_pay12, k0_pay11, k0_pay10, k0_pay9, k0_pay8, k0_pay5]
  · obtain rfl : s = 1 := Fin.ext (by simpa using h0')
    pointwise [k0_pay12, k0_pay11, k0_pay10, k0_pay9, k0_pay8, k0_pay5]
  · obtain rfl : s = 0 := Fin.ext (by simpa using h0')
    pointwise [k0_pay12, k0_pay11, k0_pay10, k0_pay9, k0_pay8, k0_pay5]

theorem out_A_7 (hc0 : cond0_0 i) (s : Fin 4) (a : Fin 512) (b : Fin 256) :
    out0_A_7 c i arg1 harg1 arg2 harg2 arg3 harg3 arg4 harg4 arg5 harg5 arg6 harg6 arg7 harg7 arg8 harg8 arg9 harg9 hc0 x0 x1 x2 x3 x4 x5 (ix3 s a b)
      = ∑ q : Fin 1024, x2 (ix2 q a) * x3 (ix2 q ⟨s.val * 256 + b.val, by omega⟩) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  try sl_unfold_words
  simp (disch := decide) only [↓ View.readCov_skip, ↓ View.readCov_cons_toLoadRect, ↓ View.readCov_fill]
  refine (canon_drop [_, _, _, _] [_] _ (View.cover_of_tiled_head _ _ _ (by rfl) _)).trans ?_
  simp only [View.readAt_eq_ld, harg3.read_unread, harg4.read_unread, harg5.read_unread, harg6.read_unread, harg8.read_unread, View.ld_unit_zero (S := S1024x1024) hz2, View.ld_unit_zero (S := S1024x512) hz2]
  canon_tiles z h
  all_goals
    idx_vars z
    obtain rfl : z0 = 0 := Fin.ext (by omega)
    obtain rfl : a = z1 := Fin.ext h1
    obtain rfl : b = z2 := Fin.ext h2
    have h0' : s.val = _ := h0
  · obtain rfl : s = 3 := Fin.ext (by simpa using h0')
    pointwise [k0_pay12, k0_pay11, k0_pay10, k0_pay9, k0_pay8, k0_pay5]
  · obtain rfl : s = 2 := Fin.ext (by simpa using h0')
    pointwise [k0_pay12, k0_pay11, k0_pay10, k0_pay9, k0_pay8, k0_pay5]
  · obtain rfl : s = 1 := Fin.ext (by simpa using h0')
    pointwise [k0_pay12, k0_pay11, k0_pay10, k0_pay9, k0_pay8, k0_pay5]
  · obtain rfl : s = 0 := Fin.ext (by simpa using h0')
    pointwise [k0_pay12, k0_pay11, k0_pay10, k0_pay9, k0_pay8, k0_pay5]

theorem out_B_8 (hc0 : ¬cond0_0 i) (s : Fin 4) (a : Fin 512) (b : Fin 256) :
    out0_B_8 c i arg1 harg1 arg2 harg2 arg3 harg3 arg4 harg4 arg5 harg5 arg6 harg6 arg7 harg7 arg8 harg8 arg9 harg9 hc0 x0 x1 x2 x3 x4 x5 xo6 xo7 xo8 (ix3 s a b)
      = xo8 (ix3 s a b) + ∑ q : Fin 1024, x4 (ix2 q a) * x5 (ix2 q ⟨s.val * 256 + b.val, by omega⟩) := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 xo6 xo7 xo8)]
  unfold kernelRun0_B
  dsimp only
  try sl_unfold_words
  simp only [View.readAt_eq_ld, harg3.read_unread, harg4.read_unread, harg5.read_unread, harg6.read_unread, harg9.read_unread, View.ld_unit_zero (S := S1024x1024) hz2, View.ld_unit_zero (S := S1024x512) hz2]
  canon_tiles z h
  all_goals
    idx_vars z
    obtain rfl : z0 = 0 := Fin.ext (by omega)
    obtain rfl : a = z1 := Fin.ext h1
    obtain rfl : b = z2 := Fin.ext h2
    have h0' : s.val = _ := h0
  · obtain rfl : s = 3 := Fin.ext (by simpa using h0')
    pointwise [k0_pay3, k0_pay2, k0_pay1, k0_pay15, k0_pay14, k0_pay13, k0_pay6]
  · obtain rfl : s = 2 := Fin.ext (by simpa using h0')
    pointwise [k0_pay3, k0_pay2, k0_pay1, k0_pay15, k0_pay14, k0_pay13, k0_pay6]
  · obtain rfl : s = 1 := Fin.ext (by simpa using h0')
    pointwise [k0_pay3, k0_pay2, k0_pay1, k0_pay15, k0_pay14, k0_pay13, k0_pay6]
  · obtain rfl : s = 0 := Fin.ext (by simpa using h0')
    pointwise [k0_pay3, k0_pay2, k0_pay1, k0_pay15, k0_pay14, k0_pay13, k0_pay6]

theorem out_A_8 (hc0 : cond0_0 i) (s : Fin 4) (a : Fin 512) (b : Fin 256) :
    out0_A_8 c i arg1 harg1 arg2 harg2 arg3 harg3 arg4 harg4 arg5 harg5 arg6 harg6 arg7 harg7 arg8 harg8 arg9 harg9 hc0 x0 x1 x2 x3 x4 x5 (ix3 s a b)
      = ∑ q : Fin 1024, x4 (ix2 q a) * x5 (ix2 q ⟨s.val * 256 + b.val, by omega⟩) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  try sl_unfold_words
  simp (disch := decide) only [↓ View.readCov_skip, ↓ View.readCov_cons_toLoadRect, ↓ View.readCov_fill]
  refine (canon_drop [_, _, _, _] [_] _ (View.cover_of_tiled_head _ _ _ (by rfl) _)).trans ?_
  simp only [View.readAt_eq_ld, harg3.read_unread, harg4.read_unread, harg5.read_unread, harg6.read_unread, harg9.read_unread, View.ld_unit_zero (S := S1024x1024) hz2, View.ld_unit_zero (S := S1024x512) hz2]
  canon_tiles z h
  all_goals
    idx_vars z
    obtain rfl : z0 = 0 := Fin.ext (by omega)
    obtain rfl : a = z1 := Fin.ext h1
    obtain rfl : b = z2 := Fin.ext h2
    have h0' : s.val = _ := h0
  · obtain rfl : s = 3 := Fin.ext (by simpa using h0')
    pointwise [k0_pay3, k0_pay2, k0_pay1, k0_pay15, k0_pay14, k0_pay13, k0_pay6]
  · obtain rfl : s = 2 := Fin.ext (by simpa using h0')
    pointwise [k0_pay3, k0_pay2, k0_pay1, k0_pay15, k0_pay14, k0_pay13, k0_pay6]
  · obtain rfl : s = 1 := Fin.ext (by simpa using h0')
    pointwise [k0_pay3, k0_pay2, k0_pay1, k0_pay15, k0_pay14, k0_pay13, k0_pay6]
  · obtain rfl : s = 0 := Fin.ext (by simpa using h0')
    pointwise [k0_pay3, k0_pay2, k0_pay1, k0_pay15, k0_pay14, k0_pay13, k0_pay6]

end

variable (m : (ℓ : Loc nD τ sig) → Buf (Elt Ideal) ℓ) (c : Dev nD)

/-- The merged activations, -/
def x (t : Fin 4096) (i : Fin 1024) : EReal := m ((c : Thread nD τ).loc main_arg0) (ix2 t i)
/-- the gradients at the mixed output, -/
def dm (t : Fin 4096) (i : Fin 1024) : EReal := m ((c : Thread nD τ).loc main_arg1) (ix2 t i)
/-- the pooled branch's outputs, -/
def yp (t : Fin 4096) (i : Fin 512) : EReal := m ((c : Thread nD τ).loc main_arg2) (ix2 t i)
/-- the gradients at its projection, -/
def dp (t : Fin 4096) (i : Fin 1024) : EReal := m ((c : Thread nD τ).loc main_arg3) (ix2 t i)
/-- the attention branch's outputs -/
def ya (t : Fin 4096) (i : Fin 512) : EReal := m ((c : Thread nD τ).loc main_arg4) (ix2 t i)
/-- and the gradients at its projection. -/
def da (t : Fin 4096) (i : Fin 1024) : EReal := m ((c : Thread nD τ).loc main_arg5) (ix2 t i)

/-- Where a point's blocks stand. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0, 0] ∧ win0_8.index t = ![0, 0, 0] :=
  (by decide +kernel : ∀ t : Fin grid0.N, _)

theorem lt_of_pt {n : ℕ} (h : n < cfg0.N) : n < 4 := Nat.lt_of_lt_of_eq h N_0
theorem pt_lt (t : Fin cfg0.N) : t.val < 4 := lt_of_pt t.isLt

theorem iblk_0 (t : Fin cfg0.N) (q : Fin 1024) (i : Fin 1024) : (iblk m c 0 t : Vec Ideal S1024x1024 .bf16) (ix2 q i) = x m c ⟨t.val * 1024 + q.val, by have := pt_lt t; omega⟩ i := by
  refine Eq.trans ?_ (congrFun (V_main_arg0 m c) (ix2 _ _))
  blk_ext [iblk, idx t]
theorem iblk_1 (t : Fin cfg0.N) (q : Fin 1024) (i : Fin 1024) : (iblk m c 1 t : Vec Ideal S1024x1024 .bf16) (ix2 q i) = dm m c ⟨t.val * 1024 + q.val, by have := pt_lt t; omega⟩ i := by
  refine Eq.trans ?_ (congrFun (V_main_arg1 m c) (ix2 _ _))
  blk_ext [iblk, idx t]
theorem iblk_2 (t : Fin cfg0.N) (q : Fin 1024) (i : Fin 512) : (iblk m c 2 t : Vec Ideal S1024x512 .bf16) (ix2 q i) = yp m c ⟨t.val * 1024 + q.val, by have := pt_lt t; omega⟩ i := by
  refine Eq.trans ?_ (congrFun (V_main_arg2 m c) (ix2 _ _))
  blk_ext [iblk, idx t]
theorem iblk_3 (t : Fin cfg0.N) (q : Fin 1024) (i : Fin 1024) : (iblk m c 3 t : Vec Ideal S1024x1024 .bf16) (ix2 q i) = dp m c ⟨t.val * 1024 + q.val, by have := pt_lt t; omega⟩ i := by
  refine Eq.trans ?_ (congrFun (V_main_arg3 m c) (ix2 _ _))
  blk_ext [iblk, idx t]
theorem iblk_4 (t : Fin cfg0.N) (q : Fin 1024) (i : Fin 512) : (iblk m c 4 t : Vec Ideal S1024x512 .bf16) (ix2 q i) = ya m c ⟨t.val * 1024 + q.val, by have := pt_lt t; omega⟩ i := by
  refine Eq.trans ?_ (congrFun (V_main_arg4 m c) (ix2 _ _))
  blk_ext [iblk, idx t]
theorem iblk_5 (t : Fin cfg0.N) (q : Fin 1024) (i : Fin 1024) : (iblk m c 5 t : Vec Ideal S1024x1024 .bf16) (ix2 q i) = da m c ⟨t.val * 1024 + q.val, by have := pt_lt t; omega⟩ i := by
  refine Eq.trans ?_ (congrFun (V_main_arg5 m c) (ix2 _ _))
  blk_ext [iblk, idx t]

/-- What a point adds to a gradient. -/
def term {a b : ℕ} (x : Fin 4096 → Fin a → EReal) (d : Fin 4096 → Fin b → EReal) (i : Fin a) (j : Fin b) (n : ℕ) : EReal :=
  ∑ q : Fin 1024, x ⟨n % 4 * 1024 + q.val, by omega⟩ i * d ⟨n % 4 * 1024 + q.val, by omega⟩ j

/-- The four points add up to it. -/
theorem sum_term {a b : ℕ} (x : Fin 4096 → Fin a → EReal) (d : Fin 4096 → Fin b → EReal) (i : Fin a) (j : Fin b) (n : ℕ) (h : n = 3) :
    ∑ s : Fin (n + 1), term x d i j s.val = grad x d i j := by
  subst h
  refine grad_blocks 4 1024 rfl _ _ _ _ _ fun s => Finset.sum_congr rfl fun q _ => ?_
  have e : s.val % 4 = s.val := Nat.mod_eq_of_lt s.isLt
  simp only [e]

/-- Result 0's array after a point. -/
theorem after_6 (a b : Fin 1024) (n : ℕ) (h : n < cfg0.N) :
    (outsAt0 m c n h).1 (ix2 a b) = ∑ k : Fin (n + 1), term (x m c) (dm m c) a b k.val := by
  refine sum_of_steps cfg0.N (fun n h => (outsAt0 m c n h).1 (ix2 a b)) (term (x m c) (dm m c) a b) (fun h => ?_) (fun n h => ?_) n h
  · refine (congrArg (fun p => p.1 (ix2 a b)) (outsAt0_A m c ⟨0, h⟩ (Nat.zero_mod 4))).trans ?_
    dsimp only
    rw [out_A_6]
    unfold term
    refine Finset.sum_congr rfl fun q _ => ?_
    rw [iblk_0, iblk_1]
  · have e4 : (n + 1) % 4 = n + 1 := Nat.mod_eq_of_lt (lt_of_pt h)
    have ne : ¬(n + 1) % 4 = 0 := by omega
    refine (congrArg (fun p => p.1 (ix2 a b)) (outsAt0_B m c ⟨n + 1, h⟩ ne)).trans ?_
    dsimp only
    rw [out_B_6]
    unfold term
    refine congrArg₂ (· + ·) rfl (Finset.sum_congr rfl fun q _ => ?_)
    rw [iblk_0, iblk_1]
    simp only [e4]

/-- Result 1's array after a point. -/
theorem after_7 (s : Fin 4) (a : Fin 512) (b : Fin 256) (n : ℕ) (h : n < cfg0.N) :
    (outsAt0 m c n h).2.1 (ix3 s a b) = ∑ k : Fin (n + 1), term (yp m c) (dp m c) a ⟨s.val * 256 + b.val, by omega⟩ k.val := by
  refine sum_of_steps cfg0.N (fun n h => (outsAt0 m c n h).2.1 (ix3 s a b)) (term (yp m c) (dp m c) a ⟨s.val * 256 + b.val, by omega⟩) (fun h => ?_) (fun n h => ?_) n h
  · refine (congrArg (fun p => p.2.1 (ix3 s a b)) (outsAt0_A m c ⟨0, h⟩ (Nat.zero_mod 4))).trans ?_
    dsimp only
    rw [out_A_7]
    unfold term
    refine Finset.sum_congr rfl fun q _ => ?_
    rw [iblk_2, iblk_3]
  · have e4 : (n + 1) % 4 = n + 1 := Nat.mod_eq_of_lt (lt_of_pt h)
    have ne : ¬(n + 1) % 4 = 0 := by omega
    refine (congrArg (fun p => p.2.1 (ix3 s a b)) (outsAt0_B m c ⟨n + 1, h⟩ ne)).trans ?_
    dsimp only
    rw [out_B_7]
    unfold term
    refine congrArg₂ (· + ·) rfl (Finset.sum_congr rfl fun q _ => ?_)
    rw [iblk_2, iblk_3]
    simp only [e4]

/-- Result 2's array after a point. -/
theorem after_8 (s : Fin 4) (a : Fin 512) (b : Fin 256) (n : ℕ) (h : n < cfg0.N) :
    (outsAt0 m c n h).2.2 (ix3 s a b) = ∑ k : Fin (n + 1), term (ya m c) (da m c) a ⟨s.val * 256 + b.val, by omega⟩ k.val := by
  refine sum_of_steps cfg0.N (fun n h => (outsAt0 m c n h).2.2 (ix3 s a b)) (term (ya m c) (da m c) a ⟨s.val * 256 + b.val, by omega⟩) (fun h => ?_) (fun n h => ?_) n h
  · refine (congrArg (fun p => p.2.2 (ix3 s a b)) (outsAt0_A m c ⟨0, h⟩ (Nat.zero_mod 4))).trans ?_
    dsimp only
    rw [out_A_8]
    unfold term
    refine Finset.sum_congr rfl fun q _ => ?_
    rw [iblk_4, iblk_5]
  · have e4 : (n + 1) % 4 = n + 1 := Nat.mod_eq_of_lt (lt_of_pt h)
    have ne : ¬(n + 1) % 4 = 0 := by omega
    refine (congrArg (fun p => p.2.2 (ix3 s a b)) (outsAt0_B m c ⟨n + 1, h⟩ ne)).trans ?_
    dsimp only
    rw [out_B_8]
    unfold term
    refine congrArg₂ (· + ·) rfl (Finset.sum_congr rfl fun q _ => ?_)
    rw [iblk_4, iblk_5]
    simp only [e4]

/-- A gradient in slabs of 256 columns. -/
def slabs (x : Fin 4096 → Fin 512 → EReal) (d : Fin 4096 → Fin 1024 → EReal) (y : S4x512x256.Idx) : EReal :=
  grad x d (y 1) ⟨(y 0).val * 256 + (y 2).val, by
    have h0 : (y 0).val < 4 := (y 0).isLt
    have h2 : (y 2).val < 256 := (y 2).isLt
    omega⟩

/-- Result 0's array. -/
theorem arr_6 : (dats m 0 c).arrAt 6 (cfgs 0).N = fun y => grad (x m c) (dm m c) (y 0) (y 1) := by
  refine (dats m 0 c).arrAt_eq_of_covers 6 _ (by decide +kernel) fun t hf y => ?_
  have h3 : t.val = 3 := by have := (flush0_6 t).mp hf; have := pt_lt t; omega
  blk_simp
  rw [after0_6]
  idx_vars y
  refine (after_6 m c y0 y1 t.val t.isLt).trans ((sum_term _ _ _ _ t.val h3).trans ?_)
  refine congrArg₂ (grad (x m c) (dm m c)) (Fin.ext ?_) (Fin.ext ?_)
  · blk_simp [idx t]
  · blk_simp [idx t]

/-- Result 1's array. -/
theorem arr_7 : (dats m 0 c).arrAt 7 (cfgs 0).N = slabs (yp m c) (dp m c) := by
  refine (dats m 0 c).arrAt_eq_of_covers 7 _ (by decide +kernel) fun t hf y => ?_
  have h3 : t.val = 3 := by have := (flush0_7 t).mp hf; have := pt_lt t; omega
  blk_simp
  rw [after0_7]
  idx_vars y
  refine (after_7 m c y0 y1 y2 t.val t.isLt).trans ((sum_term _ _ _ _ t.val h3).trans ?_)
  refine congrArg₂ (grad (yp m c) (dp m c)) (Fin.ext ?_) (Fin.ext ?_)
  · blk_simp [idx t]
  · blk_simp [idx t]

/-- Result 2's array. -/
theorem arr_8 : (dats m 0 c).arrAt 8 (cfgs 0).N = slabs (ya m c) (da m c) := by
  refine (dats m 0 c).arrAt_eq_of_covers 8 _ (by decide +kernel) fun t hf y => ?_
  have h3 : t.val = 3 := by have := (flush0_8 t).mp hf; have := pt_lt t; omega
  blk_simp
  rw [after0_8]
  idx_vars y
  refine (after_8 m c y0 y1 y2 t.val t.isLt).trans ((sum_term _ _ _ _ t.val h3).trans ?_)
  refine congrArg₂ (grad (ya m c) (da m c)) (Fin.ext ?_) (Fin.ext ?_)
  · blk_simp [idx t]
  · blk_simp [idx t]

end Cert.Kernel6Ideal.Mix

namespace Cert.Proof.Mix

open Idealize.ShloMosaic Idealize.ShloMosaic.TcCoe Idealize.ShloMosaic.Tactic Idealize.SL.Sem Cert.Weights

/-- The reference's first array is a gradient, -/
theorem reference_0 (x0 x1 : (⟨Cert.Reference6Ideal.S4096x1024, .bf16⟩ : BufTy).Contents (Elt Ideal)) :
    Cert.Reference6Ideal.Read.val_main_v5 (F := Ideal) x0 x1 = fun y => grad (fun t i => x0 (ix2 t i)) (fun t j => x1 (ix2 t j)) (y 0) (y 1) := by
  funext y
  idx_vars y
  pointwise [Cert.Reference6Ideal.Read.val_main_v5, Cert.Reference6Ideal.Read.val_main_v4, Cert.Reference6Ideal.Read.val_main_v3, Cert.Reference6Ideal.Read.val_main_v1]
  exact Finset.sum_congr rfl fun t _ => mul_comm _ _

/-- so is its second -/
theorem reference_1 (x2 : (⟨Cert.Reference6Ideal.S4096x512, .bf16⟩ : BufTy).Contents (Elt Ideal)) (x3 : (⟨Cert.Reference6Ideal.S4096x1024, .bf16⟩ : BufTy).Contents (Elt Ideal)) :
    Cert.Reference6Ideal.Read.val_main_v13 (F := Ideal) x2 x3 = Cert.Kernel6Ideal.Mix.slabs (fun t i => x2 (ix2 t i)) (fun t j => x3 (ix2 t j)) := by
  funext y
  idx_vars y
  pointwise [Cert.Reference6Ideal.Read.val_main_v13, Cert.Reference6Ideal.Read.val_main_v12, Cert.Reference6Ideal.Read.val_main_v11, Cert.Reference6Ideal.Read.val_main_v10, Cert.Reference6Ideal.Read.val_main_v9, Cert.Reference6Ideal.Read.val_main_v7]
  exact Finset.sum_congr rfl fun t _ => mul_comm _ _

/-- and its third. -/
theorem reference_2 (x4 : (⟨Cert.Reference6Ideal.S4096x512, .bf16⟩ : BufTy).Contents (Elt Ideal)) (x5 : (⟨Cert.Reference6Ideal.S4096x1024, .bf16⟩ : BufTy).Contents (Elt Ideal)) :
    Cert.Reference6Ideal.Read.val_main_v21 (F := Ideal) x4 x5 = Cert.Kernel6Ideal.Mix.slabs (fun t i => x4 (ix2 t i)) (fun t j => x5 (ix2 t j)) := by
  funext y
  idx_vars y
  pointwise [Cert.Reference6Ideal.Read.val_main_v21, Cert.Reference6Ideal.Read.val_main_v20, Cert.Reference6Ideal.Read.val_main_v19, Cert.Reference6Ideal.Read.val_main_v18, Cert.Reference6Ideal.Read.val_main_v17, Cert.Reference6Ideal.Read.val_main_v15]
  exact Finset.sum_congr rfl fun t _ => mul_comm _ _

/-- The compiled kernel's frame, -/
theorem kernel_frame : Cert.quiescent_Kernel6 (hKernel6 := Cert.Kernel6.Gen.facts) := fun m ρ _ => by
  have same : ∀ Q, θ_run (Cert.Kernel6.defs (F := Bits)) (onTc (τ := Cert.Kernel6.τ) (Cert.Kernel6.main (F := Bits))) ⟨m, fun _ => 0, ρ⟩ Q
      = θ_run (Cert.Kernel6Ideal.defs (F := Bits)) (onTc (τ := Cert.Kernel6Ideal.τ) (Cert.Kernel6Ideal.main (F := Bits))) ⟨m, fun _ => 0, ρ⟩ Q := fun Q => by sl_kernel_rfl
  exact (same _).mpr (Cert.Kernel6Ideal.Gen.frame (F := Bits) m ρ)

/-- that of the kernel over the reals -/
theorem ideal_frame : Cert.quiescent_Kernel6Ideal (hKernel6Ideal := Cert.Kernel6Ideal.Gen.facts) := fun m ρ _ => Cert.Kernel6Ideal.Gen.frame m ρ

/-- and the reference's. -/
theorem reference_frame : Cert.quiescent_Reference6Ideal (hReference6Ideal := Cert.Reference6Ideal.Gen.facts) := fun m ρ _ =>
  (θ_run Cert.Reference6Ideal.defs _ _).mono (fun r h => ⟨fun c => (h c).2.2.2, sem_eq_zero_of_no_sems (by decide) r.2⟩)
    (Cert.Reference6Ideal.Value.run (F := Ideal) m ρ)

/-- Kernel and reference end with the same arrays. -/
theorem value : Cert.algebraic_Kernel6Ideal_Reference6Ideal (hKernel6Ideal := Cert.Kernel6Ideal.Gen.facts) (hReference6Ideal := Cert.Reference6Ideal.Gen.facts) := by
  intro m g m' g' _ hagree
  refine ⟨fun c y => grad (Cert.Kernel6Ideal.Mix.x m c) (Cert.Kernel6Ideal.Mix.dm m c) (y 0) (y 1), fun c => Cert.Kernel6Ideal.Mix.slabs (Cert.Kernel6Ideal.Mix.yp m c) (Cert.Kernel6Ideal.Mix.dp m c), fun c => Cert.Kernel6Ideal.Mix.slabs (Cert.Kernel6Ideal.Mix.ya m c) (Cert.Kernel6Ideal.Mix.da m c),
    (θ_run Cert.Kernel6Ideal.defs _ _).mono (fun r h c => ⟨(h c).1.trans (Cert.Kernel6Ideal.Mix.arr_6 m c), (h c).2.1.trans (Cert.Kernel6Ideal.Mix.arr_7 m c), (h c).2.2.1.trans (Cert.Kernel6Ideal.Mix.arr_8 m c), (h c).2.2.2⟩)
      (Cert.Kernel6Ideal.Value.run_blocks (F := Ideal) m g), ?_⟩
  refine (θ_run Cert.Reference6Ideal.defs _ _).mono (fun r h c => ⟨(h c).1.trans ?_, (h c).2.1.trans ?_, (h c).2.2.1.trans ?_, (h c).2.2.2⟩) (Cert.Reference6Ideal.Value.run (F := Ideal) m' g')
  · rw [(hagree c).1, (hagree c).2.1]
    exact reference_0 _ _
  · rw [(hagree c).2.2.1, (hagree c).2.2.2.1]
    exact reference_1 _ _
  · rw [(hagree c).2.2.2.2.1, (hagree c).2.2.2.2.2]
    exact reference_2 _ _

end Cert.Proof.Mix

end
-- ==== Proof.Weights.In.lean ====
/- The gradients of the input projection's weight and bias: the kernel's two arrays and the reference's are sums over the tokens. -/
module

public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel7
public import proofs.«01_k».proof.Proof.Gen.Kernel7Ideal
public import proofs.«01_k».proof.Proof.Gen.Reference7Ideal
public import proofs.«01_k».proof.Proof.Weights.Parts
public import proofs.«01_k».proof.Defs
public import Idealize.ShloMosaic.Lib.Claim
public import Idealize.ShloMosaic.Lib.Quiescent
public import Idealize.ShloMosaic.Lib.Pipeline.ReadBack

@[expose] public section

set_option maxRecDepth 16384

noncomputable section

namespace Cert.Kernel7Ideal.In

open Idealize.ShloMosaic Idealize.ShloMosaic.TcCoe Cert.Kernel7Ideal Cert.Kernel7Ideal.Gen Cert.Kernel7Ideal.Value Cert.Weights

/-- Both offsets are zero. -/
theorem hz2 : (![0, 0] : Fin 2 → ℕ) = fun _ => 0 := by decide

section
variable (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x2048 .bf16) (harg6 : arg6.IsWhole) (arg7 : Memref sig .tc .vmem S3328x1024 .f32) (harg7 : arg7.IsWhole) (arg8 : Memref sig .tc .vmem S1x3328 .f32) (harg8 : arg8.IsWhole)
variable (x0 : Vec Ideal S512x1024 .bf16) (x1 x2 : Vec Ideal S512x512 .bf16) (x3 x4 : Vec Ideal S512x128 .bf16) (x5 : Vec Ideal S512x2048 .bf16)
variable (xo6 : Vec Ideal S3328x1024 .f32) (xo7 : Vec Ideal S1x3328 .f32)

/-- The block's five gradients side by side. -/
abbrev side : Fin 512 → Fin 3328 → EReal :=
  parts (fun q j => x1 (ix2 q j)) (fun q j => x2 (ix2 q j)) (fun q j => x3 (ix2 q j)) (fun q j => x4 (ix2 q j)) (fun q j => x5 (ix2 q j))

theorem out_B_6 (hc0 : ¬cond0_0 i) (r : Fin 3328) (j : Fin 1024) :
    out0_B_6 c i arg1 harg1 arg2 harg2 arg3 harg3 arg4 harg4 arg5 harg5 arg6 harg6 arg7 harg7 arg8 harg8 hc0 x0 x1 x2 x3 x4 x5 xo6 xo7 (ix2 r j) = xo6 (ix2 r j) + ∑ q : Fin 512, side x1 x2 x3 x4 x5 q r * x0 (ix2 q j) := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 x5 xo6 xo7)]
  unfold kernelRun0_B
  dsimp only
  try sl_unfold_words
  simp only [View.readAt_eq_ld, harg1.read_unread, harg2.read_unread, harg3.read_unread, harg4.read_unread, harg5.read_unread, harg6.read_unread, harg7.read_unread, harg8.read_unread, View.ld_unit_zero (S := S512x1024) hz2, View.ld_unit_zero (S := S512x512) hz2, View.ld_unit_zero (S := S512x128) hz2, View.ld_unit_zero (S := S512x2048) hz2]
  canon_tiles z h using View.cover_of_tiledBy (s := S3328x1024) _ ![128, 1024] (by sl_kernel_rfl) _
  all_goals
    idx_vars z
    obtain rfl : j = z1 := Fin.ext h1
    have hr : r.val = _ := h0
  · rw [Finset.sum_congr rfl fun q _ => (fun q => congrArg (· * x0 (ix2 q j)) (parts_4 _ _ _ _ _ q r z0 hr)) q]
    obtain rfl : r = ⟨1280 + z0.val, Nat.lt_of_lt_of_le (Nat.add_lt_add_left z0.isLt 1280) (by decide)⟩ := Fin.ext hr
    pointwise [k0_pay1, k0_pay3, k0_pay6, k0_pay8, k0_pay10, k0_pay12]
  · rw [Finset.sum_congr rfl fun q _ => (fun q => congrArg (· * x0 (ix2 q j)) (parts_3 _ _ _ _ _ q r z0 hr)) q]
    obtain rfl : r = ⟨1152 + z0.val, Nat.lt_of_lt_of_le (Nat.add_lt_add_left z0.isLt 1152) (by decide)⟩ := Fin.ext hr
    pointwise [k0_pay1, k0_pay3, k0_pay6, k0_pay8, k0_pay10, k0_pay12]
  · rw [Finset.sum_congr rfl fun q _ => (fun q => congrArg (· * x0 (ix2 q j)) (parts_2 _ _ _ _ _ q r z0 hr)) q]
    obtain rfl : r = ⟨1024 + z0.val, Nat.lt_of_lt_of_le (Nat.add_lt_add_left z0.isLt 1024) (by decide)⟩ := Fin.ext hr
    pointwise [k0_pay1, k0_pay3, k0_pay6, k0_pay8, k0_pay10, k0_pay12]
  · rw [Finset.sum_congr rfl fun q _ => (fun q => congrArg (· * x0 (ix2 q j)) (parts_1 _ _ _ _ _ q r z0 hr)) q]
    obtain rfl : r = ⟨512 + z0.val, Nat.lt_of_lt_of_le (Nat.add_lt_add_left z0.isLt 512) (by decide)⟩ := Fin.ext hr
    pointwise [k0_pay1, k0_pay3, k0_pay6, k0_pay8, k0_pay10, k0_pay12]
  · rw [Finset.sum_congr rfl fun q _ => (fun q => congrArg (· * x0 (ix2 q j)) (parts_0 _ _ _ _ _ q r z0 hr)) q]
    obtain rfl : r = ⟨z0.val, Nat.lt_of_lt_of_le z0.isLt (by decide)⟩ := Fin.ext hr
    pointwise [k0_pay1, k0_pay3, k0_pay6, k0_pay8, k0_pay10, k0_pay12]

theorem out_A_6 (hc0 : cond0_0 i) (r : Fin 3328) (j : Fin 1024) :
    out0_A_6 c i arg1 harg1 arg2 harg2 arg3 harg3 arg4 harg4 arg5 harg5 arg6 harg6 arg7 harg7 arg8 harg8 hc0 x0 x1 x2 x3 x4 x5 (ix2 r j) = ∑ q : Fin 512, side x1 x2 x3 x4 x5 q r * x0 (ix2 q j) := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4 x5)]
  unfold kernelRun0_A
  dsimp only
  try sl_unfold_words
  simp (disch := decide) only [↓ View.readCov_skip, ↓ View.readCov_cons_toLoadRect, ↓ View.readCov_fill]
  refine (canon_drop [_, _, _, _, _] [_] _ (View.cover_of_tiledBy (s := S3328x1024) _ ![128, 1024] (by sl_kernel_rfl) _)).trans ?_
  simp only [View.readAt_eq_ld, harg1.read_unread, harg2.read_unread, harg3.read_unread, harg4.read_unread, harg5.read_unread, harg6.read_unread, harg7.read_unread, harg8.read_unread, View.ld_unit_zero (S := S512x1024) hz2, View.ld_unit_zero (S := S512x512) hz2, View.ld_unit_zero (S := S512x128) hz2, View.ld_unit_zero (S := S512x2048) hz2]
  canon_tiles z h using View.cover_of_tiledBy (s := S3328x1024) _ ![128, 1024] (by sl_kernel_rfl) _
  all_goals
    idx_vars z
    obtain rfl : j = z1 := Fin.ext h1
    have hr : r.val = _ := h0
  · rw [Finset.sum_congr rfl fun q _ => (fun q => congrArg (· * x0 (ix2 q j)) (parts_4 _ _ _ _ _ q r z0 hr)) q]
    obtain rfl : r = ⟨1280 + z0.val, Nat.lt_of_lt_of_le (Nat.add_lt_add_left z0.isLt 1280) (by decide)⟩ := Fin.ext hr
    pointwise [k0_pay1, k0_pay3, k0_pay6, k0_pay8, k0_pay10, k0_pay12]
  · rw [Finset.sum_congr rfl fun q _ => (fun q => congrArg (· * x0 (ix2 q j)) (parts_3 _ _ _ _ _ q r z0 hr)) q]
    obtain rfl : r = ⟨1152 + z0.val, Nat.lt_of_lt_of_le (Nat.add_lt_add_left z0.isLt 1152) (by decide)⟩ := Fin.ext hr
    pointwise [k0_pay1, k0_pay3, k0_pay6, k0_pay8, k0_pay10, k0_pay12]
  · rw [Finset.sum_congr rfl fun q _ => (fun q => congrArg (· * x0 (ix2 q j)) (parts_2 _ _ _ _ _ q r z0 hr)) q]
    obtain rfl : r = ⟨1024 + z0.val, Nat.lt_of_lt_of_le (Nat.add_lt_add_left z0.isLt 1024) (by decide)⟩ := Fin.ext hr
    pointwise [k0_pay1, k0_pay3, k0_pay6, k0_pay8, k0_pay10, k0_pay12]
  · rw [Finset.sum_congr rfl fun q _ => (fun q => congrArg (· * x0 (ix2 q j)) (parts_1 _ _ _ _ _ q r z0 hr)) q]
    obtain rfl : r = ⟨512 + z0.val, Nat.lt_of_lt_of_le (Nat.add_lt_add_left z0.isLt 512) (by decide)⟩ := Fin.ext hr
    pointwise [k0_pay1, k0_pay3, k0_pay6, k0_pay8, k0_pay10, k0_pay12]
  · rw [Finset.sum_congr rfl fun q _ => (fun q => congrArg (· * x0 (ix2 q j)) (parts_0 _ _ _ _ _ q r z0 hr)) q]
    obtain rfl : r = ⟨z0.val, Nat.lt_of_lt_of_le z0.isLt (by decide)⟩ := Fin.ext hr
    pointwise [k0_pay1, k0_pay3, k0_pay6, k0_pay8, k0_pay10, k0_pay12]

theorem out_B_7 (hc0 : ¬cond0_0 i) (r : Fin 3328) :
    out0_B_7 c i arg1 harg1 arg2 harg2 arg3 harg3 arg4 harg4 arg5 harg5 arg6 harg6 arg7 harg7 arg8 harg8 hc0 x0 x1 x2 x3 x4 x5 xo6 xo7 (ix2 0 r) = xo7 (ix2 0 r) + ∑ q : Fin 512, 1 * side x1 x2 x3 x4 x5 q r := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 x5 xo6 xo7)]
  unfold kernelRun0_B
  dsimp only
  try sl_unfold_words
  simp only [View.readAt_eq_ld, harg1.read_unread, harg2.read_unread, harg3.read_unread, harg4.read_unread, harg5.read_unread, harg6.read_unread, harg7.read_unread, harg8.read_unread, View.ld_unit_zero (S := S512x1024) hz2, View.ld_unit_zero (S := S512x512) hz2, View.ld_unit_zero (S := S512x128) hz2, View.ld_unit_zero (S := S512x2048) hz2]
  canon_tiles z h using View.cover_of_tiledBy (s := S1x3328) _ ![1, 128] (by sl_kernel_rfl) _
  all_goals
    idx_vars z
    obtain rfl : z0 = 0 := Fin.ext (by omega)
    have hr : r.val = _ := h1
  · rw [Finset.sum_congr rfl fun q _ => (fun q => congrArg (1 * ·) (parts_4 _ _ _ _ _ q r z1 hr)) q]
    obtain rfl : r = ⟨1280 + z1.val, Nat.lt_of_lt_of_le (Nat.add_lt_add_left z1.isLt 1280) (by decide)⟩ := Fin.ext hr
    pointwise [k0_pay2, k0_pay4, k0_pay5, k0_pay7, k0_pay9, k0_pay11, k0_pay13]
  · rw [Finset.sum_congr rfl fun q _ => (fun q => congrArg (1 * ·) (parts_3 _ _ _ _ _ q r z1 hr)) q]
    obtain rfl : r = ⟨1152 + z1.val, Nat.lt_of_lt_of_le (Nat.add_lt_add_left z1.isLt 1152) (by decide)⟩ := Fin.ext hr
    pointwise [k0_pay2, k0_pay4, k0_pay5, k0_pay7, k0_pay9, k0_pay11, k0_pay13]
  · rw [Finset.sum_congr rfl fun q _ => (fun q => congrArg (1 * ·) (parts_2 _ _ _ _ _ q r z1 hr)) q]
    obtain rfl : r = ⟨1024 + z1.val, Nat.lt_of_lt_of_le (Nat.add_lt_add_left z1.isLt 1024) (by decide)⟩ := Fin.ext hr
    pointwise [k0_pay2, k0_pay4, k0_pay5, k0_pay7, k0_pay9, k0_pay11, k0_pay13]
  · rw [Finset.sum_congr rfl fun q _ => (fun q => congrArg (1 * ·) (parts_1 _ _ _ _ _ q r z1 hr)) q]
    obtain rfl : r = ⟨512 + z1.val, Nat.lt_of_lt_of_le (Nat.add_lt_add_left z1.isLt 512) (by decide)⟩ := Fin.ext hr
    pointwise [k0_pay2, k0_pay4, k0_pay5, k0_pay7, k0_pay9, k0_pay11, k0_pay13]
  · rw [Finset.sum_congr rfl fun q _ => (fun q => congrArg (1 * ·) (parts_0 _ _ _ _ _ q r z1 hr)) q]
    obtain rfl : r = ⟨z1.val, Nat.lt_of_lt_of_le z1.isLt (by decide)⟩ := Fin.ext hr
    pointwise [k0_pay2, k0_pay4, k0_pay5, k0_pay7, k0_pay9, k0_pay11, k0_pay13]

theorem out_A_7 (hc0 : cond0_0 i) (r : Fin 3328) :
    out0_A_7 c i arg1 harg1 arg2 harg2 arg3 harg3 arg4 harg4 arg5 harg5 arg6 harg6 arg7 harg7 arg8 harg8 hc0 x0 x1 x2 x3 x4 x5 (ix2 0 r) = ∑ q : Fin 512, 1 * side x1 x2 x3 x4 x5 q r := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4 x5)]
  unfold kernelRun0_A
  dsimp only
  try sl_unfold_words
  simp (disch := decide) only [↓ View.readCov_skip, ↓ View.readCov_cons_toLoadRect, ↓ View.readCov_fill]
  refine (canon_drop [_, _, _, _, _] [_] _ (View.cover_of_tiledBy (s := S1x3328) _ ![1, 128] (by sl_kernel_rfl) _)).trans ?_
  simp only [View.readAt_eq_ld, harg1.read_unread, harg2.read_unread, harg3.read_unread, harg4.read_unread, harg5.read_unread, harg6.read_unread, harg7.read_unread, harg8.read_unread, View.ld_unit_zero (S := S512x1024) hz2, View.ld_unit_zero (S := S512x512) hz2, View.ld_unit_zero (S := S512x128) hz2, View.ld_unit_zero (S := S512x2048) hz2]
  canon_tiles z h using View.cover_of_tiledBy (s := S1x3328) _ ![1, 128] (by sl_kernel_rfl) _
  all_goals
    idx_vars z
    obtain rfl : z0 = 0 := Fin.ext (by omega)
    have hr : r.val = _ := h1
  · rw [Finset.sum_congr rfl fun q _ => (fun q => congrArg (1 * ·) (parts_4 _ _ _ _ _ q r z1 hr)) q]
    obtain rfl : r = ⟨1280 + z1.val, Nat.lt_of_lt_of_le (Nat.add_lt_add_left z1.isLt 1280) (by decide)⟩ := Fin.ext hr
    pointwise [k0_pay2, k0_pay4, k0_pay5, k0_pay7, k0_pay9, k0_pay11, k0_pay13]
  · rw [Finset.sum_congr rfl fun q _ => (fun q => congrArg (1 * ·) (parts_3 _ _ _ _ _ q r z1 hr)) q]
    obtain rfl : r = ⟨1152 + z1.val, Nat.lt_of_lt_of_le (Nat.add_lt_add_left z1.isLt 1152) (by decide)⟩ := Fin.ext hr
    pointwise [k0_pay2, k0_pay4, k0_pay5, k0_pay7, k0_pay9, k0_pay11, k0_pay13]
  · rw [Finset.sum_congr rfl fun q _ => (fun q => congrArg (1 * ·) (parts_2 _ _ _ _ _ q r z1 hr)) q]
    obtain rfl : r = ⟨1024 + z1.val, Nat.lt_of_lt_of_le (Nat.add_lt_add_left z1.isLt 1024) (by decide)⟩ := Fin.ext hr
    pointwise [k0_pay2, k0_pay4, k0_pay5, k0_pay7, k0_pay9, k0_pay11, k0_pay13]
  · rw [Finset.sum_congr rfl fun q _ => (fun q => congrArg (1 * ·) (parts_1 _ _ _ _ _ q r z1 hr)) q]
    obtain rfl : r = ⟨512 + z1.val, Nat.lt_of_lt_of_le (Nat.add_lt_add_left z1.isLt 512) (by decide)⟩ := Fin.ext hr
    pointwise [k0_pay2, k0_pay4, k0_pay5, k0_pay7, k0_pay9, k0_pay11, k0_pay13]
  · rw [Finset.sum_congr rfl fun q _ => (fun q => congrArg (1 * ·) (parts_0 _ _ _ _ _ q r z1 hr)) q]
    obtain rfl : r = ⟨z1.val, Nat.lt_of_lt_of_le z1.isLt (by decide)⟩ := Fin.ext hr
    pointwise [k0_pay2, k0_pay4, k0_pay5, k0_pay7, k0_pay9, k0_pay11, k0_pay13]

end

variable (m : (ℓ : Loc nD τ sig) → Buf (Elt Ideal) ℓ) (c : Dev nD)

/-- The normalised tokens, -/
def x (t : Fin 4096) (i : Fin 1024) : EReal := m ((c : Thread nD τ).loc main_arg0) (ix2 t i)
/-- the gradients at the pooled branch's input, -/
def du (t : Fin 4096) (i : Fin 512) : EReal := m ((c : Thread nD τ).loc main_arg1) (ix2 t i)
/-- at the queries, -/
def dq (t : Fin 4096) (i : Fin 512) : EReal := m ((c : Thread nD τ).loc main_arg2) (ix2 t i)
/-- at the keys, -/
def dk (t : Fin 4096) (i : Fin 128) : EReal := m ((c : Thread nD τ).loc main_arg3) (ix2 t i)
/-- at the values -/
def dv (t : Fin 4096) (i : Fin 128) : EReal := m ((c : Thread nD τ).loc main_arg4) (ix2 t i)
/-- and at the gates. -/
def dg (t : Fin 4096) (i : Fin 2048) : EReal := m ((c : Thread nD τ).loc main_arg5) (ix2 t i)
/-- The five gradients side by side. -/
def cols (t : Fin 4096) (r : Fin 3328) : EReal := parts (du m c) (dq m c) (dk m c) (dv m c) (dg m c) t r

/-- Where a point's blocks stand. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0] :=
  (by decide +kernel : ∀ t : Fin grid0.N, _)

theorem lt_of_pt {n : ℕ} (h : n < cfg0.N) : n < 8 := Nat.lt_of_lt_of_eq h N_0
theorem pt_lt (t : Fin cfg0.N) : t.val < 8 := lt_of_pt t.isLt

theorem iblk_0 (t : Fin cfg0.N) (q : Fin 512) (i : Fin 1024) : (iblk m c 0 t : Vec Ideal S512x1024 .bf16) (ix2 q i) = x m c ⟨t.val * 512 + q.val, by have := pt_lt t; omega⟩ i := by
  refine Eq.trans ?_ (congrFun (V_main_arg0 m c) (ix2 _ _))
  blk_ext [iblk, idx t]
theorem iblk_1 (t : Fin cfg0.N) (q : Fin 512) (i : Fin 512) : (iblk m c 1 t : Vec Ideal S512x512 .bf16) (ix2 q i) = du m c ⟨t.val * 512 + q.val, by have := pt_lt t; omega⟩ i := by
  refine Eq.trans ?_ (congrFun (V_main_arg1 m c) (ix2 _ _))
  blk_ext [iblk, idx t]
theorem iblk_2 (t : Fin cfg0.N) (q : Fin 512) (i : Fin 512) : (iblk m c 2 t : Vec Ideal S512x512 .bf16) (ix2 q i) = dq m c ⟨t.val * 512 + q.val, by have := pt_lt t; omega⟩ i := by
  refine Eq.trans ?_ (congrFun (V_main_arg2 m c) (ix2 _ _))
  blk_ext [iblk, idx t]
theorem iblk_3 (t : Fin cfg0.N) (q : Fin 512) (i : Fin 128) : (iblk m c 3 t : Vec Ideal S512x128 .bf16) (ix2 q i) = dk m c ⟨t.val * 512 + q.val, by have := pt_lt t; omega⟩ i := by
  refine Eq.trans ?_ (congrFun (V_main_arg3 m c) (ix2 _ _))
  blk_ext [iblk, idx t]
theorem iblk_4 (t : Fin cfg0.N) (q : Fin 512) (i : Fin 128) : (iblk m c 4 t : Vec Ideal S512x128 .bf16) (ix2 q i) = dv m c ⟨t.val * 512 + q.val, by have := pt_lt t; omega⟩ i := by
  refine Eq.trans ?_ (congrFun (V_main_arg4 m c) (ix2 _ _))
  blk_ext [iblk, idx t]
theorem iblk_5 (t : Fin cfg0.N) (q : Fin 512) (i : Fin 2048) : (iblk m c 5 t : Vec Ideal S512x2048 .bf16) (ix2 q i) = dg m c ⟨t.val * 512 + q.val, by have := pt_lt t; omega⟩ i := by
  refine Eq.trans ?_ (congrFun (V_main_arg5 m c) (ix2 _ _))
  blk_ext [iblk, idx t]

/-- A block's five gradients side by side are rows of the five arrays side by side. -/
theorem side_eq (t : Fin cfg0.N) (q : Fin 512) (r : Fin 3328) :
    side (iblk m c 1 t) (iblk m c 2 t) (iblk m c 3 t) (iblk m c 4 t) (iblk m c 5 t) q r = cols m c ⟨t.val * 512 + q.val, by have := pt_lt t; omega⟩ r := by
  unfold side cols parts
  simp only [iblk_1, iblk_2, iblk_3, iblk_4, iblk_5]

/-- What a point adds to a gradient. -/
def term {a b : ℕ} (x : Fin 4096 → Fin a → EReal) (d : Fin 4096 → Fin b → EReal) (i : Fin a) (j : Fin b) (n : ℕ) : EReal :=
  ∑ q : Fin 512, x ⟨n % 8 * 512 + q.val, by omega⟩ i * d ⟨n % 8 * 512 + q.val, by omega⟩ j

/-- The eight points add up to it. -/
theorem sum_term {a b : ℕ} (x : Fin 4096 → Fin a → EReal) (d : Fin 4096 → Fin b → EReal) (i : Fin a) (j : Fin b) (n : ℕ) (h : n = 7) :
    ∑ s : Fin (n + 1), term x d i j s.val = grad x d i j := by
  subst h
  refine grad_blocks 8 512 rfl _ _ _ _ _ fun s => Finset.sum_congr rfl fun q _ => ?_
  have e : s.val % 8 = s.val := Nat.mod_eq_of_lt s.isLt
  simp only [e]

/-- The constant one: what the bias multiplies. -/
def one (_ : Fin 4096) (_ : Fin 1) : EReal := 1

/-- Result 0's array after a point. -/
theorem after_6 (a : Fin 3328) (b : Fin 1024) (n : ℕ) (h : n < cfg0.N) :
    (outsAt0 m c n h).1 (ix2 a b) = ∑ k : Fin (n + 1), term (cols m c) (x m c) a b k.val := by
  refine sum_of_steps cfg0.N (fun n h => (outsAt0 m c n h).1 (ix2 a b)) (term (cols m c) (x m c) a b) (fun h => ?_) (fun n h => ?_) n h
  · refine (congrArg (fun p => p.1 (ix2 a b)) (outsAt0_A m c ⟨0, h⟩ (Nat.zero_mod 8))).trans ?_
    dsimp only
    rw [out_A_6]
    unfold term
    refine Finset.sum_congr rfl fun q _ => ?_
    rw [iblk_0, side_eq]
  · have e4 : (n + 1) % 8 = n + 1 := Nat.mod_eq_of_lt (lt_of_pt h)
    have ne : ¬(n + 1) % 8 = 0 := by have := lt_of_pt h; omega
    refine (congrArg (fun p => p.1 (ix2 a b)) (outsAt0_B m c ⟨n + 1, h⟩ ne)).trans ?_
    dsimp only
    rw [out_B_6]
    unfold term
    refine congrArg₂ (· + ·) rfl (Finset.sum_congr rfl fun q _ => ?_)
    rw [iblk_0, side_eq]
    simp only [e4]

/-- Result 1's array after a point. -/
theorem after_7 (b : Fin 3328) (n : ℕ) (h : n < cfg0.N) :
    (outsAt0 m c n h).2 (ix2 0 b) = ∑ k : Fin (n + 1), term one (cols m c) 0 b k.val := by
  refine sum_of_steps cfg0.N (fun n h => (outsAt0 m c n h).2 (ix2 0 b)) (term one (cols m c) 0 b) (fun h => ?_) (fun n h => ?_) n h
  · refine (congrArg (fun p => p.2 (ix2 0 b)) (outsAt0_A m c ⟨0, h⟩ (Nat.zero_mod 8))).trans ?_
    dsimp only
    rw [out_A_7]
    unfold term one
    refine Finset.sum_congr rfl fun q _ => ?_
    rw [side_eq]
  · have e4 : (n + 1) % 8 = n + 1 := Nat.mod_eq_of_lt (lt_of_pt h)
    have ne : ¬(n + 1) % 8 = 0 := by have := lt_of_pt h; omega
    refine (congrArg (fun p => p.2 (ix2 0 b)) (outsAt0_B m c ⟨n + 1, h⟩ ne)).trans ?_
    dsimp only
    rw [out_B_7]
    unfold term one
    refine congrArg₂ (· + ·) rfl (Finset.sum_congr rfl fun q _ => ?_)
    rw [side_eq]
    simp only [e4]

/-- Result 0's array. -/
theorem arr_6 : (dats m 0 c).arrAt 6 (cfgs 0).N = fun y => grad (cols m c) (x m c) (y 0) (y 1) := by
  refine (dats m 0 c).arrAt_eq_of_covers 6 _ (by decide +kernel) fun t hf y => ?_
  have h3 : t.val = 7 := by have := (flush0_6 t).mp hf; have := pt_lt t; omega
  blk_simp
  rw [after0_6]
  idx_vars y
  refine (after_6 m c y0 y1 t.val t.isLt).trans ((sum_term _ _ _ _ t.val h3).trans ?_)
  refine congrArg₂ (grad (cols m c) (x m c)) (Fin.ext ?_) (Fin.ext ?_)
  · blk_simp [idx t]
  · blk_simp [idx t]

/-- Result 1's array. -/
theorem arr_7 : (dats m 0 c).arrAt 7 (cfgs 0).N = fun y => grad one (cols m c) 0 (y 1) := by
  refine (dats m 0 c).arrAt_eq_of_covers 7 _ (by decide +kernel) fun t hf y => ?_
  have h3 : t.val = 7 := by have := (flush0_7 t).mp hf; have := pt_lt t; omega
  blk_simp
  rw [after0_7]
  idx_vars y
  obtain rfl : y0 = 0 := Fin.ext (by omega)
  refine (after_7 m c y1 t.val t.isLt).trans ((sum_term _ _ _ _ t.val h3).trans ?_)
  refine congrArg (grad one (cols m c) 0) (Fin.ext ?_)
  blk_simp [idx t]

end Cert.Kernel7Ideal.In

namespace Cert.Proof.In

open Idealize.ShloMosaic Idealize.ShloMosaic.TcCoe Idealize.ShloMosaic.Tactic Idealize.SL.Sem Cert.Weights

/-- The reference's five gradients side by side. -/
theorem reference_cols (x1 x2 : (⟨Cert.Reference7Ideal.S4096x512, .bf16⟩ : BufTy).Contents (Elt Ideal)) (x3 x4 : (⟨Cert.Reference7Ideal.S4096x128, .bf16⟩ : BufTy).Contents (Elt Ideal)) (x5 : (⟨Cert.Reference7Ideal.S4096x2048, .bf16⟩ : BufTy).Contents (Elt Ideal)) (t : Fin 4096) (r : Fin 3328) :
    Cert.Reference7Ideal.Read.val_main_v16 (F := Ideal) x1 x2 x3 x4 x5 (ix2 t r) = parts (fun t j => x1 (ix2 t j)) (fun t j => x2 (ix2 t j)) (fun t j => x3 (ix2 t j)) (fun t j => x4 (ix2 t j)) (fun t j => x5 (ix2 t j)) t r := by
  unfold parts
  pointwise [Cert.Reference7Ideal.Read.val_main_v16, Cert.Reference7Ideal.Read.val_main_v15, Cert.Reference7Ideal.Read.val_main_v14, Cert.Reference7Ideal.Read.val_main_v13, Cert.Reference7Ideal.Read.val_main_v12, Cert.Reference7Ideal.Read.val_main_v11]
  repeat' split
  all_goals first
    | omega
    | rfl
    | exact congrArg (fun k => x2 (ix2 t k)) (Fin.ext (by dsimp only <;> omega))
    | exact congrArg (fun k => x3 (ix2 t k)) (Fin.ext (by dsimp only <;> omega))
    | exact congrArg (fun k => x4 (ix2 t k)) (Fin.ext (by dsimp only <;> omega))
    | exact congrArg (fun k => x5 (ix2 t k)) (Fin.ext (by dsimp only <;> omega))

/-- The reference's first array is a gradient -/
theorem reference_0 (x0 : (⟨Cert.Reference7Ideal.S4096x1024, .bf16⟩ : BufTy).Contents (Elt Ideal)) (x1 x2 : (⟨Cert.Reference7Ideal.S4096x512, .bf16⟩ : BufTy).Contents (Elt Ideal)) (x3 x4 : (⟨Cert.Reference7Ideal.S4096x128, .bf16⟩ : BufTy).Contents (Elt Ideal)) (x5 : (⟨Cert.Reference7Ideal.S4096x2048, .bf16⟩ : BufTy).Contents (Elt Ideal)) :
    Cert.Reference7Ideal.Read.val_main_v21 (F := Ideal) x0 x1 x2 x3 x4 x5 = fun y => grad (parts (fun t j => x1 (ix2 t j)) (fun t j => x2 (ix2 t j)) (fun t j => x3 (ix2 t j)) (fun t j => x4 (ix2 t j)) (fun t j => x5 (ix2 t j))) (fun t j => x0 (ix2 t j)) (y 0) (y 1) := by
  funext y
  idx_vars y
  pointwise [Cert.Reference7Ideal.Read.val_main_v21, Cert.Reference7Ideal.Read.val_main_v20, Cert.Reference7Ideal.Read.val_main_v19, Cert.Reference7Ideal.Read.val_main_v2]
  unfold grad
  refine Finset.sum_congr rfl fun t _ => ?_
  exact congrArg (· * x0 (ix2 t y1)) (reference_cols x1 x2 x3 x4 x5 t y0)

/-- and so is its second. -/
theorem reference_1 (x1 x2 : (⟨Cert.Reference7Ideal.S4096x512, .bf16⟩ : BufTy).Contents (Elt Ideal)) (x3 x4 : (⟨Cert.Reference7Ideal.S4096x128, .bf16⟩ : BufTy).Contents (Elt Ideal)) (x5 : (⟨Cert.Reference7Ideal.S4096x2048, .bf16⟩ : BufTy).Contents (Elt Ideal)) :
    Cert.Reference7Ideal.Read.val_main_v18 (F := Ideal) x1 x2 x3 x4 x5 = fun y => grad Cert.Kernel7Ideal.In.one (parts (fun t j => x1 (ix2 t j)) (fun t j => x2 (ix2 t j)) (fun t j => x3 (ix2 t j)) (fun t j => x4 (ix2 t j)) (fun t j => x5 (ix2 t j))) 0 (y 1) := by
  funext y
  idx_vars y
  obtain rfl : y0 = 0 := Fin.ext (by omega)
  pointwise [Cert.Reference7Ideal.Read.val_main_v18, Cert.Reference7Ideal.Read.val_main_v17, Cert.Reference7Ideal.Read.val_main_cst_1]
  unfold grad Cert.Kernel7Ideal.In.one
  refine Finset.sum_congr rfl fun t _ => ?_
  rw [one_mul]
  exact reference_cols x1 x2 x3 x4 x5 t y1

/-- The compiled kernel's frame, -/
theorem kernel_frame : Cert.quiescent_Kernel7 (hKernel7 := Cert.Kernel7.Gen.facts) := fun m ρ _ => by
  have same : ∀ Q, θ_run (Cert.Kernel7.defs (F := Bits)) (onTc (τ := Cert.Kernel7.τ) (Cert.Kernel7.main (F := Bits))) ⟨m, fun _ => 0, ρ⟩ Q
      = θ_run (Cert.Kernel7Ideal.defs (F := Bits)) (onTc (τ := Cert.Kernel7Ideal.τ) (Cert.Kernel7Ideal.main (F := Bits))) ⟨m, fun _ => 0, ρ⟩ Q := fun Q => by sl_kernel_rfl
  exact (same _).mpr (Cert.Kernel7Ideal.Gen.frame (F := Bits) m ρ)

/-- that of the kernel over the reals -/
theorem ideal_frame : Cert.quiescent_Kernel7Ideal (hKernel7Ideal := Cert.Kernel7Ideal.Gen.facts) := fun m ρ _ => Cert.Kernel7Ideal.Gen.frame m ρ

/-- and the reference's. -/
theorem reference_frame : Cert.quiescent_Reference7Ideal (hReference7Ideal := Cert.Reference7Ideal.Gen.facts) := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- Kernel and reference end with the same arrays. -/
theorem value : Cert.algebraic_Kernel7Ideal_Reference7Ideal (hKernel7Ideal := Cert.Kernel7Ideal.Gen.facts) (hReference7Ideal := Cert.Reference7Ideal.Gen.facts) := by
  intro m g m' g' _ hagree
  refine ⟨fun c y => grad (Cert.Kernel7Ideal.In.cols m c) (Cert.Kernel7Ideal.In.x m c) (y 0) (y 1), fun c y => grad Cert.Kernel7Ideal.In.one (Cert.Kernel7Ideal.In.cols m c) 0 (y 1),
    (θ_run Cert.Kernel7Ideal.defs _ _).mono (fun r h c => ⟨(h c).1.trans (Cert.Kernel7Ideal.In.arr_6 m c), (h c).2.1.trans (Cert.Kernel7Ideal.In.arr_7 m c), (h c).2.2⟩)
      (Cert.Kernel7Ideal.Value.run_blocks (F := Ideal) m g), ?_⟩
  refine (θ_run Cert.Reference7Ideal.defs _ _).mono (fun r h c => ⟨(h c).1.trans ?_, (h c).2.1.trans ?_, (h c).2.2⟩) (Cert.Reference7Ideal.Value.run (F := Ideal) m' g')
  · rw [(hagree c).1, (hagree c).2.1, (hagree c).2.2.1, (hagree c).2.2.2.1, (hagree c).2.2.2.2.1, (hagree c).2.2.2.2.2]
    exact reference_0 _ _ _ _ _ _
  · rw [(hagree c).2.1, (hagree c).2.2.1, (hagree c).2.2.2.1, (hagree c).2.2.2.2.1, (hagree c).2.2.2.2.2]
    exact reference_1 _ _ _ _ _

end Cert.Proof.In

end
-- ==== Proof.Mixer.Merge.lean ====
/- The branches gated and merged, projected out, and the residual and the norm behind them: a block of the kernel is rows of the specification, and so is the reference. -/
module

public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel8
public import proofs.«01_k».proof.Proof.Gen.Kernel8Ideal
public import proofs.«01_k».proof.Proof.Gen.Reference8Ideal
public import proofs.«01_k».proof.Proof.Mixer.Gates
public import proofs.«01_k».proof.Proof.Mlp.Algebra
public import proofs.«01_k».proof.Defs
public import Idealize.ShloMosaic.Lib.Claim
public import Idealize.ShloMosaic.Lib.Quiescent
public import Idealize.ShloMosaic.Lib.Pipeline.ReadBack

@[expose] public section

set_option maxRecDepth 16384

noncomputable section

namespace Cert.Merge

open Idealize.ShloMosaic Cert.Mlp Cert.Gates

/-- The weights of the branches and of the output projection, and the two gains. -/
structure Par where
  wp : Fin 512 → Fin 1024 → EReal
  wa : Fin 512 → Fin 1024 → EReal
  wo : Fin 1024 → Fin 1024 → EReal
  g2 : Row
  g3 : Row

/-- A token: its branches' inputs, its gates and the residual. -/
structure Tok where
  yp : Fin 512 → EReal
  ya : Fin 512 → EReal
  s : Fin 2048 → EReal
  x : Row

variable (P : Par) (t : Tok)

/-- The branches, gated and added, -/
def both : Row := fun k => t.s (col 0 k) * (∑ j, t.yp j * P.wp j k) + t.s (col 1 k) * (∑ j, t.ya j * P.wa j k)
/-- projected out, -/
def mix : Row := fun k => ∑ j, both P t j * P.wo j k
/-- with the residual -/
def x1 : Row := fun k => t.x k + normed (mix P t) k * P.g2 k
/-- and normed. -/
def h2 : Row := fun k => normed (x1 P t) k * P.g3 k

end Cert.Merge

namespace Cert.Kernel8Ideal.Merge

open Idealize.ShloMosaic Idealize.ShloMosaic.TcCoe Cert.Kernel8Ideal Cert.Kernel8Ideal.Gen Cert.Kernel8Ideal.Value Cert.Gates Cert.Merge

/-- Both offsets are zero. -/
theorem hz2 : (![0, 0] : Fin 2 → ℕ) = fun _ => 0 := by decide

/-- A device's columns of a branch's weight. -/
structure Slabs (w0 w1 w2 w3 : Vec Ideal S1x512x256 .bf16) (w : Fin 512 → Fin 1024 → EReal) : Prop where
  h0 : ∀ (j : Fin 512) (b : Fin 256), w0 (ix3 0 j b) = w j ⟨b.val, by omega⟩
  h1 : ∀ (j : Fin 512) (b : Fin 256), w1 (ix3 0 j b) = w j ⟨256 + b.val, by omega⟩
  h2 : ∀ (j : Fin 512) (b : Fin 256), w2 (ix3 0 j b) = w j ⟨512 + b.val, by omega⟩
  h3 : ∀ (j : Fin 512) (b : Fin 256), w3 (ix3 0 j b) = w j ⟨768 + b.val, by omega⟩

section
variable (w0 w1 w2 w3 : Vec Ideal S1x512x256 .bf16) (w : Fin 512 → Fin 1024 → EReal) (W : Slabs w0 w1 w2 w3 w) (q : Fin 512)
include W

/-- The first branch, -/
theorem pay2 (y : Vec Ideal S512x512 .bf16) (k : Fin 1024) : k0_pay2 y w0 w1 w2 w3 (ix2 q k) = ∑ j, y (ix2 q j) * w j k := by
  pointwise [k0_pay2]
  repeat' split
  all_goals simp only [W.h0, W.h1, W.h2, W.h3]
  all_goals
    refine Finset.sum_congr rfl fun j _ => congrArg (fun k => y (ix2 q j) * w j k) (Fin.ext ?_)
    dsimp only
    omega

/-- and the second, added to it. -/
theorem pay6 (v : Vec Ideal S512x1024 .f32) (g g' : Vec Ideal S512x1024 .bf16) (y : Vec Ideal S512x512 .bf16) (k : Fin 1024) :
    k0_pay6 v y (k0_pay3 y w0) (k0_pay4 y w1) (k0_pay5 y w2) w3 g g' (ix2 q k) = g (ix2 q k) * v (ix2 q k) + g' (ix2 q k) * ∑ j, y (ix2 q j) * w j k := by
  pointwise [k0_pay6, k0_pay3, k0_pay4, k0_pay5]
  refine congrArg (fun s => g (ix2 q k) * v (ix2 q k) + g' (ix2 q k) * s) ?_
  repeat' split
  all_goals simp only [W.h0, W.h1, W.h2, W.h3]
  all_goals
    refine Finset.sum_congr rfl fun j _ => congrArg (fun k => y (ix2 q j) * w j k) (Fin.ext ?_)
    dsimp only
    omega

end

section
variable (x0 x1 : Vec Ideal S512x512 .bf16) (x2 : Vec Ideal S512x2048 .bf16) (x3 : Vec Ideal S512x1024 .f32) (x4 x5 : Vec Ideal S4x512x256 .bf16) (x6 : Vec Ideal S1024x1024 .bf16) (x7 x8 : Vec Ideal S1x1024 .f32)
variable (q : Fin 512) (k : Fin 1024)

/-- A branch's weight in a block: its columns lie by device. -/
def bw (x : Vec Ideal S4x512x256 .bf16) (j : Fin 512) (k : Fin 1024) : EReal := x (ix3 ⟨k.val / 256, by omega⟩ j ⟨k.val % 256, by omega⟩)
/-- The block's weights -/
def par : Par where
  wp := bw x4
  wa := bw x5
  wo k j := x6 (ix2 k j)
  g2 k := x7 (ix2 0 k)
  g3 k := x8 (ix2 0 k)
/-- and its tokens. -/
def row : Tok where
  yp j := x0 (ix2 q j)
  ya j := x1 (ix2 q j)
  s r := x2 (ix2 q r)
  x k := x3 (ix2 q k)

theorem slabs (x : Vec Ideal S4x512x256 .bf16) : Slabs (View.ld x r0_1) (View.ld x r0_2) (View.ld x r0_3) (View.ld x r0_4) (bw x) where
  h0 j b := by
    unfold bw
    pointwise
    exact congrArg₂ (fun s b => x (ix3 s j b)) (Fin.ext (by show 0 = b.val / 256; omega)) (Fin.ext (by dsimp only; omega))
  h1 j b := by
    unfold bw
    pointwise
    exact congrArg₂ (fun s b => x (ix3 s j b)) (Fin.ext (by show 1 = (256 + b.val) / 256; omega)) (Fin.ext (by dsimp only; omega))
  h2 j b := by
    unfold bw
    pointwise
    exact congrArg₂ (fun s b => x (ix3 s j b)) (Fin.ext (by dsimp only; omega)) (Fin.ext (by dsimp only; omega))
  h3 j b := by
    unfold bw
    pointwise
    exact congrArg₂ (fun s b => x (ix3 s j b)) (Fin.ext (by dsimp only; omega)) (Fin.ext (by dsimp only; omega))

theorem ld_y (x : Vec Ideal S512x512 .bf16) (j : Fin 512) : View.ld x r0_0 (ix2 q j) = x (ix2 q j) := by
  pointwise
theorem gate_0 : View.ld x2 r0_5 (ix2 q k) = x2 (ix2 q (col 0 k)) := by
  pointwise
  exact congrArg (fun k => x2 (ix2 q k)) (Fin.ext (by simp [col]))
theorem gate_1 : View.ld x2 r0_6 (ix2 q k) = x2 (ix2 q (col 1 k)) := by
  pointwise
  exact congrArg (fun k => x2 (ix2 q k)) (Fin.ext (by simp [col]))

/-- The merged branches, -/
theorem both_eq : k0_pay6 (k0_pay10 x0 x1 x2 x3 x4 x5 x6 x7 x8) (View.ld x1 r0_0) (k0_pay11 x0 x1 x2 x3 x4 x5 x6 x7 x8) (k0_pay12 x0 x1 x2 x3 x4 x5 x6 x7 x8) (k0_pay13 x0 x1 x2 x3 x4 x5 x6 x7 x8) (View.ld x5 r0_4) (View.ld x2 r0_5) (View.ld x2 r0_6) (ix2 q k) = both (par x4 x5 x6 x7 x8) (row x0 x1 x2 x3 q) k := by
  refine (pay6 _ _ _ _ (bw x5) (slabs x5) q (k0_pay10 x0 x1 x2 x3 x4 x5 x6 x7 x8) _ _ (View.ld x1 r0_0) k).trans ?_
  refine congrArg₂ (· + ·) (congrArg₂ (· * ·) (gate_0 x2 q k) ((pay2 _ _ _ _ (bw x4) (slabs x4) q (View.ld x0 r0_0) k).trans ?_)) (congrArg₂ (· * ·) (gate_1 x2 q k) ?_)
  · exact Finset.sum_congr rfl fun j _ => congrArg (· * bw x4 j k) (ld_y q x0 j)
  · exact Finset.sum_congr rfl fun j _ => congrArg (· * bw x5 j k) (ld_y q x1 j)

section
variable (v13 : FVec Ideal S512x1024 .f32) (v14 : Vec Ideal S512x512 .bf16) (v17 v20 v23 : FVec Ideal S512x256 .f32) (v24 : Vec Ideal S1x512x256 .bf16) (v28 v32 : Vec Ideal S512x1024 .bf16) (v39 : Vec Ideal S1024x1024 .bf16)

/-- projected out, -/
theorem pay7 (B : Cert.Mlp.Row) (h : ∀ k, k0_pay6 v13 v14 v17 v20 v23 v24 v28 v32 (ix2 q k) = B k) : k0_pay7 v13 v14 v17 v20 v23 v24 v28 v32 (View.ld x6 r0_8) (ix2 q k) = ∑ j, B j * x6 (ix2 j k) := by
  pointwise [k0_pay7]
  simp only [h]
/-- with the residual -/
theorem pay8 (B : Cert.Mlp.Row) (h : ∀ k, k0_pay7 v13 v14 v17 v20 v23 v24 v28 v32 v39 (ix2 q k) = B k) :
    k0_pay8 v13 v14 v17 v20 v23 v24 v28 v32 v39 (View.ld x3 r0_7) (View.ld x7 r0_9) (ix2 q k) = x3 (ix2 q k) + Cert.Mlp.normed B k * x7 (ix2 0 k) := by
  pointwise [k0_pay8]
  simp only [h]
  rfl
/-- and normed. -/
theorem pay1 (v43 : Vec Ideal S512x1024 .f32) (v54 : Vec Ideal S1x1024 .f32) (B : Cert.Mlp.Row) (h : ∀ k, k0_pay8 v13 v14 v17 v20 v23 v24 v28 v32 v39 v43 v54 (ix2 q k) = B k) :
    k0_pay1 (k0_pay8 v13 v14 v17 v20 v23 v24 v28 v32 v39 v43 v54) (k0_pay9 v13 v14 v17 v20 v23 v24 v28 v32 v39 v43 v54) (View.ld x8 r0_9) (ix2 q k) = Cert.Mlp.normed B k * x8 (ix2 0 k) := by
  pointwise [k0_pay1, k0_pay9]
  simp only [h]
  rfl

end

theorem mix_eq : k0_pay7 (k0_pay10 x0 x1 x2 x3 x4 x5 x6 x7 x8) (View.ld x1 r0_0) (k0_pay11 x0 x1 x2 x3 x4 x5 x6 x7 x8) (k0_pay12 x0 x1 x2 x3 x4 x5 x6 x7 x8) (k0_pay13 x0 x1 x2 x3 x4 x5 x6 x7 x8) (View.ld x5 r0_4) (View.ld x2 r0_5) (View.ld x2 r0_6) (View.ld x6 r0_8) (ix2 q k) = mix (par x4 x5 x6 x7 x8) (row x0 x1 x2 x3 q) k :=
  pay7 x6 q k _ _ _ _ _ _ _ _ _ (both_eq x0 x1 x2 x3 x4 x5 x6 x7 x8 q)
theorem x1_eq : k0_pay8 (k0_pay10 x0 x1 x2 x3 x4 x5 x6 x7 x8) (View.ld x1 r0_0) (k0_pay11 x0 x1 x2 x3 x4 x5 x6 x7 x8) (k0_pay12 x0 x1 x2 x3 x4 x5 x6 x7 x8) (k0_pay13 x0 x1 x2 x3 x4 x5 x6 x7 x8) (View.ld x5 r0_4) (View.ld x2 r0_5) (View.ld x2 r0_6) (View.ld x6 r0_8) (View.ld x3 r0_7) (View.ld x7 r0_9) (ix2 q k) = Cert.Merge.x1 (par x4 x5 x6 x7 x8) (row x0 x1 x2 x3 q) k :=
  pay8 x3 x7 q k _ _ _ _ _ _ _ _ _ _ (mix_eq x0 x1 x2 x3 x4 x5 x6 x7 x8 q)

theorem out_9 : out0_9 x0 x1 x2 x3 x4 x5 x6 x7 x8 (ix2 q k) = both (par x4 x5 x6 x7 x8) (row x0 x1 x2 x3 q) k := by
  unfold out0_9
  rw [View.canon_unit_zero hz2]
  exact both_eq x0 x1 x2 x3 x4 x5 x6 x7 x8 q k
theorem out_10 : out0_10 x0 x1 x2 x3 x4 x5 x6 x7 x8 (ix2 q k) = mix (par x4 x5 x6 x7 x8) (row x0 x1 x2 x3 q) k := by
  unfold out0_10
  rw [View.canon_unit_zero hz2]
  exact mix_eq x0 x1 x2 x3 x4 x5 x6 x7 x8 q k
theorem out_11 : out0_11 x0 x1 x2 x3 x4 x5 x6 x7 x8 (ix2 q k) = Cert.Merge.x1 (par x4 x5 x6 x7 x8) (row x0 x1 x2 x3 q) k := by
  unfold out0_11
  rw [View.canon_unit_zero hz2]
  exact x1_eq x0 x1 x2 x3 x4 x5 x6 x7 x8 q k
theorem out_12 : out0_12 x0 x1 x2 x3 x4 x5 x6 x7 x8 (ix2 q k) = h2 (par x4 x5 x6 x7 x8) (row x0 x1 x2 x3 q) k := by
  unfold out0_12
  rw [View.canon_unit_zero hz2]
  exact pay1 x8 q k _ _ _ _ _ _ _ _ _ _ _ _ (x1_eq x0 x1 x2 x3 x4 x5 x6 x7 x8 q)

end

variable (m : (ℓ : Loc nD τ sig) → Buf (Elt Ideal) ℓ) (c : Dev nD)

/-- The weights and gains that the program is given -/
def P : Par where
  wp j k := m ((c : Thread nD τ).loc main_arg4) (ix2 j k)
  wa j k := m ((c : Thread nD τ).loc main_arg5) (ix2 j k)
  wo k j := m ((c : Thread nD τ).loc main_arg6) (ix2 k j)
  g2 k := m ((c : Thread nD τ).loc main_arg7) (ix2 0 k)
  g3 k := m ((c : Thread nD τ).loc main_arg8) (ix2 0 k)
/-- and its tokens. -/
def T (t : Fin 4096) : Tok where
  yp j := m ((c : Thread nD τ).loc main_arg0) (ix2 t j)
  ya j := m ((c : Thread nD τ).loc main_arg1) (ix2 t j)
  s r := sigm (m ((c : Thread nD τ).loc main_arg2) (ix2 t r))
  x k := m ((c : Thread nD τ).loc main_arg3) (ix2 t k)

/-- Where a point's blocks stand. -/
theorem idx : ∀ t : Fin cfg0.N, win0_0.index t = ![t.val, 0] ∧ win0_1.index t = ![t.val, 0] ∧ win0_2.index t = ![t.val, 0] ∧ win0_3.index t = ![t.val, 0] ∧ win0_4.index t = ![0, 0, 0]
    ∧ win0_5.index t = ![0, 0, 0] ∧ win0_6.index t = ![0, 0] ∧ win0_7.index t = ![0, 0] ∧ win0_8.index t = ![0, 0] ∧ win0_9.index t = ![t.val, 0] ∧ win0_10.index t = ![t.val, 0] ∧ win0_11.index t = ![t.val, 0] ∧ win0_12.index t = ![t.val, 0] :=
  (by decide +kernel : ∀ t : Fin grid0.N, _)

theorem pt_lt (t : Fin cfg0.N) : t.val < 8 := Nat.lt_of_lt_of_eq t.isLt N_0

/-- The token at row `q` of a point's block. -/
def tok (n : ℕ) (h : n < 8) (q : Fin 512) : Fin 4096 := ⟨n * 512 + q.val, by omega⟩

/-- What the host hands to the kernel: the gates, -/
theorem V_s (t : Fin 4096) (r : Fin 2048) : V m c main_v6 (ix2 t r) = (T m c t).s r := by
  entry_read
  pointwise
  rfl
/-- the output projection's weight, -/
theorem V_wo (k j : Fin 1024) : V m c main_v13 (ix2 k j) = (P m c).wo k j := by
  entry_read
  pointwise
  rfl
/-- and the branches' by device. -/
theorem V_wp (e : Fin 4) (j : Fin 512) (b : Fin 256) : V m c main_v9 (ix3 e j b) = (P m c).wp j ⟨e.val * 256 + b.val, by omega⟩ := by
  entry_read
  pointwise
  blk_ext [P]
theorem V_wa (e : Fin 4) (j : Fin 512) (b : Fin 256) : V m c main_v12 (ix3 e j b) = (P m c).wa j ⟨e.val * 256 + b.val, by omega⟩ := by
  entry_read
  pointwise
  blk_ext [P]

theorem iblk_0 (t : Fin cfg0.N) (q : Fin 512) (j : Fin 512) : (iblk m c 0 t : Vec Ideal S512x512 .bf16) (ix2 q j) = (T m c (tok t.val (pt_lt t) q)).yp j := by
  refine Eq.trans ?_ (congrFun (V_main_arg0 m c) (ix2 (tok t.val (pt_lt t) q) j))
  blk_ext [iblk, idx t, tok]
theorem iblk_1 (t : Fin cfg0.N) (q : Fin 512) (j : Fin 512) : (iblk m c 1 t : Vec Ideal S512x512 .bf16) (ix2 q j) = (T m c (tok t.val (pt_lt t) q)).ya j := by
  refine Eq.trans ?_ (congrFun (V_main_arg1 m c) (ix2 (tok t.val (pt_lt t) q) j))
  blk_ext [iblk, idx t, tok]
theorem iblk_3 (t : Fin cfg0.N) (q : Fin 512) (j : Fin 1024) : (iblk m c 3 t : Vec Ideal S512x1024 .f32) (ix2 q j) = (T m c (tok t.val (pt_lt t) q)).x j := by
  refine Eq.trans ?_ (congrFun (V_main_arg3 m c) (ix2 (tok t.val (pt_lt t) q) j))
  blk_ext [iblk, idx t, tok]
theorem iblk_2 (t : Fin cfg0.N) (q : Fin 512) (r : Fin 2048) : (iblk m c 2 t : Vec Ideal S512x2048 .bf16) (ix2 q r) = (T m c (tok t.val (pt_lt t) q)).s r := by
  refine Eq.trans ?_ (V_s m c (tok t.val (pt_lt t) q) r)
  blk_ext [iblk, idx t, tok]
theorem iblk_4 (t : Fin cfg0.N) : bw (iblk m c 4 t) = (P m c).wp := funext fun j => funext fun k => by
  show (iblk m c 4 t : Vec Ideal S4x512x256 .bf16) (ix3 ⟨k.val / 256, by omega⟩ j ⟨k.val % 256, by omega⟩) = _
  refine Eq.trans ?_ ((V_wp m c ⟨k.val / 256, by omega⟩ j ⟨k.val % 256, by omega⟩).trans (congrArg ((P m c).wp j) (Fin.ext (Nat.div_add_mod' k.val 256))))
  blk_ext [iblk, idx t]
theorem iblk_5 (t : Fin cfg0.N) : bw (iblk m c 5 t) = (P m c).wa := funext fun j => funext fun k => by
  show (iblk m c 5 t : Vec Ideal S4x512x256 .bf16) (ix3 ⟨k.val / 256, by omega⟩ j ⟨k.val % 256, by omega⟩) = _
  refine Eq.trans ?_ ((V_wa m c ⟨k.val / 256, by omega⟩ j ⟨k.val % 256, by omega⟩).trans (congrArg ((P m c).wa j) (Fin.ext (Nat.div_add_mod' k.val 256))))
  blk_ext [iblk, idx t]
theorem iblk_6 (t : Fin cfg0.N) (k j : Fin 1024) : (iblk m c 6 t : Vec Ideal S1024x1024 .bf16) (ix2 k j) = (P m c).wo k j := by
  refine Eq.trans ?_ (V_wo m c k j)
  blk_ext [iblk, idx t]
theorem iblk_7 (t : Fin cfg0.N) (k : Fin 1024) : (iblk m c 7 t : Vec Ideal S1x1024 .f32) (ix2 0 k) = (P m c).g2 k := by
  refine Eq.trans ?_ (congrFun (V_main_arg7 m c) (ix2 0 k))
  blk_ext [iblk, idx t]
theorem iblk_8 (t : Fin cfg0.N) (k : Fin 1024) : (iblk m c 8 t : Vec Ideal S1x1024 .f32) (ix2 0 k) = (P m c).g3 k := by
  refine Eq.trans ?_ (congrFun (V_main_arg8 m c) (ix2 0 k))
  blk_ext [iblk, idx t]

/-- Every block has the program's weights, -/
theorem par_eq (t : Fin cfg0.N) : par (iblk m c 4 t) (iblk m c 5 t) (iblk m c 6 t) (iblk m c 7 t) (iblk m c 8 t) = P m c := by
  unfold par
  rw [iblk_4, iblk_5]
  simp only [iblk_6, iblk_7, iblk_8]
/-- and its own tokens. -/
theorem row_eq (t : Fin cfg0.N) (q : Fin 512) : row (iblk m c 0 t) (iblk m c 1 t) (iblk m c 2 t) (iblk m c 3 t) q = T m c (tok t.val (pt_lt t) q) := by
  unfold row
  simp only [iblk_0, iblk_1, iblk_2, iblk_3]

theorem arr_9 : (dats m 0 c).arrAt 9 (cfgs 0).N = fun y => both (P m c) (T m c (y 0)) (y 1) := by
  refine (dats m 0 c).arrAt_eq_of_covers 9 _ (by decide +kernel) fun t hf y => ?_
  blk_simp
  rw [after0_9]
  idx_vars y
  refine (out_9 _ _ _ _ _ _ _ _ _ y0 y1).trans ?_
  rw [par_eq, row_eq]
  refine congrArg₂ (fun t => both (P m c) (T m c t)) (Fin.ext ?_) (Fin.ext ?_)
  · blk_simp [idx t]; simp [tok]
  · blk_simp [idx t]

theorem arr_10 : (dats m 0 c).arrAt 10 (cfgs 0).N = fun y => mix (P m c) (T m c (y 0)) (y 1) := by
  refine (dats m 0 c).arrAt_eq_of_covers 10 _ (by decide +kernel) fun t hf y => ?_
  blk_simp
  rw [after0_10]
  idx_vars y
  refine (out_10 _ _ _ _ _ _ _ _ _ y0 y1).trans ?_
  rw [par_eq, row_eq]
  refine congrArg₂ (fun t => mix (P m c) (T m c t)) (Fin.ext ?_) (Fin.ext ?_)
  · blk_simp [idx t]; simp [tok]
  · blk_simp [idx t]

theorem arr_11 : (dats m 0 c).arrAt 11 (cfgs 0).N = fun y => Cert.Merge.x1 (P m c) (T m c (y 0)) (y 1) := by
  refine (dats m 0 c).arrAt_eq_of_covers 11 _ (by decide +kernel) fun t hf y => ?_
  blk_simp
  rw [after0_11]
  idx_vars y
  refine (out_11 _ _ _ _ _ _ _ _ _ y0 y1).trans ?_
  rw [par_eq, row_eq]
  refine congrArg₂ (fun t => Cert.Merge.x1 (P m c) (T m c t)) (Fin.ext ?_) (Fin.ext ?_)
  · blk_simp [idx t]; simp [tok]
  · blk_simp [idx t]

theorem arr_12 : (dats m 0 c).arrAt 12 (cfgs 0).N = fun y => h2 (P m c) (T m c (y 0)) (y 1) := by
  refine (dats m 0 c).arrAt_eq_of_covers 12 _ (by decide +kernel) fun t hf y => ?_
  blk_simp
  rw [after0_12]
  idx_vars y
  refine (out_12 _ _ _ _ _ _ _ _ _ y0 y1).trans ?_
  rw [par_eq, row_eq]
  refine congrArg₂ (fun t => h2 (P m c) (T m c t)) (Fin.ext ?_) (Fin.ext ?_)
  · blk_simp [idx t]; simp [tok]
  · blk_simp [idx t]

end Cert.Kernel8Ideal.Merge

namespace Cert.Proof.Merge

open Idealize.ShloMosaic Idealize.ShloMosaic.TcCoe Idealize.ShloMosaic.Tactic Idealize.SL.Sem Cert.Gates Cert.Merge

section
open Cert.Reference8Ideal.Read

/-- The reference's arrays, -/
structure Arr where
  x0 : (⟨Cert.Reference8Ideal.S4096x512, .bf16⟩ : BufTy).Contents (Elt Ideal)
  x1 : (⟨Cert.Reference8Ideal.S4096x512, .bf16⟩ : BufTy).Contents (Elt Ideal)
  x2 : (⟨Cert.Reference8Ideal.S4096x2048, .f32⟩ : BufTy).Contents (Elt Ideal)
  x3 : (⟨Cert.Reference8Ideal.S4096x1024, .f32⟩ : BufTy).Contents (Elt Ideal)
  x4 : (⟨Cert.Reference8Ideal.S512x1024, .f32⟩ : BufTy).Contents (Elt Ideal)
  x5 : (⟨Cert.Reference8Ideal.S512x1024, .f32⟩ : BufTy).Contents (Elt Ideal)
  x6 : (⟨Cert.Reference8Ideal.S1024x1024, .f32⟩ : BufTy).Contents (Elt Ideal)
  x7 : (⟨Cert.Reference8Ideal.S1x1024, .f32⟩ : BufTy).Contents (Elt Ideal)
  x8 : (⟨Cert.Reference8Ideal.S1x1024, .f32⟩ : BufTy).Contents (Elt Ideal)

variable (A : Arr) (t : Fin 4096) (k : Fin 1024)

/-- its weights and gains -/
def Arr.par : Par := ⟨fun i j => A.x4 (ix2 i j), fun i j => A.x5 (ix2 i j), fun i j => A.x6 (ix2 i j), fun k => A.x7 (ix2 0 k), fun k => A.x8 (ix2 0 k)⟩
/-- and its tokens. -/
def Arr.tok : Tok := ⟨fun j => A.x0 (ix2 t j), fun j => A.x1 (ix2 t j), fun r => sigm (A.x2 (ix2 t r)), fun k => A.x3 (ix2 t k)⟩

/-- Its gates, -/
theorem reference_gate (r : Fin 2048) : val_main_v5 (F := Ideal) A.x2 (ix2 t r) = sigm (A.x2 (ix2 t r)) := by
  pointwise [val_main_v0, val_main_v1, val_main_cst, val_main_v2, val_main_v3, val_main_cst_0, val_main_v4, val_main_v5]
  rfl

/-- the merged branches, -/
theorem reference_both : val_main_v14 (F := Ideal) A.x0 A.x1 A.x2 A.x4 A.x5 (ix2 t k) = both A.par (A.tok t) k := by
  pointwise [val_main_v6, val_main_v7, val_main_v8, val_main_v9, val_main_v10, val_main_v11, val_main_v12, val_main_v13, val_main_v14]
  simp only [reference_gate]
  refine congrArg₂ (· + ·) (congrArg (fun r => sigm (A.x2 (ix2 t r)) * ∑ j, A.x0 (ix2 t j) * A.x4 (ix2 j k)) (Fin.ext ?_)) (congrArg (fun r => sigm (A.x2 (ix2 t r)) * ∑ j, A.x1 (ix2 t j) * A.x5 (ix2 j k)) (Fin.ext ?_)) <;> simp [col]

/-- projected out, -/
theorem reference_mix : val_main_v15 (F := Ideal) A.x0 A.x1 A.x2 A.x4 A.x5 A.x6 (ix2 t k) = mix A.par (A.tok t) k := by
  pointwise [val_main_v15]
  simp only [reference_both]
  rfl

/-- with the residual -/
theorem reference_x1 : val_main_v28 (F := Ideal) A.x0 A.x1 A.x2 A.x3 A.x4 A.x5 A.x6 A.x7 (ix2 t k) = Cert.Merge.x1 A.par (A.tok t) k := by
  pointwise [val_main_v16, val_main_cst_1, val_main_v17, val_main_v18, val_main_cst_2, val_main_v19, val_main_v20, val_main_cst_3, val_main_v21, val_main_v22, val_main_v23, val_main_v24, val_main_v25, val_main_v26, val_main_v27, val_main_v28]
  simp only [reference_mix]
  rfl

/-- and normed. -/
theorem reference_h2 : val_main_v42 (F := Ideal) A.x0 A.x1 A.x2 A.x3 A.x4 A.x5 A.x6 A.x7 A.x8 (ix2 t k) = h2 A.par (A.tok t) k := by
  pointwise [val_main_v30, val_main_cst_4, val_main_v31, val_main_v32, val_main_cst_5, val_main_v33, val_main_v34, val_main_cst_6, val_main_v35, val_main_v36, val_main_v37, val_main_v38, val_main_v39, val_main_v40, val_main_v41, val_main_v42]
  simp only [reference_x1]
  rfl

theorem reference_0 : val_main_v29 (F := Ideal) A.x0 A.x1 A.x2 A.x4 A.x5 = fun y => both A.par (A.tok (y 0)) (y 1) := by
  funext y
  idx_vars y
  pointwise [val_main_v29]
  exact reference_both A y0 y1
theorem reference_1 : val_main_v15 (F := Ideal) A.x0 A.x1 A.x2 A.x4 A.x5 A.x6 = fun y => mix A.par (A.tok (y 0)) (y 1) := by
  funext y
  idx_vars y
  exact reference_mix A y0 y1
theorem reference_2 : val_main_v28 (F := Ideal) A.x0 A.x1 A.x2 A.x3 A.x4 A.x5 A.x6 A.x7 = fun y => Cert.Merge.x1 A.par (A.tok (y 0)) (y 1) := by
  funext y
  idx_vars y
  exact reference_x1 A y0 y1
theorem reference_3 : val_main_v42 (F := Ideal) A.x0 A.x1 A.x2 A.x3 A.x4 A.x5 A.x6 A.x7 A.x8 = fun y => h2 A.par (A.tok (y 0)) (y 1) := by
  funext y
  idx_vars y
  exact reference_h2 A y0 y1

/-- The reference's arrays in a memory. -/
def arrs (m : (ℓ : Loc Cert.Kernel8Ideal.nD Cert.Kernel8Ideal.τ Cert.Kernel8Ideal.sig) → Buf (Elt Ideal) ℓ) (c : Dev Cert.Kernel8Ideal.nD) : Arr :=
  ⟨m ((c : Thread Cert.Kernel8Ideal.nD Cert.Kernel8Ideal.τ).loc Cert.Kernel8Ideal.main_arg0), m ((c : Thread Cert.Kernel8Ideal.nD Cert.Kernel8Ideal.τ).loc Cert.Kernel8Ideal.main_arg1), m ((c : Thread Cert.Kernel8Ideal.nD Cert.Kernel8Ideal.τ).loc Cert.Kernel8Ideal.main_arg2), m ((c : Thread Cert.Kernel8Ideal.nD Cert.Kernel8Ideal.τ).loc Cert.Kernel8Ideal.main_arg3), m ((c : Thread Cert.Kernel8Ideal.nD Cert.Kernel8Ideal.τ).loc Cert.Kernel8Ideal.main_arg4), m ((c : Thread Cert.Kernel8Ideal.nD Cert.Kernel8Ideal.τ).loc Cert.Kernel8Ideal.main_arg5), m ((c : Thread Cert.Kernel8Ideal.nD Cert.Kernel8Ideal.τ).loc Cert.Kernel8Ideal.main_arg6), m ((c : Thread Cert.Kernel8Ideal.nD Cert.Kernel8Ideal.τ).loc Cert.Kernel8Ideal.main_arg7), m ((c : Thread Cert.Kernel8Ideal.nD Cert.Kernel8Ideal.τ).loc Cert.Kernel8Ideal.main_arg8)⟩

end

/-- The compiled kernel's frame, -/
theorem kernel_frame : Cert.quiescent_Kernel8 (hKernel8 := Cert.Kernel8.Gen.facts) := fun m ρ _ => by
  have same : ∀ Q, θ_run (Cert.Kernel8.defs (F := Bits)) (onTc (τ := Cert.Kernel8.τ) (Cert.Kernel8.main (F := Bits))) ⟨m, fun _ => 0, ρ⟩ Q
      = θ_run (Cert.Kernel8Ideal.defs (F := Bits)) (onTc (τ := Cert.Kernel8Ideal.τ) (Cert.Kernel8Ideal.main (F := Bits))) ⟨m, fun _ => 0, ρ⟩ Q := fun Q => by sl_kernel_rfl
  exact (same _).mpr (Cert.Kernel8Ideal.Gen.frame (F := Bits) m ρ)

/-- that of the kernel over the reals -/
theorem ideal_frame : Cert.quiescent_Kernel8Ideal (hKernel8Ideal := Cert.Kernel8Ideal.Gen.facts) := fun m ρ _ => Cert.Kernel8Ideal.Gen.frame m ρ

/-- and the reference's. -/
theorem reference_frame : Cert.quiescent_Reference8Ideal (hReference8Ideal := Cert.Reference8Ideal.Gen.facts) := fun m ρ _ =>
  (θ_run Cert.Reference8Ideal.defs _ _).mono (fun r h => ⟨fun c => (h c).2.2.2.2, sem_eq_zero_of_no_sems (by decide) r.2⟩)
    (Cert.Reference8Ideal.Value.run (F := Ideal) m ρ)

/-- Kernel and reference end with the same arrays. -/
theorem value : Cert.algebraic_Kernel8Ideal_Reference8Ideal (hKernel8Ideal := Cert.Kernel8Ideal.Gen.facts) (hReference8Ideal := Cert.Reference8Ideal.Gen.facts) := by
  intro m g m' g' _ hagree
  refine ⟨fun c y => both (Cert.Kernel8Ideal.Merge.P m c) (Cert.Kernel8Ideal.Merge.T m c (y 0)) (y 1), fun c y => mix (Cert.Kernel8Ideal.Merge.P m c) (Cert.Kernel8Ideal.Merge.T m c (y 0)) (y 1), fun c y => Cert.Merge.x1 (Cert.Kernel8Ideal.Merge.P m c) (Cert.Kernel8Ideal.Merge.T m c (y 0)) (y 1), fun c y => h2 (Cert.Kernel8Ideal.Merge.P m c) (Cert.Kernel8Ideal.Merge.T m c (y 0)) (y 1),
    (θ_run Cert.Kernel8Ideal.defs _ _).mono (fun r h c => ⟨(h c).1.trans (Cert.Kernel8Ideal.Merge.arr_9 m c), (h c).2.1.trans (Cert.Kernel8Ideal.Merge.arr_10 m c), (h c).2.2.1.trans (Cert.Kernel8Ideal.Merge.arr_11 m c), (h c).2.2.2.1.trans (Cert.Kernel8Ideal.Merge.arr_12 m c), (h c).2.2.2.2⟩)
      (Cert.Kernel8Ideal.Value.run_blocks (F := Ideal) m g), ?_⟩
  refine (θ_run Cert.Reference8Ideal.defs _ _).mono (fun r h c => ⟨(h c).1.trans ?_, (h c).2.1.trans ?_, (h c).2.2.1.trans ?_, (h c).2.2.2.1.trans ?_, (h c).2.2.2.2⟩) (Cert.Reference8Ideal.Value.run (F := Ideal) m' g')
  · rw [(hagree c).1, (hagree c).2.1, (hagree c).2.2.1, (hagree c).2.2.2.2.1, (hagree c).2.2.2.2.2.1]
    exact reference_0 (arrs m c)
  · rw [(hagree c).1, (hagree c).2.1, (hagree c).2.2.1, (hagree c).2.2.2.2.1, (hagree c).2.2.2.2.2.1, (hagree c).2.2.2.2.2.2.1]
    exact reference_1 (arrs m c)
  · refine (Cert.Reference8Ideal.Read.val_main_v28_eq m' c).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1]
    exact reference_2 (arrs m c)
  · refine (Cert.Reference8Ideal.Read.val_main_v42_eq m' c).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact reference_3 (arrs m c)

end Cert.Proof.Merge

end
-- ==== Proof.Mixer.Step.lean ====
/- The optimiser's step on one device's columns of the input projection: entry by entry, in the kernel and in the reference. -/
module

public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel9
public import proofs.«01_k».proof.Proof.Gen.Kernel9Ideal
public import proofs.«01_k».proof.Proof.Gen.Reference9Ideal
public import proofs.«01_k».proof.Proof.Weights.Parts
public import proofs.«01_k».proof.Proof.Mlp.Algebra
public import proofs.«01_k».proof.Defs
public import Idealize.ShloMosaic.Lib.Claim
public import Idealize.ShloMosaic.Lib.Quiescent
public import Idealize.ShloMosaic.Lib.Pipeline.ReadBack

@[expose] public section

set_option maxRecDepth 16384

noncomputable section

namespace Cert.Step

open Idealize.ShloMosaic

/-- The constants of the step, as both programs' literals denote them. -/
abbrev b1 : EReal := Ideal.ofBits .f32 0x3F666666#32
abbrev b1' : EReal := Ideal.ofBits .f32 0x3DCCCCCD#32
abbrev b2 : EReal := Ideal.ofBits .f32 0x3F7FBE77#32
abbrev b2' : EReal := Ideal.ofBits .f32 0x3A83126F#32
abbrev fix1 : EReal := Ideal.ofBits .f32 0x3F26BD02#32
abbrev fix2 : EReal := Ideal.ofBits .f32 0x3C231ACC#32
abbrev small : EReal := Ideal.ofBits .f32 0x322BCC77#32
abbrev decay : EReal := Ideal.ofBits .f32 0x3C23D70A#32
abbrev rate : EReal := Ideal.ofBits .f32 0xBA83126F#32

/-- The first moment after a gradient `g`, -/
def mom (g m : EReal) : EReal := b1 * m + b1' * g
/-- the second -/
def var (g v : EReal) : EReal := b2 * v + b2' * (g * g)
/-- and the step of the weight `w`. -/
def step (w g m v : EReal) : EReal := rate * (Ideal.div (Ideal.div (mom g m) fix1) (Ideal.sqrt (Ideal.div (var g v) fix2) + small) + decay * w)

end Cert.Step

namespace Cert.Kernel9Ideal.Step

open Idealize.ShloMosaic Idealize.ShloMosaic.TcCoe Cert.Kernel9Ideal Cert.Kernel9Ideal.Gen Cert.Kernel9Ideal.Value Cert.Step

/-- Both offsets are zero. -/
theorem hz2 : (![0, 0] : Fin 2 → ℕ) = fun _ => 0 := by decide

section
variable (x0 x1 x2 x3 : Vec Ideal S416x1024 .f32) (q : Fin 416) (k : Fin 1024)

theorem out_5 : out0_5 x0 x1 x2 x3 (ix2 q k) = mom (x1 (ix2 q k)) (x2 (ix2 q k)) := by
  unfold out0_5
  rw [View.canon_unit_zero hz2]
  pointwise [k0_pay2, k0_pay1]
  rfl
theorem out_6 : out0_6 x0 x1 x2 x3 (ix2 q k) = var (x1 (ix2 q k)) (x3 (ix2 q k)) := by
  unfold out0_6
  rw [View.canon_unit_zero hz2]
  pointwise [k0_pay3, k0_pay1]
  rfl
theorem out_4 : out0_4 x0 x1 x2 x3 (ix2 q k) = step (x0 (ix2 q k)) (x1 (ix2 q k)) (x2 (ix2 q k)) (x3 (ix2 q k)) := by
  unfold out0_4
  rw [View.canon_unit_zero hz2]
  pointwise [k0_pay4, k0_pay1, k0_pay2, k0_pay3]
  rfl

end

variable (m : (ℓ : Loc nD τ sig) → Buf (Elt Ideal) ℓ) (c : Dev nD)

/-- The weight, its gradient and the two moments, column by column. -/
def w (r : Fin 832) (k : Fin 1024) : EReal := m ((c : Thread nD τ).loc main_arg0) (ix2 k r)
def g (r : Fin 832) (k : Fin 1024) : EReal := m ((c : Thread nD τ).loc main_arg1) (ix2 k r)
def m1 (r : Fin 832) (k : Fin 1024) : EReal := m ((c : Thread nD τ).loc main_arg2) (ix2 k r)
def m2 (r : Fin 832) (k : Fin 1024) : EReal := m ((c : Thread nD τ).loc main_arg3) (ix2 k r)

/-- Where a point's blocks stand. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

theorem pt_lt (t : Fin cfg0.N) : t.val < 2 := Nat.lt_of_lt_of_eq t.isLt N_0

/-- The column at row `q` of a point's block. -/
def at_ (n : ℕ) (h : n < 2) (q : Fin 416) : Fin 832 := ⟨n * 416 + q.val, by omega⟩

theorem iblk_0 (t : Fin cfg0.N) (q : Fin 416) (k : Fin 1024) : (iblk m c 0 t : Vec Ideal S416x1024 .f32) (ix2 q k) = w m c (at_ t.val (pt_lt t) q) k := by
  have e : V m c main_v0 (ix2 (at_ t.val (pt_lt t) q) k) = w m c (at_ t.val (pt_lt t) q) k := by
    entry_read
    pointwise
    rfl
  refine Eq.trans ?_ e
  blk_ext [iblk, idx t, at_]
theorem iblk_1 (t : Fin cfg0.N) (q : Fin 416) (k : Fin 1024) : (iblk m c 1 t : Vec Ideal S416x1024 .f32) (ix2 q k) = g m c (at_ t.val (pt_lt t) q) k := by
  have e : V m c main_v1 (ix2 (at_ t.val (pt_lt t) q) k) = g m c (at_ t.val (pt_lt t) q) k := by
    entry_read
    pointwise
    rfl
  refine Eq.trans ?_ e
  blk_ext [iblk, idx t, at_]
theorem iblk_2 (t : Fin cfg0.N) (q : Fin 416) (k : Fin 1024) : (iblk m c 2 t : Vec Ideal S416x1024 .f32) (ix2 q k) = m1 m c (at_ t.val (pt_lt t) q) k := by
  have e : V m c main_v2 (ix2 (at_ t.val (pt_lt t) q) k) = m1 m c (at_ t.val (pt_lt t) q) k := by
    entry_read
    pointwise
    rfl
  refine Eq.trans ?_ e
  blk_ext [iblk, idx t, at_]
theorem iblk_3 (t : Fin cfg0.N) (q : Fin 416) (k : Fin 1024) : (iblk m c 3 t : Vec Ideal S416x1024 .f32) (ix2 q k) = m2 m c (at_ t.val (pt_lt t) q) k := by
  have e : V m c main_v3 (ix2 (at_ t.val (pt_lt t) q) k) = m2 m c (at_ t.val (pt_lt t) q) k := by
    entry_read
    pointwise
    rfl
  refine Eq.trans ?_ e
  blk_ext [iblk, idx t, at_]

theorem arr_4 : (dats m 0 c).arrAt 4 (cfgs 0).N = fun y => step (w m c (y 0) (y 1)) (g m c (y 0) (y 1)) (m1 m c (y 0) (y 1)) (m2 m c (y 0) (y 1)) := by
  refine (dats m 0 c).arrAt_eq_of_covers 4 _ (by decide +kernel) fun t hf y => ?_
  blk_simp
  rw [after0_4]
  idx_vars y
  refine (out_4 _ _ _ _ y0 y1).trans ?_
  rw [iblk_0, iblk_1, iblk_2, iblk_3]
  refine congrArg₂ (fun r k => step (w m c r k) (g m c r k) (m1 m c r k) (m2 m c r k)) (Fin.ext ?_) (Fin.ext ?_)
  · blk_simp [idx t]; simp [at_]
  · blk_simp [idx t]

theorem arr_5 : (dats m 0 c).arrAt 5 (cfgs 0).N = fun y => mom (g m c (y 0) (y 1)) (m1 m c (y 0) (y 1)) := by
  refine (dats m 0 c).arrAt_eq_of_covers 5 _ (by decide +kernel) fun t hf y => ?_
  blk_simp
  rw [after0_5]
  idx_vars y
  refine (out_5 _ _ _ _ y0 y1).trans ?_
  rw [iblk_1, iblk_2]
  refine congrArg₂ (fun r k => mom (g m c r k) (m1 m c r k)) (Fin.ext ?_) (Fin.ext ?_)
  · blk_simp [idx t]; simp [at_]
  · blk_simp [idx t]

theorem arr_6 : (dats m 0 c).arrAt 6 (cfgs 0).N = fun y => var (g m c (y 0) (y 1)) (m2 m c (y 0) (y 1)) := by
  refine (dats m 0 c).arrAt_eq_of_covers 6 _ (by decide +kernel) fun t hf y => ?_
  blk_simp
  rw [after0_6]
  idx_vars y
  refine (out_6 _ _ _ _ y0 y1).trans ?_
  rw [iblk_1, iblk_3]
  refine congrArg₂ (fun r k => var (g m c r k) (m2 m c r k)) (Fin.ext ?_) (Fin.ext ?_)
  · blk_simp [idx t]; simp [at_]
  · blk_simp [idx t]

end Cert.Kernel9Ideal.Step

namespace Cert.Proof.Step

open Idealize.ShloMosaic Idealize.ShloMosaic.TcCoe Idealize.ShloMosaic.Tactic Idealize.SL.Sem Cert.Step

section
open Cert.Reference9Ideal.Read

variable (x0 x1 x2 x3 : (⟨Cert.Reference9Ideal.S1024x832, .f32⟩ : BufTy).Contents (Elt Ideal))

/-- The reference's first moment, -/
theorem mom_eq (k : Fin 1024) (r : Fin 832) : val_main_v4 (F := Ideal) x1 x2 (ix2 k r) = mom (x1 (ix2 k r)) (x2 (ix2 k r)) := by
  pointwise [val_main_v0, val_main_v1, val_main_v2, val_main_v3, val_main_v4, val_main_v5, val_main_v6, val_main_v7, val_main_v8, val_main_v9, val_main_v10, val_main_cst, val_main_cst_0, val_main_cst_1, val_main_cst_2, val_main_cst_3, val_main_cst_4, val_main_cst_5, val_main_cst_6, val_main_cst_7]
  rfl
/-- its second -/
theorem var_eq (k : Fin 1024) (r : Fin 832) : val_main_v10 (F := Ideal) x1 x3 (ix2 k r) = var (x1 (ix2 k r)) (x3 (ix2 k r)) := by
  pointwise [val_main_v0, val_main_v1, val_main_v2, val_main_v3, val_main_v4, val_main_v5, val_main_v6, val_main_v7, val_main_v8, val_main_v9, val_main_v10, val_main_cst, val_main_cst_0, val_main_cst_1, val_main_cst_2, val_main_cst_3, val_main_cst_4, val_main_cst_5, val_main_cst_6, val_main_cst_7]
  rfl
/-- and its step, all three transposed. -/
theorem reference_0 : val_main_v24 (F := Ideal) x0 x1 x2 x3 = fun y => step (x0 (ix2 (y 1) (y 0))) (x1 (ix2 (y 1) (y 0))) (x2 (ix2 (y 1) (y 0))) (x3 (ix2 (y 1) (y 0))) := by
  funext y
  idx_vars y
  pointwise [val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3, val_main_cst_4, val_main_cst_5, val_main_cst_6, val_main_cst_7]
  rw [mom_eq, var_eq]
  rfl
theorem reference_1 : val_main_v25 (F := Ideal) x1 x2 = fun y => mom (x1 (ix2 (y 1) (y 0))) (x2 (ix2 (y 1) (y 0))) := by
  funext y
  idx_vars y
  pointwise [val_main_v25]
  exact mom_eq x1 x2 y1 y0
theorem reference_2 : val_main_v26 (F := Ideal) x1 x3 = fun y => var (x1 (ix2 (y 1) (y 0))) (x3 (ix2 (y 1) (y 0))) := by
  funext y
  idx_vars y
  pointwise [val_main_v26]
  exact var_eq x1 x3 y1 y0

end

/-- The compiled kernel's frame, -/
theorem kernel_frame : Cert.quiescent_Kernel9 (hKernel9 := Cert.Kernel9.Gen.facts) := fun m ρ _ => by
  have same : ∀ Q, θ_run (Cert.Kernel9.defs (F := Bits)) (onTc (τ := Cert.Kernel9.τ) (Cert.Kernel9.main (F := Bits))) ⟨m, fun _ => 0, ρ⟩ Q
      = θ_run (Cert.Kernel9Ideal.defs (F := Bits)) (onTc (τ := Cert.Kernel9Ideal.τ) (Cert.Kernel9Ideal.main (F := Bits))) ⟨m, fun _ => 0, ρ⟩ Q := fun Q => by sl_kernel_rfl
  exact (same _).mpr (Cert.Kernel9Ideal.Gen.frame (F := Bits) m ρ)

/-- that of the kernel over the reals -/
theorem ideal_frame : Cert.quiescent_Kernel9Ideal (hKernel9Ideal := Cert.Kernel9Ideal.Gen.facts) := fun m ρ _ => Cert.Kernel9Ideal.Gen.frame m ρ

/-- and the reference's. -/
theorem reference_frame : Cert.quiescent_Reference9Ideal (hReference9Ideal := Cert.Reference9Ideal.Gen.facts) := fun m ρ _ =>
  (θ_run Cert.Reference9Ideal.defs _ _).mono (fun r h => ⟨fun c => (h c).2.2.2, sem_eq_zero_of_no_sems (by decide) r.2⟩)
    (Cert.Reference9Ideal.Value.run (F := Ideal) m ρ)

/-- Kernel and reference end with the same arrays. -/
theorem value : Cert.algebraic_Kernel9Ideal_Reference9Ideal (hKernel9Ideal := Cert.Kernel9Ideal.Gen.facts) (hReference9Ideal := Cert.Reference9Ideal.Gen.facts) := by
  intro m g m' g' _ hagree
  refine ⟨fun c y => step (Cert.Kernel9Ideal.Step.w m c (y 0) (y 1)) (Cert.Kernel9Ideal.Step.g m c (y 0) (y 1)) (Cert.Kernel9Ideal.Step.m1 m c (y 0) (y 1)) (Cert.Kernel9Ideal.Step.m2 m c (y 0) (y 1)), fun c y => mom (Cert.Kernel9Ideal.Step.g m c (y 0) (y 1)) (Cert.Kernel9Ideal.Step.m1 m c (y 0) (y 1)), fun c y => var (Cert.Kernel9Ideal.Step.g m c (y 0) (y 1)) (Cert.Kernel9Ideal.Step.m2 m c (y 0) (y 1)),
    (θ_run Cert.Kernel9Ideal.defs _ _).mono (fun r h c => ⟨(h c).1.trans (Cert.Kernel9Ideal.Step.arr_4 m c), (h c).2.1.trans (Cert.Kernel9Ideal.Step.arr_5 m c), (h c).2.2.1.trans (Cert.Kernel9Ideal.Step.arr_6 m c), (h c).2.2.2⟩)
      (Cert.Kernel9Ideal.Value.run_blocks (F := Ideal) m g), ?_⟩
  refine (θ_run Cert.Reference9Ideal.defs _ _).mono (fun r h c => ⟨(h c).1.trans ?_, (h c).2.1.trans ?_, (h c).2.2.1.trans ?_, (h c).2.2.2⟩) (Cert.Reference9Ideal.Value.run (F := Ideal) m' g')
  · rw [(hagree c).1, (hagree c).2.1, (hagree c).2.2.1, (hagree c).2.2.2]
    exact reference_0 _ _ _ _
  · rw [(hagree c).2.1, (hagree c).2.2.1]
    exact reference_1 _ _
  · rw [(hagree c).2.1, (hagree c).2.2.2]
    exact reference_2 _ _

end Cert.Proof.Step

end
-- ==== Proof.lean ====
/- The claims of this certificate: for each call, the runs of its three programs, the kernel kept by its idealization, and the kernel's results those of the reference. -/
module

public import proofs.«01_k».proof.Defs
public import proofs.«01_k».proof.Proof.Mlp.Same
public import proofs.«01_k».proof.Proof.Mlp.Value
public import proofs.«01_k».proof.Proof.Mlp.RefRun
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Mixer.Gates
public import proofs.«01_k».proof.Proof.Mixer.Inproj
public import proofs.«01_k».proof.Proof.Weights.Down
public import proofs.«01_k».proof.Proof.Weights.Up
public import proofs.«01_k».proof.Proof.Weights.Mix
public import proofs.«01_k».proof.Proof.Weights.In
public import proofs.«01_k».proof.Proof.Mixer.Merge
public import proofs.«01_k».proof.Proof.Mixer.Step
public import Idealize.ShloMosaic.Lib.Quiescent

@[expose] public section

noncomputable section

namespace Cert.Proof

open Idealize.ShloMosaic Idealize.SL.Sem

/-- The compiled kernel ends with its arguments kept and every counter at zero. -/
theorem kernel_frame : Cert.quiescent_Kernel (hKernel := Cert.Kernel.Gen.facts) := fun m ρ _ =>
  (Cert.KernelIdeal.Mlp.same_run m ρ _).mpr (Cert.KernelIdeal.Mlp.frame_run (F := Bits) m ρ)

/-- The kernel over the reals does. -/
theorem ideal_frame : Cert.quiescent_KernelIdeal (hKernelIdeal := Cert.KernelIdeal.Gen.facts) := fun m ρ _ =>
  Cert.KernelIdeal.Mlp.frame_run m ρ

/-- The reference has no counter at all. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2.2.2.2.2.2.2.2, sem_eq_zero_of_no_sems (by decide) r.2⟩)
    (Cert.ReferenceIdeal.Value.run (F := Ideal) m ρ)

/-- Arguments that agree are the same weights and tokens. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : (Cert.ReferenceIdeal.Mlp.args m' c).x = (Cert.KernelIdeal.Mlp.args m c).x)
    (h1 : (Cert.ReferenceIdeal.Mlp.args m' c).mix = (Cert.KernelIdeal.Mlp.args m c).mix)
    (h2 : (Cert.ReferenceIdeal.Mlp.args m' c).tgt = (Cert.KernelIdeal.Mlp.args m c).tgt)
    (h3 : (Cert.ReferenceIdeal.Mlp.args m' c).up = (Cert.KernelIdeal.Mlp.args m c).up)
    (h4 : (Cert.ReferenceIdeal.Mlp.args m' c).dn = (Cert.KernelIdeal.Mlp.args m c).dn)
    (h5 : (Cert.ReferenceIdeal.Mlp.args m' c).g2 = (Cert.KernelIdeal.Mlp.args m c).g2)
    (h6 : (Cert.ReferenceIdeal.Mlp.args m' c).g3 = (Cert.KernelIdeal.Mlp.args m c).g3)
    (h7 : (Cert.ReferenceIdeal.Mlp.args m' c).g4 = (Cert.KernelIdeal.Mlp.args m c).g4) :
    Cert.ReferenceIdeal.Mlp.args m' c = Cert.KernelIdeal.Mlp.args m c := by
  generalize Cert.ReferenceIdeal.Mlp.args m' c = A at *
  generalize Cert.KernelIdeal.Mlp.args m c = B at *
  cases A; cases B; cases h0; cases h1; cases h2; cases h3; cases h4; cases h5; cases h6; cases h7; rfl

/-- Both end with the specification's results of the same arguments. -/
theorem value : Cert.algebraic_KernelIdeal_ReferenceIdeal (hKernelIdeal := Cert.KernelIdeal.Gen.facts) (hReferenceIdeal := Cert.ReferenceIdeal.Gen.facts) := by
  intro m g m' g' _ hagree
  have e : ∀ c, Cert.ReferenceIdeal.Mlp.args m' c = Cert.KernelIdeal.Mlp.args m c := fun c =>
    args_eq m m' c (hagree c).1 (hagree c).2.1 (hagree c).2.2.1 (hagree c).2.2.2.1 (hagree c).2.2.2.2.1 (hagree c).2.2.2.2.2.1
      (hagree c).2.2.2.2.2.2.1 (hagree c).2.2.2.2.2.2.2
  refine ⟨_, _, _, _, _, _, _, _, _, Cert.KernelIdeal.Mlp.values m g, ?_⟩
  refine (θ_run Cert.ReferenceIdeal.defs _ _).mono (fun r h c => ?_) (Cert.ReferenceIdeal.Mlp.values m' g')
  have H := h c
  rw [e c] at H
  exact H

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    kernel_frame, ideal_frame, reference_frame,
    Gates.kernel_frame, Gates.ideal_frame, Gates.reference_frame,
    Inproj.kernel_frame, Inproj.ideal_frame, Inproj.reference_frame,
    Down.kernel_frame, Down.ideal_frame, Down.reference_frame,
    Up.kernel_frame, Up.ideal_frame, Up.reference_frame,
    Mix.kernel_frame, Mix.ideal_frame, Mix.reference_frame,
    In.kernel_frame, In.ideal_frame, In.reference_frame,
    Merge.kernel_frame, Merge.ideal_frame, Merge.reference_frame,
    Step.kernel_frame, Step.ideal_frame, Step.reference_frame,
    trivial, value,
    trivial, Gates.value,
    trivial, Inproj.value,
    trivial, Down.value,
    trivial, Up.value,
    trivial, Mix.value,
    trivial, In.value,
    trivial, Merge.value,
    trivial, Step.value⟩

end Cert.Proof

end
